-- ==== Defs.lean ====
def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_finite_cols [hPre_finite_cols : Cert.Pre_finite_cols.Facts] (m : (ℓ : Loc Cert.BiasIdeal.nD Cert.BiasIdeal.τ Cert.BiasIdeal.sig) → Buf (Elt Ideal) ℓ) : Prop :=
  ∀ c : Dev Cert.BiasIdeal.nD,
    (Cert.Pre_finite_cols.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1)) (m ((c.tc : Thread Cert.BiasIdeal.nD Cert.BiasIdeal.τ).loc Cert.BiasIdeal.main_arg2))) = (fun _ => 1#1)

def Pre_BiasRefIdeal (m : (ℓ : Loc Cert.BiasRefIdeal.nD Cert.BiasRefIdeal.τ Cert.BiasRefIdeal.sig) → Buf (Elt Ideal) ℓ) : Prop :=
  True

def Pre_BiasRefIdeal_finite_cols [hPre_finite_cols : Cert.Pre_finite_cols.Facts] (m : (ℓ : Loc Cert.BiasRefIdeal.nD Cert.BiasRefIdeal.τ Cert.BiasRefIdeal.sig) → Buf (Elt Ideal) ℓ) : Prop :=
  ∀ c : Dev Cert.BiasRefIdeal.nD,
    (Cert.Pre_finite_cols.fn (F := Ideal) (m ((c.tc : Thread Cert.BiasRefIdeal.nD Cert.BiasRefIdeal.τ).loc Cert.BiasRefIdeal.main_arg0)) (m ((c.tc : Thread Cert.BiasRefIdeal.nD Cert.BiasRefIdeal.τ).loc Cert.BiasRefIdeal.main_arg1)) (m ((c.tc : Thread Cert.BiasRefIdeal.nD Cert.BiasRefIdeal.τ).loc Cert.BiasRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite [hPre_finite : Cert.Pre_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite [hPre_finite : Cert.Pre_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))) = (fun _ => 1#1)

def Pre_Fnet (m : (ℓ : Loc Cert.Fnet.nD Cert.Fnet.τ Cert.Fnet.sig) → Buf (Elt Bits) ℓ) : Prop :=
  True

def Pre_FnetIdeal (m : (ℓ : Loc Cert.FnetIdeal.nD Cert.FnetIdeal.τ Cert.FnetIdeal.sig) → Buf (Elt Ideal) ℓ) : Prop :=
  True

def Pre_FnetIdeal_finite_fnet [hPre_finite_fnet : Cert.Pre_finite_fnet.Facts] (m : (ℓ : Loc Cert.FnetIdeal.nD Cert.FnetIdeal.τ Cert.FnetIdeal.sig) → Buf (Elt Ideal) ℓ) : Prop :=
  ∀ c : Dev Cert.FnetIdeal.nD,
    (Cert.Pre_finite_fnet.fn (F := Ideal) (m ((c.tc : Thread Cert.FnetIdeal.nD Cert.FnetIdeal.τ).loc Cert.FnetIdeal.main_arg0)) (m ((c.tc : Thread Cert.FnetIdeal.nD Cert.FnetIdeal.τ).loc Cert.FnetIdeal.main_arg1)) (m ((c.tc : Thread Cert.FnetIdeal.nD Cert.FnetIdeal.τ).loc Cert.FnetIdeal.main_arg2)) (m ((c.tc : Thread Cert.FnetIdeal.nD Cert.FnetIdeal.τ).loc Cert.FnetIdeal.main_arg3)) (m ((c.tc : Thread Cert.FnetIdeal.nD Cert.FnetIdeal.τ).loc Cert.FnetIdeal.main_arg4)) (m ((c.tc : Thread Cert.FnetIdeal.nD Cert.FnetIdeal.τ).loc Cert.FnetIdeal.main_arg5)) (m ((c.tc : Thread Cert.FnetIdeal.nD Cert.FnetIdeal.τ).loc Cert.FnetIdeal.main_arg6)) (m ((c.tc : Thread Cert.FnetIdeal.nD Cert.FnetIdeal.τ).loc Cert.FnetIdeal.main_arg7)) (m ((c.tc : Thread Cert.FnetIdeal.nD Cert.FnetIdeal.τ).loc Cert.FnetIdeal.main_arg8))) = (fun _ => 1#1)

def Pre_FnetRefIdeal (m : (ℓ : Loc Cert.FnetRefIdeal.nD Cert.FnetRefIdeal.τ Cert.FnetRefIdeal.sig) → Buf (Elt Ideal) ℓ) : Prop :=
  True

def Pre_FnetRefIdeal_finite_fnet [hPre_finite_fnet : Cert.Pre_finite_fnet.Facts] (m : (ℓ : Loc Cert.FnetRefIdeal.nD Cert.FnetRefIdeal.τ Cert.FnetRefIdeal.sig) → Buf (Elt Ideal) ℓ) : Prop :=
  ∀ c : Dev Cert.FnetRefIdeal.nD,
    (Cert.Pre_finite_fnet.fn (F := Ideal) (m ((c.tc : Thread Cert.FnetRefIdeal.nD Cert.FnetRefIdeal.τ).loc Cert.FnetRefIdeal.main_arg0)) (m ((c.tc : Thread Cert.FnetRefIdeal.nD Cert.FnetRefIdeal.τ).loc Cert.FnetRefIdeal.main_arg1)) (m ((c.tc : Thread Cert.FnetRefIdeal.nD Cert.FnetRefIdeal.τ).loc Cert.FnetRefIdeal.main_arg2)) (m ((c.tc : Thread Cert.FnetRefIdeal.nD Cert.FnetRefIdeal.τ).loc Cert.FnetRefIdeal.main_arg3)) (m ((c.tc : Thread Cert.FnetRefIdeal.nD Cert.FnetRefIdeal.τ).loc Cert.FnetRefIdeal.main_arg4)) (m ((c.tc : Thread Cert.FnetRefIdeal.nD Cert.FnetRefIdeal.τ).loc Cert.FnetRefIdeal.main_arg5)) (m ((c.tc : Thread Cert.FnetRefIdeal.nD Cert.FnetRefIdeal.τ).loc Cert.FnetRefIdeal.main_arg6)) (m ((c.tc : Thread Cert.FnetRefIdeal.nD Cert.FnetRefIdeal.τ).loc Cert.FnetRefIdeal.main_arg7)) (m ((c.tc : Thread Cert.FnetRefIdeal.nD Cert.FnetRefIdeal.τ).loc Cert.FnetRefIdeal.main_arg8))) = (fun _ => 1#1)

def Pre_AttnConv (m : (ℓ : Loc Cert.AttnConv.nD Cert.AttnConv.τ Cert.AttnConv.sig) → Buf (Elt Bits) ℓ) : Prop :=
  True

def Pre_AttnConvIdeal (m : (ℓ : Loc Cert.AttnConvIdeal.nD Cert.AttnConvIdeal.τ Cert.AttnConvIdeal.sig) → Buf (Elt Ideal) ℓ) : Prop :=
  True

def Pre_AttnConvRefIdeal (m : (ℓ : Loc Cert.AttnConvRefIdeal.nD Cert.AttnConvRefIdeal.τ Cert.AttnConvRefIdeal.sig) → Buf (Elt Ideal) ℓ) : Prop :=
  True

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ r.2.sem = fun _ => 0)

def quiescent_BiasIdeal_pre_finite_cols [hBiasIdeal : Cert.BiasIdeal.Facts] [hPre_finite_cols : Cert.Pre_finite_cols.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_finite_cols m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_BiasRefIdeal_pre_finite_cols [hBiasRefIdeal : Cert.BiasRefIdeal.Facts] [hPre_finite_cols : Cert.Pre_finite_cols.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal_finite_cols m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0)
      ∧ r.2.mem ((c.tc : Thread Cert.BiasRefIdeal.nD Cert.BiasRefIdeal.τ).loc Cert.BiasRefIdeal.main_arg1) = m ((c.tc : Thread Cert.BiasRefIdeal.nD Cert.BiasRefIdeal.τ).loc Cert.BiasRefIdeal.main_arg1)
      ∧ r.2.mem ((c.tc : Thread Cert.BiasRefIdeal.nD Cert.BiasRefIdeal.τ).loc Cert.BiasRefIdeal.main_arg2) = m ((c.tc : Thread Cert.BiasRefIdeal.nD Cert.BiasRefIdeal.τ).loc Cert.BiasRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjIdeal_pre_finite [hOutProjIdeal : Cert.OutProjIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_OutProjRefIdeal_pre_finite [hOutProjRefIdeal : Cert.OutProjRefIdeal.Facts] [hPre_finite : Cert.Pre_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Fnet [hFnet : Cert.Fnet.Facts] : Prop :=
  ∀ (m : (ℓ : Loc Cert.Fnet.nD Cert.Fnet.τ Cert.Fnet.sig) → Buf (Elt Bits) ℓ) (g : Dev Cert.Fnet.nD → PrngReg), Pre_Fnet m →
    θ_run (Cert.Fnet.defs (F := Bits)) (onTc (τ := Cert.Fnet.τ) (Cert.Fnet.main (F := Bits))) ⟨m, fun _ => 0, g⟩ (fun r => (∀ c : Dev Cert.Fnet.nD,
      r.2.mem ((c.tc : Thread Cert.Fnet.nD Cert.Fnet.τ).loc Cert.Fnet.main_arg0) = m ((c.tc : Thread Cert.Fnet.nD Cert.Fnet.τ).loc Cert.Fnet.main_arg0)
      ∧ r.2.mem ((c.tc : Thread Cert.Fnet.nD Cert.Fnet.τ).loc Cert.Fnet.main_arg1) = m ((c.tc : Thread Cert.Fnet.nD Cert.Fnet.τ).loc Cert.Fnet.main_arg1)
      ∧ r.2.mem ((c.tc : Thread Cert.Fnet.nD Cert.Fnet.τ).loc Cert.Fnet.main_arg2) = m ((c.tc : Thread Cert.Fnet.nD Cert.Fnet.τ).loc Cert.Fnet.main_arg2)
      ∧ r.2.mem ((c.tc : Thread Cert.Fnet.nD Cert.Fnet.τ).loc Cert.Fnet.main_arg3) = m ((c.tc : Thread Cert.Fnet.nD Cert.Fnet.τ).loc Cert.Fnet.main_arg3)
      ∧ r.2.mem ((c.tc : Thread Cert.Fnet.nD Cert.Fnet.τ).loc Cert.Fnet.main_arg4) = m ((c.tc : Thread Cert.Fnet.nD Cert.Fnet.τ).loc Cert.Fnet.main_arg4)
      ∧ r.2.mem ((c.tc : Thread Cert.Fnet.nD Cert.Fnet.τ).loc Cert.Fnet.main_arg5) = m ((c.tc : Thread Cert.Fnet.nD Cert.Fnet.τ).loc Cert.Fnet.main_arg5)
      ∧ r.2.mem ((c.tc : Thread Cert.Fnet.nD Cert.Fnet.τ).loc Cert.Fnet.main_arg6) = m ((c.tc : Thread Cert.Fnet.nD Cert.Fnet.τ).loc Cert.Fnet.main_arg6)
      ∧ r.2.mem ((c.tc : Thread Cert.Fnet.nD Cert.Fnet.τ).loc Cert.Fnet.main_arg7) = m ((c.tc : Thread Cert.Fnet.nD Cert.Fnet.τ).loc Cert.Fnet.main_arg7)
      ∧ r.2.mem ((c.tc : Thread Cert.Fnet.nD Cert.Fnet.τ).loc Cert.Fnet.main_arg8) = m ((c.tc : Thread Cert.Fnet.nD Cert.Fnet.τ).loc Cert.Fnet.main_arg8))
      ∧ r.2.sem = fun _ => 0)

def quiescent_FnetIdeal [hFnetIdeal : Cert.FnetIdeal.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
      ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
      ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
      ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3)
      ∧ r.2.mem ((c.tc : Thread Cert.FnetIdeal.nD Cert.FnetIdeal.τ).loc Cert.FnetIdeal.main_arg4) = m ((c.tc : Thread Cert.FnetIdeal.nD Cert.FnetIdeal.τ).loc Cert.FnetIdeal.main_arg4)
      ∧ r.2.mem ((c.tc : Thread Cert.FnetIdeal.nD Cert.FnetIdeal.τ).loc Cert.FnetIdeal.main_arg5) = m ((c.tc : Thread Cert.FnetIdeal.nD Cert.FnetIdeal.τ).loc Cert.FnetIdeal.main_arg5)
      ∧ r.2.mem ((c.tc : Thread Cert.FnetIdeal.nD Cert.FnetIdeal.τ).loc Cert.FnetIdeal.main_arg6) = m ((c.tc : Thread Cert.FnetIdeal.nD Cert.FnetIdeal.τ).loc Cert.FnetIdeal.main_arg6)
      ∧ r.2.mem ((c.tc : Thread Cert.FnetIdeal.nD Cert.FnetIdeal.τ).loc Cert.FnetIdeal.main_arg7) = m ((c.tc : Thread Cert.FnetIdeal.nD Cert.FnetIdeal.τ).loc Cert.FnetIdeal.main_arg7)
      ∧ r.2.mem ((c.tc : Thread Cert.FnetIdeal.nD Cert.FnetIdeal.τ).loc Cert.FnetIdeal.main_arg8) = m ((c.tc : Thread Cert.FnetIdeal.nD Cert.FnetIdeal.τ).loc Cert.FnetIdeal.main_arg8))
      ∧ r.2.sem = fun _ => 0)

def quiescent_FnetIdeal_pre_finite_fnet [hFnetIdeal : Cert.FnetIdeal.Facts] [hPre_finite_fnet : Cert.Pre_finite_fnet.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal_finite_fnet m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
      ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
      ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
      ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3)
      ∧ r.2.mem ((c.tc : Thread Cert.FnetIdeal.nD Cert.FnetIdeal.τ).loc Cert.FnetIdeal.main_arg4) = m ((c.tc : Thread Cert.FnetIdeal.nD Cert.FnetIdeal.τ).loc Cert.FnetIdeal.main_arg4)
      ∧ r.2.mem ((c.tc : Thread Cert.FnetIdeal.nD Cert.FnetIdeal.τ).loc Cert.FnetIdeal.main_arg5) = m ((c.tc : Thread Cert.FnetIdeal.nD Cert.FnetIdeal.τ).loc Cert.FnetIdeal.main_arg5)
      ∧ r.2.mem ((c.tc : Thread Cert.FnetIdeal.nD Cert.FnetIdeal.τ).loc Cert.FnetIdeal.main_arg6) = m ((c.tc : Thread Cert.FnetIdeal.nD Cert.FnetIdeal.τ).loc Cert.FnetIdeal.main_arg6)
      ∧ r.2.mem ((c.tc : Thread Cert.FnetIdeal.nD Cert.FnetIdeal.τ).loc Cert.FnetIdeal.main_arg7) = m ((c.tc : Thread Cert.FnetIdeal.nD Cert.FnetIdeal.τ).loc Cert.FnetIdeal.main_arg7)
      ∧ r.2.mem ((c.tc : Thread Cert.FnetIdeal.nD Cert.FnetIdeal.τ).loc Cert.FnetIdeal.main_arg8) = m ((c.tc : Thread Cert.FnetIdeal.nD Cert.FnetIdeal.τ).loc Cert.FnetIdeal.main_arg8))
      ∧ r.2.sem = fun _ => 0)

def quiescent_FnetRefIdeal [hFnetRefIdeal : Cert.FnetRefIdeal.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0)
      ∧ r.2.mem ((c.tc : Thread Cert.FnetRefIdeal.nD Cert.FnetRefIdeal.τ).loc Cert.FnetRefIdeal.main_arg1) = m ((c.tc : Thread Cert.FnetRefIdeal.nD Cert.FnetRefIdeal.τ).loc Cert.FnetRefIdeal.main_arg1)
      ∧ r.2.mem ((c.tc : Thread Cert.FnetRefIdeal.nD Cert.FnetRefIdeal.τ).loc Cert.FnetRefIdeal.main_arg2) = m ((c.tc : Thread Cert.FnetRefIdeal.nD Cert.FnetRefIdeal.τ).loc Cert.FnetRefIdeal.main_arg2)
      ∧ r.2.mem ((c.tc : Thread Cert.FnetRefIdeal.nD Cert.FnetRefIdeal.τ).loc Cert.FnetRefIdeal.main_arg3) = m ((c.tc : Thread Cert.FnetRefIdeal.nD Cert.FnetRefIdeal.τ).loc Cert.FnetRefIdeal.main_arg3)
      ∧ r.2.mem ((c.tc : Thread Cert.FnetRefIdeal.nD Cert.FnetRefIdeal.τ).loc Cert.FnetRefIdeal.main_arg4) = m ((c.tc : Thread Cert.FnetRefIdeal.nD Cert.FnetRefIdeal.τ).loc Cert.FnetRefIdeal.main_arg4)
      ∧ r.2.mem ((c.tc : Thread Cert.FnetRefIdeal.nD Cert.FnetRefIdeal.τ).loc Cert.FnetRefIdeal.main_arg5) = m ((c.tc : Thread Cert.FnetRefIdeal.nD Cert.FnetRefIdeal.τ).loc Cert.FnetRefIdeal.main_arg5)
      ∧ r.2.mem ((c.tc : Thread Cert.FnetRefIdeal.nD Cert.FnetRefIdeal.τ).loc Cert.FnetRefIdeal.main_arg6) = m ((c.tc : Thread Cert.FnetRefIdeal.nD Cert.FnetRefIdeal.τ).loc Cert.FnetRefIdeal.main_arg6)
      ∧ r.2.mem ((c.tc : Thread Cert.FnetRefIdeal.nD Cert.FnetRefIdeal.τ).loc Cert.FnetRefIdeal.main_arg7) = m ((c.tc : Thread Cert.FnetRefIdeal.nD Cert.FnetRefIdeal.τ).loc Cert.FnetRefIdeal.main_arg7)
      ∧ r.2.mem ((c.tc : Thread Cert.FnetRefIdeal.nD Cert.FnetRefIdeal.τ).loc Cert.FnetRefIdeal.main_arg8) = m ((c.tc : Thread Cert.FnetRefIdeal.nD Cert.FnetRefIdeal.τ).loc Cert.FnetRefIdeal.main_arg8))
      ∧ r.2.sem = fun _ => 0)

def quiescent_FnetRefIdeal_pre_finite_fnet [hFnetRefIdeal : Cert.FnetRefIdeal.Facts] [hPre_finite_fnet : Cert.Pre_finite_fnet.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal_finite_fnet m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0)
      ∧ r.2.mem ((c.tc : Thread Cert.FnetRefIdeal.nD Cert.FnetRefIdeal.τ).loc Cert.FnetRefIdeal.main_arg1) = m ((c.tc : Thread Cert.FnetRefIdeal.nD Cert.FnetRefIdeal.τ).loc Cert.FnetRefIdeal.main_arg1)
      ∧ r.2.mem ((c.tc : Thread Cert.FnetRefIdeal.nD Cert.FnetRefIdeal.τ).loc Cert.FnetRefIdeal.main_arg2) = m ((c.tc : Thread Cert.FnetRefIdeal.nD Cert.FnetRefIdeal.τ).loc Cert.FnetRefIdeal.main_arg2)
      ∧ r.2.mem ((c.tc : Thread Cert.FnetRefIdeal.nD Cert.FnetRefIdeal.τ).loc Cert.FnetRefIdeal.main_arg3) = m ((c.tc : Thread Cert.FnetRefIdeal.nD Cert.FnetRefIdeal.τ).loc Cert.FnetRefIdeal.main_arg3)
      ∧ r.2.mem ((c.tc : Thread Cert.FnetRefIdeal.nD Cert.FnetRefIdeal.τ).loc Cert.FnetRefIdeal.main_arg4) = m ((c.tc : Thread Cert.FnetRefIdeal.nD Cert.FnetRefIdeal.τ).loc Cert.FnetRefIdeal.main_arg4)
      ∧ r.2.mem ((c.tc : Thread Cert.FnetRefIdeal.nD Cert.FnetRefIdeal.τ).loc Cert.FnetRefIdeal.main_arg5) = m ((c.tc : Thread Cert.FnetRefIdeal.nD Cert.FnetRefIdeal.τ).loc Cert.FnetRefIdeal.main_arg5)
      ∧ r.2.mem ((c.tc : Thread Cert.FnetRefIdeal.nD Cert.FnetRefIdeal.τ).loc Cert.FnetRefIdeal.main_arg6) = m ((c.tc : Thread Cert.FnetRefIdeal.nD Cert.FnetRefIdeal.τ).loc Cert.FnetRefIdeal.main_arg6)
      ∧ r.2.mem ((c.tc : Thread Cert.FnetRefIdeal.nD Cert.FnetRefIdeal.τ).loc Cert.FnetRefIdeal.main_arg7) = m ((c.tc : Thread Cert.FnetRefIdeal.nD Cert.FnetRefIdeal.τ).loc Cert.FnetRefIdeal.main_arg7)
      ∧ r.2.mem ((c.tc : Thread Cert.FnetRefIdeal.nD Cert.FnetRefIdeal.τ).loc Cert.FnetRefIdeal.main_arg8) = m ((c.tc : Thread Cert.FnetRefIdeal.nD Cert.FnetRefIdeal.τ).loc Cert.FnetRefIdeal.main_arg8))
      ∧ r.2.sem = fun _ => 0)

def quiescent_AttnConv [hAttnConv : Cert.AttnConv.Facts] : Prop :=
  ∀ (m : (ℓ : Loc Cert.AttnConv.nD Cert.AttnConv.τ Cert.AttnConv.sig) → Buf (Elt Bits) ℓ) (g : Dev Cert.AttnConv.nD → PrngReg), Pre_AttnConv m →
    θ_run (Cert.AttnConv.defs (F := Bits)) (onTc (τ := Cert.AttnConv.τ) (Cert.AttnConv.main (F := Bits))) ⟨m, fun _ => 0, g⟩ (fun r => (∀ c : Dev Cert.AttnConv.nD,
      r.2.mem ((c.tc : Thread Cert.AttnConv.nD Cert.AttnConv.τ).loc Cert.AttnConv.main_arg0) = m ((c.tc : Thread Cert.AttnConv.nD Cert.AttnConv.τ).loc Cert.AttnConv.main_arg0)
      ∧ r.2.mem ((c.tc : Thread Cert.AttnConv.nD Cert.AttnConv.τ).loc Cert.AttnConv.main_arg1) = m ((c.tc : Thread Cert.AttnConv.nD Cert.AttnConv.τ).loc Cert.AttnConv.main_arg1)
      ∧ r.2.mem ((c.tc : Thread Cert.AttnConv.nD Cert.AttnConv.τ).loc Cert.AttnConv.main_arg2) = m ((c.tc : Thread Cert.AttnConv.nD Cert.AttnConv.τ).loc Cert.AttnConv.main_arg2)
      ∧ r.2.mem ((c.tc : Thread Cert.AttnConv.nD Cert.AttnConv.τ).loc Cert.AttnConv.main_arg3) = m ((c.tc : Thread Cert.AttnConv.nD Cert.AttnConv.τ).loc Cert.AttnConv.main_arg3))
      ∧ r.2.sem = fun _ => 0)

def quiescent_AttnConvIdeal [hAttnConvIdeal : Cert.AttnConvIdeal.Facts] : Prop :=
  ∀ (m : (ℓ : Loc Cert.AttnConvIdeal.nD Cert.AttnConvIdeal.τ Cert.AttnConvIdeal.sig) → Buf (Elt Ideal) ℓ) (g : Dev Cert.AttnConvIdeal.nD → PrngReg), Pre_AttnConvIdeal m →
    θ_run (Cert.AttnConvIdeal.defs (F := Ideal)) (onTc (τ := Cert.AttnConvIdeal.τ) (Cert.AttnConvIdeal.main (F := Ideal))) ⟨m, fun _ => 0, g⟩ (fun r => (∀ c : Dev Cert.AttnConvIdeal.nD,
      r.2.mem ((c.tc : Thread Cert.AttnConvIdeal.nD Cert.AttnConvIdeal.τ).loc Cert.AttnConvIdeal.main_arg0) = m ((c.tc : Thread Cert.AttnConvIdeal.nD Cert.AttnConvIdeal.τ).loc Cert.AttnConvIdeal.main_arg0)
      ∧ r.2.mem ((c.tc : Thread Cert.AttnConvIdeal.nD Cert.AttnConvIdeal.τ).loc Cert.AttnConvIdeal.main_arg1) = m ((c.tc : Thread Cert.AttnConvIdeal.nD Cert.AttnConvIdeal.τ).loc Cert.AttnConvIdeal.main_arg1)
      ∧ r.2.mem ((c.tc : Thread Cert.AttnConvIdeal.nD Cert.AttnConvIdeal.τ).loc Cert.AttnConvIdeal.main_arg2) = m ((c.tc : Thread Cert.AttnConvIdeal.nD Cert.AttnConvIdeal.τ).loc Cert.AttnConvIdeal.main_arg2)
      ∧ r.2.mem ((c.tc : Thread Cert.AttnConvIdeal.nD Cert.AttnConvIdeal.τ).loc Cert.AttnConvIdeal.main_arg3) = m ((c.tc : Thread Cert.AttnConvIdeal.nD Cert.AttnConvIdeal.τ).loc Cert.AttnConvIdeal.main_arg3))
      ∧ r.2.sem = fun _ => 0)

def quiescent_AttnConvRefIdeal [hAttnConvRefIdeal : Cert.AttnConvRefIdeal.Facts] : Prop :=
  ∀ (m : (ℓ : Loc Cert.AttnConvRefIdeal.nD Cert.AttnConvRefIdeal.τ Cert.AttnConvRefIdeal.sig) → Buf (Elt Ideal) ℓ) (g : Dev Cert.AttnConvRefIdeal.nD → PrngReg), Pre_AttnConvRefIdeal m →
    θ_run (Cert.AttnConvRefIdeal.defs (F := Ideal)) (onTc (τ := Cert.AttnConvRefIdeal.τ) (Cert.AttnConvRefIdeal.main (F := Ideal))) ⟨m, fun _ => 0, g⟩ (fun r => (∀ c : Dev Cert.AttnConvRefIdeal.nD,
      r.2.mem ((c.tc : Thread Cert.AttnConvRefIdeal.nD Cert.AttnConvRefIdeal.τ).loc Cert.AttnConvRefIdeal.main_arg0) = m ((c.tc : Thread Cert.AttnConvRefIdeal.nD Cert.AttnConvRefIdeal.τ).loc Cert.AttnConvRefIdeal.main_arg0)
      ∧ r.2.mem ((c.tc : Thread Cert.AttnConvRefIdeal.nD Cert.AttnConvRefIdeal.τ).loc Cert.AttnConvRefIdeal.main_arg1) = m ((c.tc : Thread Cert.AttnConvRefIdeal.nD Cert.AttnConvRefIdeal.τ).loc Cert.AttnConvRefIdeal.main_arg1)
      ∧ r.2.mem ((c.tc : Thread Cert.AttnConvRefIdeal.nD Cert.AttnConvRefIdeal.τ).loc Cert.AttnConvRefIdeal.main_arg2) = m ((c.tc : Thread Cert.AttnConvRefIdeal.nD Cert.AttnConvRefIdeal.τ).loc Cert.AttnConvRefIdeal.main_arg2)
      ∧ r.2.mem ((c.tc : Thread Cert.AttnConvRefIdeal.nD Cert.AttnConvRefIdeal.τ).loc Cert.AttnConvRefIdeal.main_arg3) = m ((c.tc : Thread Cert.AttnConvRefIdeal.nD Cert.AttnConvRefIdeal.τ).loc Cert.AttnConvRefIdeal.main_arg3))
      ∧ r.2.sem = fun _ => 0)

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v5) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Bias_BiasIdeal : Prop :=
  True

def algebraic_BiasIdeal_BiasRefIdeal_pre_finite_cols [hBiasIdeal : Cert.BiasIdeal.Facts] [hBiasRefIdeal : Cert.BiasRefIdeal.Facts] [hPre_finite_cols : Cert.Pre_finite_cols.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal_finite_cols m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)
      ∧ m' ((c.tc : Thread Cert.BiasRefIdeal.nD Cert.BiasRefIdeal.τ).loc Cert.BiasRefIdeal.main_arg1) = m ((c.tc : Thread Cert.BiasIdeal.nD Cert.BiasIdeal.τ).loc Cert.BiasIdeal.main_arg1)
      ∧ m' ((c.tc : Thread Cert.BiasRefIdeal.nD Cert.BiasRefIdeal.τ).loc Cert.BiasRefIdeal.main_arg2) = m ((c.tc : Thread Cert.BiasIdeal.nD Cert.BiasIdeal.τ).loc Cert.BiasIdeal.main_arg2)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v8) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0)
          ∧ r.2.mem ((c.tc : Thread Cert.BiasRefIdeal.nD Cert.BiasRefIdeal.τ).loc Cert.BiasRefIdeal.main_arg1) = m' ((c.tc : Thread Cert.BiasRefIdeal.nD Cert.BiasRefIdeal.τ).loc Cert.BiasRefIdeal.main_arg1)
          ∧ r.2.mem ((c.tc : Thread Cert.BiasRefIdeal.nD Cert.BiasRefIdeal.τ).loc Cert.BiasRefIdeal.main_arg2) = m' ((c.tc : Thread Cert.BiasRefIdeal.nD Cert.BiasRefIdeal.τ).loc Cert.BiasRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  IdealRules.named_const.Statement Cert.OutProjIdeal.κ "mask" .f32 0xF149F2CA#32 ⊥

def algebraic_OutProjIdeal_OutProjRefIdeal_pre_finite [hOutProjIdeal : Cert.OutProjIdeal.Facts] [hOutProjRefIdeal : Cert.OutProjRefIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v44) = v1 c
          ∧ r.2.mem ((c.tc : Thread Cert.OutProjRefIdeal.nD Cert.OutProjRefIdeal.τ).loc Cert.OutProjRefIdeal.main_v43) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Fnet_FnetIdeal : Prop :=
  IdealRules.named_const.Statement Cert.FnetIdeal.κ "mask" .f32 0xF149F2CA#32 ⊥

def algebraic_FnetIdeal_FnetRefIdeal_pre_finite_fnet [hFnetIdeal : Cert.FnetIdeal.Facts] [hFnetRefIdeal : Cert.FnetRefIdeal.Facts] [hPre_finite_fnet : Cert.Pre_finite_fnet.Facts] : Prop :=
  ∀ (m : (ℓ : Loc Cert.FnetIdeal.nD Cert.FnetIdeal.τ Cert.FnetIdeal.sig) → Buf (Elt Ideal) ℓ) (g : Dev Cert.FnetIdeal.nD → PrngReg)
    (m' : (ℓ : Loc Cert.FnetRefIdeal.nD Cert.FnetRefIdeal.τ Cert.FnetRefIdeal.sig) → Buf (Elt Ideal) ℓ) (g' : Dev Cert.FnetRefIdeal.nD → PrngReg), Pre_FnetIdeal_finite_fnet m →
    (∀ c : Dev Cert.FnetIdeal.nD,
      m' ((c.tc : Thread Cert.FnetRefIdeal.nD Cert.FnetRefIdeal.τ).loc Cert.FnetRefIdeal.main_arg0) = m ((c.tc : Thread Cert.FnetIdeal.nD Cert.FnetIdeal.τ).loc Cert.FnetIdeal.main_arg0)
      ∧ m' ((c.tc : Thread Cert.FnetRefIdeal.nD Cert.FnetRefIdeal.τ).loc Cert.FnetRefIdeal.main_arg1) = m ((c.tc : Thread Cert.FnetIdeal.nD Cert.FnetIdeal.τ).loc Cert.FnetIdeal.main_arg1)
      ∧ m' ((c.tc : Thread Cert.FnetRefIdeal.nD Cert.FnetRefIdeal.τ).loc Cert.FnetRefIdeal.main_arg2) = m ((c.tc : Thread Cert.FnetIdeal.nD Cert.FnetIdeal.τ).loc Cert.FnetIdeal.main_arg2)
      ∧ m' ((c.tc : Thread Cert.FnetRefIdeal.nD Cert.FnetRefIdeal.τ).loc Cert.FnetRefIdeal.main_arg3) = m ((c.tc : Thread Cert.FnetIdeal.nD Cert.FnetIdeal.τ).loc Cert.FnetIdeal.main_arg3)
      ∧ m' ((c.tc : Thread Cert.FnetRefIdeal.nD Cert.FnetRefIdeal.τ).loc Cert.FnetRefIdeal.main_arg4) = m ((c.tc : Thread Cert.FnetIdeal.nD Cert.FnetIdeal.τ).loc Cert.FnetIdeal.main_arg4)
      ∧ m' ((c.tc : Thread Cert.FnetRefIdeal.nD Cert.FnetRefIdeal.τ).loc Cert.FnetRefIdeal.main_arg5) = m ((c.tc : Thread Cert.FnetIdeal.nD Cert.FnetIdeal.τ).loc Cert.FnetIdeal.main_arg5)
      ∧ m' ((c.tc : Thread Cert.FnetRefIdeal.nD Cert.FnetRefIdeal.τ).loc Cert.FnetRefIdeal.main_arg6) = m ((c.tc : Thread Cert.FnetIdeal.nD Cert.FnetIdeal.τ).loc Cert.FnetIdeal.main_arg6)
      ∧ m' ((c.tc : Thread Cert.FnetRefIdeal.nD Cert.FnetRefIdeal.τ).loc Cert.FnetRefIdeal.main_arg7) = m ((c.tc : Thread Cert.FnetIdeal.nD Cert.FnetIdeal.τ).loc Cert.FnetIdeal.main_arg7)
      ∧ m' ((c.tc : Thread Cert.FnetRefIdeal.nD Cert.FnetRefIdeal.τ).loc Cert.FnetRefIdeal.main_arg8) = m ((c.tc : Thread Cert.FnetIdeal.nD Cert.FnetIdeal.τ).loc Cert.FnetIdeal.main_arg8)) →
    ∃ (v0 : (c : Dev Cert.FnetIdeal.nD) → Buf (Elt Ideal) ((c.tc : Thread Cert.FnetIdeal.nD Cert.FnetIdeal.τ).loc Cert.FnetIdeal.main_v9_0)) (v1 : (c : Dev Cert.FnetIdeal.nD) → Buf (Elt Ideal) ((c.tc : Thread Cert.FnetIdeal.nD Cert.FnetIdeal.τ).loc Cert.FnetIdeal.main_v9_1)) (v2 : (c : Dev Cert.FnetIdeal.nD) → Buf (Elt Ideal) ((c.tc : Thread Cert.FnetIdeal.nD Cert.FnetIdeal.τ).loc Cert.FnetIdeal.main_v9_2)),
      θ_run (Cert.FnetIdeal.defs (F := Ideal)) (onTc (τ := Cert.FnetIdeal.τ) (Cert.FnetIdeal.main (F := Ideal))) ⟨m, fun _ => 0, g⟩ (fun r => ∀ c : Dev Cert.FnetIdeal.nD,
          r.2.mem ((c.tc : Thread Cert.FnetIdeal.nD Cert.FnetIdeal.τ).loc Cert.FnetIdeal.main_v9_0) = v0 c
          ∧ r.2.mem ((c.tc : Thread Cert.FnetIdeal.nD Cert.FnetIdeal.τ).loc Cert.FnetIdeal.main_v9_1) = v1 c
          ∧ r.2.mem ((c.tc : Thread Cert.FnetIdeal.nD Cert.FnetIdeal.τ).loc Cert.FnetIdeal.main_v9_2) = v2 c
          ∧ r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
          ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
          ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
          ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3)
          ∧ r.2.mem ((c.tc : Thread Cert.FnetIdeal.nD Cert.FnetIdeal.τ).loc Cert.FnetIdeal.main_arg4) = m ((c.tc : Thread Cert.FnetIdeal.nD Cert.FnetIdeal.τ).loc Cert.FnetIdeal.main_arg4)
          ∧ r.2.mem ((c.tc : Thread Cert.FnetIdeal.nD Cert.FnetIdeal.τ).loc Cert.FnetIdeal.main_arg5) = m ((c.tc : Thread Cert.FnetIdeal.nD Cert.FnetIdeal.τ).loc Cert.FnetIdeal.main_arg5)
          ∧ r.2.mem ((c.tc : Thread Cert.FnetIdeal.nD Cert.FnetIdeal.τ).loc Cert.FnetIdeal.main_arg6) = m ((c.tc : Thread Cert.FnetIdeal.nD Cert.FnetIdeal.τ).loc Cert.FnetIdeal.main_arg6)
          ∧ r.2.mem ((c.tc : Thread Cert.FnetIdeal.nD Cert.FnetIdeal.τ).loc Cert.FnetIdeal.main_arg7) = m ((c.tc : Thread Cert.FnetIdeal.nD Cert.FnetIdeal.τ).loc Cert.FnetIdeal.main_arg7)
          ∧ r.2.mem ((c.tc : Thread Cert.FnetIdeal.nD Cert.FnetIdeal.τ).loc Cert.FnetIdeal.main_arg8) = m ((c.tc : Thread Cert.FnetIdeal.nD Cert.FnetIdeal.τ).loc Cert.FnetIdeal.main_arg8))
      ∧ θ_run (Cert.FnetRefIdeal.defs (F := Ideal)) (onTc (τ := Cert.FnetRefIdeal.τ) (Cert.FnetRefIdeal.main (F := Ideal))) ⟨m', fun _ => 0, g'⟩ (fun r => ∀ c : Dev Cert.FnetRefIdeal.nD,
          r.2.mem ((c.tc : Thread Cert.FnetRefIdeal.nD Cert.FnetRefIdeal.τ).loc Cert.FnetRefIdeal.main_v44) = v0 c
          ∧ r.2.mem ((c.tc : Thread Cert.FnetRefIdeal.nD Cert.FnetRefIdeal.τ).loc Cert.FnetRefIdeal.main_v81) = v1 c
          ∧ r.2.mem ((c.tc : Thread Cert.FnetRefIdeal.nD Cert.FnetRefIdeal.τ).loc Cert.FnetRefIdeal.main_v80) = v2 c
          ∧ r.2.mem ((c.tc : Thread Cert.FnetRefIdeal.nD Cert.FnetRefIdeal.τ).loc Cert.FnetRefIdeal.main_arg0) = m' ((c.tc : Thread Cert.FnetRefIdeal.nD Cert.FnetRefIdeal.τ).loc Cert.FnetRefIdeal.main_arg0)
          ∧ r.2.mem ((c.tc : Thread Cert.FnetRefIdeal.nD Cert.FnetRefIdeal.τ).loc Cert.FnetRefIdeal.main_arg1) = m' ((c.tc : Thread Cert.FnetRefIdeal.nD Cert.FnetRefIdeal.τ).loc Cert.FnetRefIdeal.main_arg1)
          ∧ r.2.mem ((c.tc : Thread Cert.FnetRefIdeal.nD Cert.FnetRefIdeal.τ).loc Cert.FnetRefIdeal.main_arg2) = m' ((c.tc : Thread Cert.FnetRefIdeal.nD Cert.FnetRefIdeal.τ).loc Cert.FnetRefIdeal.main_arg2)
          ∧ r.2.mem ((c.tc : Thread Cert.FnetRefIdeal.nD Cert.FnetRefIdeal.τ).loc Cert.FnetRefIdeal.main_arg3) = m' ((c.tc : Thread Cert.FnetRefIdeal.nD Cert.FnetRefIdeal.τ).loc Cert.FnetRefIdeal.main_arg3)
          ∧ r.2.mem ((c.tc : Thread Cert.FnetRefIdeal.nD Cert.FnetRefIdeal.τ).loc Cert.FnetRefIdeal.main_arg4) = m' ((c.tc : Thread Cert.FnetRefIdeal.nD Cert.FnetRefIdeal.τ).loc Cert.FnetRefIdeal.main_arg4)
          ∧ r.2.mem ((c.tc : Thread Cert.FnetRefIdeal.nD Cert.FnetRefIdeal.τ).loc Cert.FnetRefIdeal.main_arg5) = m' ((c.tc : Thread Cert.FnetRefIdeal.nD Cert.FnetRefIdeal.τ).loc Cert.FnetRefIdeal.main_arg5)
          ∧ r.2.mem ((c.tc : Thread Cert.FnetRefIdeal.nD Cert.FnetRefIdeal.τ).loc Cert.FnetRefIdeal.main_arg6) = m' ((c.tc : Thread Cert.FnetRefIdeal.nD Cert.FnetRefIdeal.τ).loc Cert.FnetRefIdeal.main_arg6)
          ∧ r.2.mem ((c.tc : Thread Cert.FnetRefIdeal.nD Cert.FnetRefIdeal.τ).loc Cert.FnetRefIdeal.main_arg7) = m' ((c.tc : Thread Cert.FnetRefIdeal.nD Cert.FnetRefIdeal.τ).loc Cert.FnetRefIdeal.main_arg7)
          ∧ r.2.mem ((c.tc : Thread Cert.FnetRefIdeal.nD Cert.FnetRefIdeal.τ).loc Cert.FnetRefIdeal.main_arg8) = m' ((c.tc : Thread Cert.FnetRefIdeal.nD Cert.FnetRefIdeal.τ).loc Cert.FnetRefIdeal.main_arg8))

def preserves_AttnConv_AttnConvIdeal : Prop :=
  True

def algebraic_AttnConvIdeal_AttnConvRefIdeal [hAttnConvIdeal : Cert.AttnConvIdeal.Facts] [hAttnConvRefIdeal : Cert.AttnConvRefIdeal.Facts] : Prop :=
  ∀ (m : (ℓ : Loc Cert.AttnConvIdeal.nD Cert.AttnConvIdeal.τ Cert.AttnConvIdeal.sig) → Buf (Elt Ideal) ℓ) (g : Dev Cert.AttnConvIdeal.nD → PrngReg)
    (m' : (ℓ : Loc Cert.AttnConvRefIdeal.nD Cert.AttnConvRefIdeal.τ Cert.AttnConvRefIdeal.sig) → Buf (Elt Ideal) ℓ) (g' : Dev Cert.AttnConvRefIdeal.nD → PrngReg), Pre_AttnConvIdeal m →
    (∀ c : Dev Cert.AttnConvIdeal.nD,
      m' ((c.tc : Thread Cert.AttnConvRefIdeal.nD Cert.AttnConvRefIdeal.τ).loc Cert.AttnConvRefIdeal.main_arg0) = m ((c.tc : Thread Cert.AttnConvIdeal.nD Cert.AttnConvIdeal.τ).loc Cert.AttnConvIdeal.main_arg0)
      ∧ m' ((c.tc : Thread Cert.AttnConvRefIdeal.nD Cert.AttnConvRefIdeal.τ).loc Cert.AttnConvRefIdeal.main_arg1) = m ((c.tc : Thread Cert.AttnConvIdeal.nD Cert.AttnConvIdeal.τ).loc Cert.AttnConvIdeal.main_arg1)
      ∧ m' ((c.tc : Thread Cert.AttnConvRefIdeal.nD Cert.AttnConvRefIdeal.τ).loc Cert.AttnConvRefIdeal.main_arg2) = m ((c.tc : Thread Cert.AttnConvIdeal.nD Cert.AttnConvIdeal.τ).loc Cert.AttnConvIdeal.main_arg2)
      ∧ m' ((c.tc : Thread Cert.AttnConvRefIdeal.nD Cert.AttnConvRefIdeal.τ).loc Cert.AttnConvRefIdeal.main_arg3) = m ((c.tc : Thread Cert.AttnConvIdeal.nD Cert.AttnConvIdeal.τ).loc Cert.AttnConvIdeal.main_arg3)) →
    ∃ (v0 : (c : Dev Cert.AttnConvIdeal.nD) → Buf (Elt Ideal) ((c.tc : Thread Cert.AttnConvIdeal.nD Cert.AttnConvIdeal.τ).loc Cert.AttnConvIdeal.main_v3_1)),
      θ_run (Cert.AttnConvIdeal.defs (F := Ideal)) (onTc (τ := Cert.AttnConvIdeal.τ) (Cert.AttnConvIdeal.main (F := Ideal))) ⟨m, fun _ => 0, g⟩ (fun r => ∀ c : Dev Cert.AttnConvIdeal.nD,
          r.2.mem ((c.tc : Thread Cert.AttnConvIdeal.nD Cert.AttnConvIdeal.τ).loc Cert.AttnConvIdeal.main_v3_1) = v0 c
          ∧ r.2.mem ((c.tc : Thread Cert.AttnConvIdeal.nD Cert.AttnConvIdeal.τ).loc Cert.AttnConvIdeal.main_arg0) = m ((c.tc : Thread Cert.AttnConvIdeal.nD Cert.AttnConvIdeal.τ).loc Cert.AttnConvIdeal.main_arg0)
          ∧ r.2.mem ((c.tc : Thread Cert.AttnConvIdeal.nD Cert.AttnConvIdeal.τ).loc Cert.AttnConvIdeal.main_arg1) = m ((c.tc : Thread Cert.AttnConvIdeal.nD Cert.AttnConvIdeal.τ).loc Cert.AttnConvIdeal.main_arg1)
          ∧ r.2.mem ((c.tc : Thread Cert.AttnConvIdeal.nD Cert.AttnConvIdeal.τ).loc Cert.AttnConvIdeal.main_arg2) = m ((c.tc : Thread Cert.AttnConvIdeal.nD Cert.AttnConvIdeal.τ).loc Cert.AttnConvIdeal.main_arg2)
          ∧ r.2.mem ((c.tc : Thread Cert.AttnConvIdeal.nD Cert.AttnConvIdeal.τ).loc Cert.AttnConvIdeal.main_arg3) = m ((c.tc : Thread Cert.AttnConvIdeal.nD Cert.AttnConvIdeal.τ).loc Cert.AttnConvIdeal.main_arg3))
      ∧ θ_run (Cert.AttnConvRefIdeal.defs (F := Ideal)) (onTc (τ := Cert.AttnConvRefIdeal.τ) (Cert.AttnConvRefIdeal.main (F := Ideal))) ⟨m', fun _ => 0, g'⟩ (fun r => ∀ c : Dev Cert.AttnConvRefIdeal.nD,
          r.2.mem ((c.tc : Thread Cert.AttnConvRefIdeal.nD Cert.AttnConvRefIdeal.τ).loc Cert.AttnConvRefIdeal.main_v29) = v0 c
          ∧ r.2.mem ((c.tc : Thread Cert.AttnConvRefIdeal.nD Cert.AttnConvRefIdeal.τ).loc Cert.AttnConvRefIdeal.main_arg0) = m' ((c.tc : Thread Cert.AttnConvRefIdeal.nD Cert.AttnConvRefIdeal.τ).loc Cert.AttnConvRefIdeal.main_arg0)
          ∧ r.2.mem ((c.tc : Thread Cert.AttnConvRefIdeal.nD Cert.AttnConvRefIdeal.τ).loc Cert.AttnConvRefIdeal.main_arg1) = m' ((c.tc : Thread Cert.AttnConvRefIdeal.nD Cert.AttnConvRefIdeal.τ).loc Cert.AttnConvRefIdeal.main_arg1)
          ∧ r.2.mem ((c.tc : Thread Cert.AttnConvRefIdeal.nD Cert.AttnConvRefIdeal.τ).loc Cert.AttnConvRefIdeal.main_arg2) = m' ((c.tc : Thread Cert.AttnConvRefIdeal.nD Cert.AttnConvRefIdeal.τ).loc Cert.AttnConvRefIdeal.main_arg2)
          ∧ r.2.mem ((c.tc : Thread Cert.AttnConvRefIdeal.nD Cert.AttnConvRefIdeal.τ).loc Cert.AttnConvRefIdeal.main_arg3) = m' ((c.tc : Thread Cert.AttnConvRefIdeal.nD Cert.AttnConvRefIdeal.τ).loc Cert.AttnConvRefIdeal.main_arg3))

def Claim : Prop :=
  ∃ (hAdaln : Cert.Adaln.Facts) (hAdalnIdeal : Cert.AdalnIdeal.Facts) (hAdalnRefIdeal : Cert.AdalnRefIdeal.Facts) (hBias : Cert.Bias.Facts) (hBiasIdeal : Cert.BiasIdeal.Facts) (hBiasRefIdeal : Cert.BiasRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFnet : Cert.Fnet.Facts) (hFnetIdeal : Cert.FnetIdeal.Facts) (hFnetRefIdeal : Cert.FnetRefIdeal.Facts) (hAttnConv : Cert.AttnConv.Facts) (hAttnConvIdeal : Cert.AttnConvIdeal.Facts) (hAttnConvRefIdeal : Cert.AttnConvRefIdeal.Facts) (hPre_finite_cols : Cert.Pre_finite_cols.Facts) (hPre_finite : Cert.Pre_finite.Facts) (hPre_finite_fnet : Cert.Pre_finite_fnet.Facts),
    quiescent_Adaln (hAdaln := hAdaln)
    ∧ quiescent_AdalnIdeal (hAdalnIdeal := hAdalnIdeal)
    ∧ quiescent_AdalnRefIdeal (hAdalnRefIdeal := hAdalnRefIdeal)
    ∧ quiescent_Bias (hBias := hBias)
    ∧ quiescent_BiasIdeal (hBiasIdeal := hBiasIdeal)
    ∧ quiescent_BiasIdeal_pre_finite_cols (hBiasIdeal := hBiasIdeal) (hPre_finite_cols := hPre_finite_cols)
    ∧ quiescent_BiasRefIdeal (hBiasRefIdeal := hBiasRefIdeal)
    ∧ quiescent_BiasRefIdeal_pre_finite_cols (hBiasRefIdeal := hBiasRefIdeal) (hPre_finite_cols := hPre_finite_cols)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjIdeal_pre_finite (hOutProjIdeal := hOutProjIdeal) (hPre_finite := hPre_finite)
    ∧ quiescent_OutProjRefIdeal (hOutProjRefIdeal := hOutProjRefIdeal)
    ∧ quiescent_OutProjRefIdeal_pre_finite (hOutProjRefIdeal := hOutProjRefIdeal) (hPre_finite := hPre_finite)
    ∧ quiescent_Fnet (hFnet := hFnet)
    ∧ quiescent_FnetIdeal (hFnetIdeal := hFnetIdeal)
    ∧ quiescent_FnetIdeal_pre_finite_fnet (hFnetIdeal := hFnetIdeal) (hPre_finite_fnet := hPre_finite_fnet)
    ∧ quiescent_FnetRefIdeal (hFnetRefIdeal := hFnetRefIdeal)
    ∧ quiescent_FnetRefIdeal_pre_finite_fnet (hFnetRefIdeal := hFnetRefIdeal) (hPre_finite_fnet := hPre_finite_fnet)
    ∧ quiescent_AttnConv (hAttnConv := hAttnConv)
    ∧ quiescent_AttnConvIdeal (hAttnConvIdeal := hAttnConvIdeal)
    ∧ quiescent_AttnConvRefIdeal (hAttnConvRefIdeal := hAttnConvRefIdeal)
    ∧ preserves_Adaln_AdalnIdeal
    ∧ algebraic_AdalnIdeal_AdalnRefIdeal (hAdalnIdeal := hAdalnIdeal) (hAdalnRefIdeal := hAdalnRefIdeal)
    ∧ preserves_Bias_BiasIdeal
    ∧ algebraic_BiasIdeal_BiasRefIdeal_pre_finite_cols (hBiasIdeal := hBiasIdeal) (hBiasRefIdeal := hBiasRefIdeal) (hPre_finite_cols := hPre_finite_cols)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal_pre_finite (hOutProjIdeal := hOutProjIdeal) (hOutProjRefIdeal := hOutProjRefIdeal) (hPre_finite := hPre_finite)
    ∧ preserves_Fnet_FnetIdeal
    ∧ algebraic_FnetIdeal_FnetRefIdeal_pre_finite_fnet (hFnetIdeal := hFnetIdeal) (hFnetRefIdeal := hFnetRefIdeal) (hPre_finite_fnet := hPre_finite_fnet)
    ∧ preserves_AttnConv_AttnConvIdeal
    ∧ algebraic_AttnConvIdeal_AttnConvRefIdeal (hAttnConvIdeal := hAttnConvIdeal) (hAttnConvRefIdeal := hAttnConvRefIdeal)
-- ==== Pre_finite.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x6x1x1024 : Shape := ⟨4, ![8, 6, 1, 1024]⟩
abbrev S1024 : Shape := ⟨1, ![1024]⟩
abbrev S1024x16 : Shape := ⟨2, ![1024, 16]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x6x1x1024 : S_.BroadcastsInDim S8x6x1x1024 (![] : Fin 0 → Fin S8x6x1x1024.rank)
  reducesTo_S8x6x1x1024_S_d0_1_2_3 : S8x6x1x1024.ReducesTo [0, 1, 2, 3] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S8x6x1x1024 .f32) (main_arg5 : FVec F S1024 .f32) (main_arg6 : FVec F S1024x16 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S8x6x1x1024 .f32 := Host.absf main_arg4
  let main_cst_6 : FVec F S_ .f32 := constant S_ .f32 0x7F800000#32
  let main_v20 : FVec F S8x6x1x1024 .f32 := broadcastInDim S8x6x1x1024 ![] bcast_S_S8x6x1x1024 main_cst_6
  let main_v21 : IVec S8x6x1x1024 1 := cmpf .olt main_v19 main_v20
  let main_c_7 : IVec S_ 1 := constantI S_ 1 1#1
  let main_v22 : IVec S_ 1 := (fun x v => Host.reduce IntOp.andi x v reducesTo_S8x6x1x1024_S_d0_1_2_3 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S8x2048x512 .bf16) (main_arg1 : FVec F S8x2048x512 .bf16) (main_arg2 : FVec F S1024x1024 .f32) (main_arg3 : FVec F S8x2048x1024 .f32) (main_arg4 : FVec F S8x6x1x1024 .f32) (main_arg5 : FVec F S1024 .f32) (main_arg6 : FVec F S1024x16 .f32) : IVec S_ 1 :=
  let main_v0 : FVec F S8x2048x512 .bf16 := Host.absf main_arg0
  let main_cst : FVec F S_ .bf16 := constant S_ .bf16 0x7F80#16
  let main_v1 : FVec F S8x2048x512 .bf16 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .bf16 := Host.absf main_arg1
  let main_cst_0 : FVec F S_ .bf16 := constant S_ .bf16 0x7F80#16
  let main_v5 : FVec F S8x2048x512 .bf16 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg4 main_arg5 main_arg6 main_v13 main_v16
-- ==== Pre_finite_cols.lean ====
abbrev S512x512 : Shape := ⟨2, ![512, 512]⟩
abbrev S3x512x1536 : Shape := ⟨3, ![3, 512, 1536]⟩
abbrev S3x4x64x384 : Shape := ⟨4, ![3, 4, 64, 384]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : FVec F S3x512x1536 .bf16) (main_arg2 : FVec F S3x4x64x384 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_fnet.lean ====
abbrev S8x2048x1024 : Shape := ⟨3, ![8, 2048, 1024]⟩
abbrev S1024 : Shape := ⟨1, ![1024]⟩
abbrev S8x6x1x1024 : Shape := ⟨4, ![8, 6, 1, 1024]⟩
abbrev S1024x1024 : Shape := ⟨2, ![1024, 1024]⟩
abbrev S1024x16 : Shape := ⟨2, ![1024, 16]⟩
abbrev S256x512 : Shape := ⟨2, ![256, 512]⟩
abbrev S2048x2048 : Shape := ⟨2, ![2048, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S8x6x1x1024 : S_.BroadcastsInDim S8x6x1x1024 (![] : Fin 0 → Fin S8x6x1x1024.rank)
  reducesTo_S8x6x1x1024_S_d0_1_2_3 : S8x6x1x1024.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S256x512 : S_.BroadcastsInDim S256x512 (![] : Fin 0 → Fin S256x512.rank)
  reducesTo_S256x512_S_d0_1 : S256x512.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .bf16) (main_arg8 : FVec F S2048x2048 .bf16) (main_v33 : IVec S_ 1) : IVec S_ 1 :=
  let main_v34 : FVec F S2048x2048 .bf16 := Host.absf main_arg7
  let main_cst_12 : FVec F S_ .bf16 := constant S_ .bf16 0x7F80#16
  let main_v35 : FVec F S2048x2048 .bf16 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .bf16 := Host.absf main_arg8
  let main_cst_14 : FVec F S_ .bf16 := constant S_ .bf16 0x7F80#16
  let main_v40 : FVec F S2048x2048 .bf16 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  main_v43

def fn_part1 {F : FTy → Type} [FloatOps F] (main_arg4 : FVec F S1024 .f32) (main_arg5 : FVec F S1024x16 .f32) (main_arg6 : FVec F S256x512 .bf16) (main_arg7 : FVec F S2048x2048 .bf16) (main_arg8 : FVec F S2048x2048 .bf16) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x16 .f32 := Host.absf main_arg5
  let main_cst_8 : FVec F S_ .f32 := constant S_ .f32 0x7F800000#32
  let main_v25 : FVec F S1024x16 .f32 := broadcastInDim S1024x16 ![] bcast_S_S1024x16 main_cst_8
  let main_v26 : IVec S1024x16 1 := cmpf .olt main_v24 main_v25
  let main_c_9 : IVec S_ 1 := constantI S_ 1 1#1
  let main_v27 : IVec S_ 1 := (fun x v => Host.reduce IntOp.andi x v reducesTo_S1024x16_S_d0_1 h_S_) main_v26 main_c_9
  let main_v28 : IVec S_ 1 := andi main_v23 main_v27
  let main_v29 : FVec F S256x512 .bf16 := Host.absf main_arg6
  let main_cst_10 : FVec F S_ .bf16 := constant S_ .bf16 0x7F80#16
  let main_v30 : FVec F S256x512 .bf16 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024 .f32) (main_arg2 : FVec F S8x6x1x1024 .f32) (main_arg3 : FVec F S1024x1024 .f32) (main_arg4 : FVec F S1024 .f32) (main_arg5 : FVec F S1024x16 .f32) (main_arg6 : FVec F S256x512 .bf16) (main_arg7 : FVec F S2048x2048 .bf16) (main_arg8 : FVec F S2048x2048 .bf16) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8x6x1x1024 .f32 := Host.absf main_arg2
  let main_cst_2 : FVec F S_ .f32 := constant S_ .f32 0x7F800000#32
  let main_v10 : FVec F S8x6x1x1024 .f32 := broadcastInDim S8x6x1x1024 ![] bcast_S_S8x6x1x1024 main_cst_2
  let main_v11 : IVec S8x6x1x1024 1 := cmpf .olt main_v9 main_v10
  let main_c_3 : IVec S_ 1 := constantI S_ 1 1#1
  let main_v12 : IVec S_ 1 := (fun x v => Host.reduce IntOp.andi x v reducesTo_S8x6x1x1024_S_d0_1_2_3 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Adaln.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Bias.lean ====
abbrev S512x512 : Shape := ⟨2, ![512, 512]⟩
abbrev S3x512x1536 : Shape := ⟨3, ![3, 512, 1536]⟩
abbrev S3x4x64x384 : Shape := ⟨4, ![3, 4, 64, 384]⟩
abbrev S8x3x4x64x384 : Shape := ⟨5, ![8, 3, 4, 64, 384]⟩
abbrev S1x512x1536 : Shape := ⟨3, ![1, 512, 1536]⟩
abbrev S1x4x64x384 : Shape := ⟨4, ![1, 4, 64, 384]⟩
abbrev S8x1x4x64x384 : Shape := ⟨5, ![8, 1, 4, 64, 384]⟩
abbrev S512x1536 : Shape := ⟨2, ![512, 1536]⟩
abbrev S16x384 : Shape := ⟨2, ![16, 384]⟩
abbrev S1x1x16x384 : Shape := ⟨4, ![1, 1, 16, 384]⟩
abbrev S1x1x1x16x384 : Shape := ⟨5, ![1, 1, 1, 16, 384]⟩

abbrev nBuf : Space → Nat
  | .hbm => 4
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S3x512x1536, .bf16⟩
  | .hbm, ⟨2, _⟩ => ⟨S3x4x64x384, .f32⟩
  | .hbm, ⟨3, _⟩ => ⟨S8x3x4x64x384, .f32⟩
  | .local _ .vmem, ⟨0, _⟩ => ⟨S512x512, .f32⟩
  | .local _ .vmem, ⟨1, _⟩ => ⟨S1x512x1536, .bf16⟩
  | .local _ .vmem, ⟨2, _⟩ => ⟨S1x512x1536, .bf16⟩
  | .local _ .vmem, ⟨3, _⟩ => ⟨S1x4x64x384, .f32⟩
  | .local _ .vmem, ⟨4, _⟩ => ⟨S1x4x64x384, .f32⟩
  | .local _ .vmem, ⟨5, _⟩ => ⟨S8x1x4x64x384, .f32⟩
  | .local _ .vmem, ⟨6, _⟩ => ⟨S8x1x4x64x384, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x4x64x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BiasRefIdeal.lean ====
abbrev S512x512 : Shape := ⟨2, ![512, 512]⟩
abbrev S3x512x1536 : Shape := ⟨3, ![3, 512, 1536]⟩
abbrev S3x4x64x384 : Shape := ⟨4, ![3, 4, 64, 384]⟩
abbrev S8x4x16x512 : Shape := ⟨4, ![8, 4, 16, 512]⟩
abbrev S3x512x4x384 : Shape := ⟨4, ![3, 512, 4, 384]⟩
abbrev S3x4x384x8x4x16 : Shape := ⟨6, ![3, 4, 384, 8, 4, 16]⟩
abbrev S8x3x4x4x16x384 : Shape := ⟨6, ![8, 3, 4, 4, 16, 384]⟩
abbrev S8x3x4x64x384 : Shape := ⟨5, ![8, 3, 4, 64, 384]⟩
abbrev S1x3x4x64x384 : Shape := ⟨5, ![1, 3, 4, 64, 384]⟩

abbrev nBuf : Space → Nat
  | .hbm => 12
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S3x512x1536, .bf16⟩
  | .hbm, ⟨2, _⟩ => ⟨S3x4x64x384, .f32⟩
  | .hbm, ⟨3, _⟩ => ⟨S8x4x16x512, .f32⟩
  | .hbm, ⟨4, _⟩ => ⟨S3x512x1536, .f32⟩
  | .hbm, ⟨5, _⟩ => ⟨S3x512x4x384, .f32⟩
  | .hbm, ⟨6, _⟩ => ⟨S3x4x384x8x4x16, .f32⟩
  | .hbm, ⟨7, _⟩ => ⟨S8x3x4x4x16x384, .f32⟩
  | .hbm, ⟨8, _⟩ => ⟨S8x3x4x64x384, .f32⟩
  | .hbm, ⟨9, _⟩ => ⟨S1x3x4x64x384, .f32⟩
  | .hbm, ⟨10, _⟩ => ⟨S8x3x4x64x384, .f32⟩
  | .hbm, ⟨11, _⟩ => ⟨S8x3x4x64x384, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ffn.lean ====
abbrev S16x2048x1024 : Shape := ⟨3, ![16, 2048, 1024]⟩
abbrev S16x1x2048 : Shape := ⟨3, ![16, 1, 2048]⟩
abbrev S4x16x1024x1024 : Shape := ⟨4, ![4, 16, 1024, 1024]⟩
abbrev S16x8x8x264x128 : Shape := ⟨5, ![16, 8, 8, 264, 128]⟩
abbrev S1x1024x1024 : Shape := ⟨3, ![1, 1024, 1024]⟩
abbrev S1x1x1024 : Shape := ⟨3, ![1, 1, 1024]⟩
abbrev S1x1x1024x1024 : Shape := ⟨4, ![1, 1, 1024, 1024]⟩
abbrev S1x4x8x264x128 : Shape := ⟨5, ![1, 4, 8, 264, 128]⟩
abbrev S1024x1024 : Shape := ⟨2, ![1024, 1024]⟩
abbrev S1024x512 : Shape := ⟨2, ![1024, 512]⟩
abbrev S512x1024 : Shape := ⟨2, ![512, 1024]⟩
abbrev S1x1024 : Shape := ⟨2, ![1, 1024]⟩
abbrev S128x1024 : Shape := ⟨2, ![128, 1024]⟩
abbrev S1024x128 : Shape := ⟨2, ![1024, 128]⟩
abbrev S256x128 : Shape := ⟨2, ![256, 128]⟩
abbrev S1x1x1x256x128 : Shape := ⟨5, ![1, 1, 1, 256, 128]⟩
abbrev S8x8x128 : Shape := ⟨3, ![8, 8, 128]⟩
abbrev S1x1x8x8x128 : Shape := ⟨5, ![1, 1, 8, 8, 128]⟩

abbrev nBuf : Space → Nat
  | .hbm => 6
  | .vmem => 15
  | .smem => 0
  | _ => 0

abbrev bufTy : (tb : Table) → Fin (tcTables nBuf tb) → BufTy
  | .hbm, ⟨0, _⟩ => ⟨S16x2048x1024, .bf16⟩
  | .hbm, ⟨1, _⟩ => ⟨S16x1x2048, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x8x8x264x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1x1024, .f32⟩
  | .local _ .vmem, ⟨3, _⟩ => ⟨S1x1x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x4x8x264x128, .f32⟩
  | .local _ .vmem, ⟨11, _⟩ => ⟨S1x4x8x264x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x8x264x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16x2048x1024 : Shape := ⟨3, ![16, 2048, 1024]⟩
abbrev S16x1x2048 : Shape := ⟨3, ![16, 1, 2048]⟩
abbrev S4x16x1024x1024 : Shape := ⟨4, ![4, 16, 1024, 1024]⟩
abbrev S16x8x256x1024 : Shape := ⟨4, ![16, 8, 256, 1024]⟩
abbrev S1x16x1024x1024 : Shape := ⟨4, ![1, 16, 1024, 1024]⟩
abbrev S16x1024x1024 : Shape := ⟨3, ![16, 1024, 1024]⟩
abbrev S_ : Shape := ⟨0, ![]⟩
abbrev S16x8x256 : Shape := ⟨3, ![16, 8, 256]⟩
abbrev S16x8x256x1 : Shape := ⟨4, ![16, 8, 256, 1]⟩
abbrev S16x8x256x8x128 : Shape := ⟨5, ![16, 8, 256, 8, 128]⟩
abbrev S16x8x8x256x128 : Shape := ⟨5, ![16, 8, 8, 256, 128]⟩
abbrev S16x8x8x264x128 : Shape := ⟨5, ![16, 8, 8, 264, 128]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x1x2048, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x2048x1024, .f32⟩
  | .hbm, ⟨6, _⟩ => ⟨S16x8x256x1024, .f32⟩
  | .hbm, ⟨7, _⟩ => ⟨S1x16x1024x1024, .f32⟩
  | .hbm, ⟨8, _⟩ => ⟨S16x1024x1024, .f32⟩
  | .hbm, ⟨9, _⟩ => ⟨S16x8x256x1024, .f32⟩
  | .hbm, ⟨10, _⟩ => ⟨S1x16x1024x1024, .f32⟩
  | .hbm, ⟨11, _⟩ => ⟨S16x1024x1024, .f32⟩
  | .hbm, ⟨12, _⟩ => ⟨S16x8x256x1024, .f32⟩
  | .hbm, ⟨13, _⟩ => ⟨S16x8x256x1024, .f32⟩
  | .hbm, ⟨14, _⟩ => ⟨S16x8x256x1024, .f32⟩
  | .hbm, ⟨15, _⟩ => ⟨S_, .f32⟩
  | .hbm, ⟨16, _⟩ => ⟨S16x8x256x1024, .f32⟩
  | .hbm, ⟨17, _⟩ => ⟨S16x8x256x1024, .f32⟩
  | .hbm, ⟨18, _⟩ => ⟨S_, .f32⟩
  | .hbm, ⟨19, _⟩ => ⟨S16x8x256x1024, .f32⟩
  | .hbm, ⟨20, _⟩ => ⟨S16x8x256x1024, .f32⟩
  | .hbm, ⟨21, _⟩ => ⟨S16x8x256x1024, .f32⟩
  | .hbm, ⟨22, _⟩ => ⟨S16x8x256x1024, .f32⟩
  | .hbm, ⟨23, _⟩ => ⟨S1x16x1024x1024, .f32⟩
  | .hbm, ⟨24, _⟩ => ⟨S16x1024x1024, .f32⟩
  | .hbm, ⟨25, _⟩ => ⟨S16x8x256x1024, .f32⟩
  | .hbm, ⟨26, _⟩ => ⟨S16x8x256, .f32⟩
  | .hbm, ⟨27, _⟩ => ⟨S16x8x256x1, .f32⟩
  | .hbm, ⟨28, _⟩ => ⟨S16x8x256x1024, .f32⟩
  | .hbm, ⟨29, _⟩ => ⟨S16x8x256x1024, .f32⟩
  | .hbm, ⟨30, _⟩ => ⟨S16x8x256x8x128, .f32⟩
  | .hbm, ⟨31, _⟩ => ⟨S16x8x8x256x128, .f32⟩
  | .hbm, ⟨32, _⟩ => ⟨S_, .i32⟩
  | .hbm, ⟨33, _⟩ => ⟨S_, .f32⟩
  | .hbm, ⟨34, _⟩ => ⟨S16x8x8x264x128, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call1_v0 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S8x6x1x1024 : Shape := ⟨4, ![8, 6, 1, 1024]⟩
abbrev S1024x3072 : Shape := ⟨2, ![1024, 3072]⟩
abbrev S16384x1024 : Shape := ⟨2, ![16384, 1024]⟩
abbrev S1x1024 : Shape := ⟨2, ![1, 1024]⟩
abbrev S16384x3072 : Shape := ⟨2, ![16384, 3072]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6x1x1024, .f32⟩
  | .hbm, ⟨3, _⟩ => ⟨S1024x3072, .f32⟩
  | .hbm, ⟨4, _⟩ => ⟨S16384x1024, .f32⟩
  | .hbm, ⟨5, _⟩ => ⟨S1x1024, .f32⟩
  | .hbm, ⟨6, _⟩ => ⟨S1024x3072, .bf16⟩
  | .hbm, ⟨7, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x3072, .bf16⟩
  | .local _ .vmem, ⟨8, _⟩ => ⟨S1024x3072, .f32⟩
  | .local _ .vmem, ⟨9, _⟩ => ⟨S1024x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S8x2048x1024 : Shape := ⟨3, ![8, 2048, 1024]⟩
abbrev S1024 : Shape := ⟨1, ![1024]⟩
abbrev S8x6x1x1024 : Shape := ⟨4, ![8, 6, 1, 1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x2048x3072 : Shape := ⟨3, ![8, 2048, 3072]⟩
abbrev S16384x3072 : Shape := ⟨2, ![16384, 3072]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6x1x1024, .f32⟩
  | .hbm, ⟨3, _⟩ => ⟨S1024x3072, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x1x1x1024, .f32⟩
  | .hbm, ⟨21, _⟩ => ⟨S8x1x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x2048x1024, .f32⟩
  | .hbm, ⟨26, _⟩ => ⟨S8x2048x1024, .f32⟩
  | .hbm, ⟨27, _⟩ => ⟨S8x1x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x3072, .f32⟩
  | .hbm, ⟨32, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== OutProj.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x6x1x1024 : Shape := ⟨4, ![8, 6, 1, 1024]⟩
abbrev S1024 : Shape := ⟨1, ![1024]⟩
abbrev S1024x16 : Shape := ⟨2, ![1024, 16]⟩
abbrev S1x1024 : Shape := ⟨2, ![1, 1024]⟩
abbrev S_ : Shape := ⟨0, ![]⟩
abbrev S1024x128 : Shape := ⟨2, ![1024, 128]⟩
abbrev S1024x256 : Shape := ⟨2, ![1024, 256]⟩
abbrev S8x16384x128 : Shape := ⟨3, ![8, 16384, 128]⟩
abbrev S8x16x2048 : Shape := ⟨3, ![8, 16, 2048]⟩
abbrev S1x512x512 : Shape := ⟨3, ![1, 512, 512]⟩
abbrev S512x1024 : Shape := ⟨2, ![512, 1024]⟩
abbrev S1x512x1024 : Shape := ⟨3, ![1, 512, 1024]⟩
abbrev S1x1x1x1024 : Shape := ⟨4, ![1, 1, 1, 1024]⟩
abbrev S1x4096x128 : Shape := ⟨3, ![1, 4096, 128]⟩
abbrev S1x16x512 : Shape := ⟨3, ![1, 16, 512]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S512x256 : Shape := ⟨2, ![512, 256]⟩
abbrev S1x128 : Shape := ⟨2, ![1, 128]⟩
abbrev S128x512 : Shape := ⟨2, ![128, 512]⟩
abbrev S16x512 : Shape := ⟨2, ![16, 512]⟩

abbrev nBuf : Space → Nat
  | .hbm => 20
  | .vmem => 22
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S1024x1024, .f32⟩
  | .hbm, ⟨3, _⟩ => ⟨S8x2048x1024, .f32⟩
  | .hbm, ⟨4, _⟩ => ⟨S8x6x1x1024, .f32⟩
  | .hbm, ⟨5, _⟩ => ⟨S1024, .f32⟩
  | .hbm, ⟨6, _⟩ => ⟨S1024x16, .f32⟩
  | .hbm, ⟨7, _⟩ => ⟨S1024x1024, .bf16⟩
  | .hbm, ⟨8, _⟩ => ⟨S1x1024, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S1024x256, .bf16⟩
  | .hbm, ⟨17, _⟩ => ⟨S8x2048x1024, .f32⟩
  | .hbm, ⟨18, _⟩ => ⟨S8x16384x128, .f32⟩
  | .hbm, ⟨19, _⟩ => ⟨S8x16x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1024x256, .bf16⟩
  | .local _ .vmem, ⟨16, _⟩ => ⟨S1x512x1024, .f32⟩
  | .local _ .vmem, ⟨17, _⟩ => ⟨S1x512x1024, .f32⟩
  | .local _ .vmem, ⟨18, _⟩ => ⟨S1x4096x128, .f32⟩
  | .local _ .vmem, ⟨19, _⟩ => ⟨S1x4096x128, .f32⟩
  | .local _ .vmem, ⟨20, _⟩ => ⟨S1x16x512, .f32⟩
  | .local _ .vmem, ⟨21, _⟩ => ⟨S1x16x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutProjIdeal.lean ====
variable {F : FTy → Type} [FloatOps F] [Named F]
def κ : String → Option EReal := fun
  | "mask" => some ⊥
  | _ => none
-- ==== OutProjRefIdeal.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x6x1x1024 : Shape := ⟨4, ![8, 6, 1, 1024]⟩
abbrev S1024 : Shape := ⟨1, ![1024]⟩
abbrev S1024x16 : Shape := ⟨2, ![1024, 16]⟩
abbrev S8x1x1x1024 : Shape := ⟨4, ![8, 1, 1, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x16 : Shape := ⟨3, ![8, 2048, 16]⟩
abbrev S8x16x2048 : Shape := ⟨3, ![8, 16, 2048]⟩
abbrev S8x16384x128 : Shape := ⟨3, ![8, 16384, 128]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S1024x1024, .f32⟩
  | .hbm, ⟨3, _⟩ => ⟨S8x2048x1024, .f32⟩
  | .hbm, ⟨4, _⟩ => ⟨S8x6x1x1024, .f32⟩
  | .hbm, ⟨5, _⟩ => ⟨S1024, .f32⟩
  | .hbm, ⟨6, _⟩ => ⟨S1024x16, .f32⟩
  | .hbm, ⟨7, _⟩ => ⟨S8x1x1x1024, .f32⟩
  | .hbm, ⟨8, _⟩ => ⟨S8x1x1024, .f32⟩
  | .hbm, ⟨9, _⟩ => ⟨S8x2048x1024, .bf16⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x1x1x1024, .f32⟩
  | .hbm, ⟨32, _⟩ => ⟨S8x1x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x2048x1024, .f32⟩
  | .hbm, ⟨37, _⟩ => ⟨S8x2048x1024, .f32⟩
  | .hbm, ⟨38, _⟩ => ⟨S8x1x1x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x2048x16, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S8x2048x1, .f32⟩
  | .hbm, ⟨49, _⟩ => ⟨S8x2048x16, .f32⟩
  | .hbm, ⟨50, _⟩ => ⟨S8x2048x16, .f32⟩
  | .hbm, ⟨51, _⟩ => ⟨S8x2048x16, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S8x2048x16, .f32⟩
  | .hbm, ⟨56, _⟩ => ⟨S8x2048x16, .f32⟩
  | .hbm, ⟨57, _⟩ => ⟨S8x16x2048, .f32⟩
  | .hbm, ⟨58, _⟩ => ⟨S8x16384x128, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Fnet.lean ====
abbrev S8x2048x1024 : Shape := ⟨3, ![8, 2048, 1024]⟩
abbrev S1024 : Shape := ⟨1, ![1024]⟩
abbrev S8x6x1x1024 : Shape := ⟨4, ![8, 6, 1, 1024]⟩
abbrev S1024x1024 : Shape := ⟨2, ![1024, 1024]⟩
abbrev S1024x16 : Shape := ⟨2, ![1024, 16]⟩
abbrev S256x512 : Shape := ⟨2, ![256, 512]⟩
abbrev S2048x2048 : Shape := ⟨2, ![2048, 2048]⟩
abbrev S1x1024 : Shape := ⟨2, ![1, 1024]⟩
abbrev S_ : Shape := ⟨0, ![]⟩
abbrev S1024x128 : Shape := ⟨2, ![1024, 128]⟩
abbrev S1024x256 : Shape := ⟨2, ![1024, 256]⟩
abbrev S8x16384x128 : Shape := ⟨3, ![8, 16384, 128]⟩
abbrev S8x16x2048 : Shape := ⟨3, ![8, 16, 2048]⟩
abbrev S1x2048x1024 : Shape := ⟨3, ![1, 2048, 1024]⟩
abbrev S1x1x1x1024 : Shape := ⟨4, ![1, 1, 1, 1024]⟩
abbrev S512x2048 : Shape := ⟨2, ![512, 2048]⟩
abbrev S1x512x1024 : Shape := ⟨3, ![1, 512, 1024]⟩
abbrev S1x4096x128 : Shape := ⟨3, ![1, 4096, 128]⟩
abbrev S1x16x512 : Shape := ⟨3, ![1, 16, 512]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S512x128 : Shape := ⟨2, ![512, 128]⟩
abbrev S1x512x128 : Shape := ⟨3, ![1, 512, 128]⟩
abbrev S1x128 : Shape := ⟨2, ![1, 128]⟩
abbrev S128x512 : Shape := ⟨2, ![128, 512]⟩
abbrev S16x512 : Shape := ⟨2, ![16, 512]⟩

abbrev nBuf : Space → Nat
  | .hbm => 23
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6x1x1024, .f32⟩
  | .hbm, ⟨3, _⟩ => ⟨S1024x1024, .f32⟩
  | .hbm, ⟨4, _⟩ => ⟨S1024, .f32⟩
  | .hbm, ⟨5, _⟩ => ⟨S1024x16, .f32⟩
  | .hbm, ⟨6, _⟩ => ⟨S256x512, .bf16⟩
  | .hbm, ⟨7, _⟩ => ⟨S2048x2048, .bf16⟩
  | .hbm, ⟨8, _⟩ => ⟨S2048x2048, .bf16⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x128, .f32⟩
  | .hbm, ⟨17, _⟩ => ⟨S1024x128, .f32⟩
  | .hbm, ⟨18, _⟩ => ⟨S1024x128, .bf16⟩
  | .hbm, ⟨19, _⟩ => ⟨S1024x256, .bf16⟩
  | .hbm, ⟨20, _⟩ => ⟨S8x2048x1024, .f32⟩
  | .hbm, ⟨21, _⟩ => ⟨S8x16384x128, .f32⟩
  | .hbm, ⟨22, _⟩ => ⟨S8x16x2048, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S256x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1024x1024, .bf16⟩
  | .local _ .vmem, ⟨13, _⟩ => ⟨S1x1x1x1024, .f32⟩
  | .local _ .vmem, ⟨14, _⟩ => ⟨S1x1x1x1024, .f32⟩
  | .local _ .vmem, ⟨15, _⟩ => ⟨S1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1024x256, .bf16⟩
  | .local _ .vmem, ⟨21, _⟩ => ⟨S1x512x1024, .f32⟩
  | .local _ .vmem, ⟨22, _⟩ => ⟨S1x512x1024, .f32⟩
  | .local _ .vmem, ⟨23, _⟩ => ⟨S1x4096x128, .f32⟩
  | .local _ .vmem, ⟨24, _⟩ => ⟨S1x4096x128, .f32⟩
  | .local _ .vmem, ⟨25, _⟩ => ⟨S1x16x512, .f32⟩
  | .local _ .vmem, ⟨26, _⟩ => ⟨S1x16x512, .f32⟩
  | .local _ .vmem, ⟨27, _⟩ => ⟨S2048x1024, .bf16⟩
  | .local _ .vmem, ⟨28, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v16 : BitVec 32 := Scalar.muli arg1 c512_i32
  v16
def k0_off1 (i : grid0.Coords) : Fin 3 → Nat :=
  let c0_13 : Index := 0#32
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_14 : Index := 0#32
  ![0, v18.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4096x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FnetIdeal.lean ====
variable {F : FTy → Type} [FloatOps F] [Named F]
def κ : String → Option EReal := fun
  | "mask" => some ⊥
  | _ => none
-- ==== FnetRefIdeal.lean ====
abbrev S8x2048x1024 : Shape := ⟨3, ![8, 2048, 1024]⟩
abbrev S1024 : Shape := ⟨1, ![1024]⟩
abbrev S8x6x1x1024 : Shape := ⟨4, ![8, 6, 1, 1024]⟩
abbrev S1024x1024 : Shape := ⟨2, ![1024, 1024]⟩
abbrev S1024x16 : Shape := ⟨2, ![1024, 16]⟩
abbrev S256x512 : Shape := ⟨2, ![256, 512]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x2048x4x256 : Shape := ⟨4, ![8, 2048, 4, 256]⟩
abbrev S256x256 : Shape := ⟨2, ![256, 256]⟩
abbrev S8x4x256x2048 : Shape := ⟨4, ![8, 4, 256, 2048]⟩
abbrev S8x2048x16 : Shape := ⟨3, ![8, 2048, 16]⟩
abbrev S8x16x2048 : Shape := ⟨3, ![8, 16, 2048]⟩
abbrev S8x16384x128 : Shape := ⟨3, ![8, 16384, 128]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x6x1x1024, .f32⟩
  | .hbm, ⟨3, _⟩ => ⟨S1024x1024, .f32⟩
  | .hbm, ⟨4, _⟩ => ⟨S1024, .f32⟩
  | .hbm, ⟨5, _⟩ => ⟨S1024x16, .f32⟩
  | .hbm, ⟨6, _⟩ => ⟨S256x512, .bf16⟩
  | .hbm, ⟨7, _⟩ => ⟨S2048x2048, .bf16⟩
  | .hbm, ⟨8, _⟩ => ⟨S2048x2048, .bf16⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x1x1x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S8x2048x4x256, .f32⟩
  | .hbm, ⟨37, _⟩ => ⟨S256x512, .f32⟩
  | .hbm, ⟨38, _⟩ => ⟨S2048x2048, .f32⟩
  | .hbm, ⟨39, _⟩ => ⟨S2048x2048, .f32⟩
  | .hbm, ⟨40, _⟩ => ⟨S256x256, .f32⟩
  | .hbm, ⟨41, _⟩ => ⟨S8x2048x4x256, .f32⟩
  | .hbm, ⟨42, _⟩ => ⟨S8x4x256x2048, .f32⟩
  | .hbm, ⟨43, _⟩ => ⟨S8x2048x4x256, .f32⟩
  | .hbm, ⟨44, _⟩ => ⟨S256x256, .f32⟩
  | .hbm, ⟨45, _⟩ => ⟨S8x2048x4x256, .f32⟩
  | .hbm, ⟨46, _⟩ => ⟨S8x4x256x2048, .f32⟩
  | .hbm, ⟨47, _⟩ => ⟨S8x2048x4x256, .f32⟩
  | .hbm, ⟨48, _⟩ => ⟨S8x2048x4x256, .f32⟩
  | .hbm, ⟨49, _⟩ => ⟨S8x1x1x1024, .f32⟩
  | .hbm, ⟨50, _⟩ => ⟨S8x1x1024, .f32⟩
  | .hbm, ⟨51, _⟩ => ⟨S_, .f32⟩
  | .hbm, ⟨52, _⟩ => ⟨S8x2048x4x256, .f32⟩
  | .hbm, ⟨53, _⟩ => ⟨S8x2048x4x256, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S8x1x1x1024, .f32⟩
  | .hbm, ⟨76, _⟩ => ⟨S8x1x1024, .f32⟩
  | .hbm, ⟨77, _⟩ => ⟨S_, .f32⟩
  | .hbm, ⟨78, _⟩ => ⟨S8x1x1024, .f32⟩
  | .hbm, ⟨79, _⟩ => ⟨S8x1x1024, .f32⟩
  | .hbm, ⟨80, _⟩ => ⟨S8x2048x1024, .f32⟩
  | .hbm, ⟨81, _⟩ => ⟨S8x2048x1024, .f32⟩
  | .hbm, ⟨82, _⟩ => ⟨S8x1x1x1024, .f32⟩
  | .hbm, ⟨83, _⟩ => ⟨S8x1x1024, .f32⟩
  | .hbm, ⟨84, _⟩ => ⟨S8x2048x1024, .f32⟩
  | .hbm, ⟨85, _⟩ => ⟨S8x2048x1024, .f32⟩
  | .hbm, ⟨86, _⟩ => ⟨S8x2048x16, .f32⟩
  | .hbm, ⟨87, _⟩ => ⟨S_, .f32⟩
  | .hbm, ⟨88, _⟩ => ⟨S8x2048, .f32⟩
  | .hbm, ⟨89, _⟩ => ⟨S_, .f32⟩
  | .hbm, ⟨90, _⟩ => ⟨S8x2048, .f32⟩
  | .hbm, ⟨91, _⟩ => ⟨S8x2048, .f32⟩
  | .hbm, ⟨92, _⟩ => ⟨S8x2048x1, .f32⟩
  | .hbm, ⟨93, _⟩ => ⟨S8x2048x16, .f32⟩
  | .hbm, ⟨94, _⟩ => ⟨S8x2048x16, .f32⟩
  | .hbm, ⟨95, _⟩ => ⟨S8x2048x16, .f32⟩
  | .hbm, ⟨96, _⟩ => ⟨S_, .f32⟩
  | .hbm, ⟨97, _⟩ => ⟨S8x2048, .f32⟩
  | .hbm, ⟨98, _⟩ => ⟨S8x2048x1, .f32⟩
  | .hbm, ⟨99, _⟩ => ⟨S8x2048x16, .f32⟩
  | .hbm, ⟨100, _⟩ => ⟨S8x2048x16, .f32⟩
  | .hbm, ⟨101, _⟩ => ⟨S8x16x2048, .f32⟩
  | .hbm, ⟨102, _⟩ => ⟨S8x16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== AttnConv.lean ====
abbrev S8x2048x3072 : Shape := ⟨3, ![8, 2048, 3072]⟩
abbrev S2x64 : Shape := ⟨2, ![2, 64]⟩
abbrev S16x3x4x64x384 : Shape := ⟨5, ![16, 3, 4, 64, 384]⟩
abbrev S3x512 : Shape := ⟨2, ![3, 512]⟩
abbrev S1x2x1x64 : Shape := ⟨4, ![1, 2, 1, 64]⟩
abbrev S1x2x2x64 : Shape := ⟨4, ![1, 2, 2, 64]⟩
abbrev S2x128 : Shape := ⟨2, ![2, 128]⟩
abbrev S8x2048x512 : Shape := ⟨3, ![8, 2048, 512]⟩
abbrev S1x2048x128 : Shape := ⟨3, ![1, 2048, 128]⟩
abbrev S2x3x4x64x384 : Shape := ⟨5, ![2, 3, 4, 64, 384]⟩
abbrev S3x128 : Shape := ⟨2, ![3, 128]⟩
abbrev S2048x128 : Shape := ⟨2, ![2048, 128]⟩
abbrev S2x4x512x128 : Shape := ⟨4, ![2, 4, 512, 128]⟩
abbrev S4x1024x128 : Shape := ⟨3, ![4, 1024, 128]⟩
abbrev S2x4x1024x128 : Shape := ⟨4, ![2, 4, 1024, 128]⟩
abbrev S2064x128 : Shape := ⟨2, ![2064, 128]⟩
abbrev S1x128 : Shape := ⟨2, ![1, 128]⟩
abbrev S2048 : Shape := ⟨1, ![2048]⟩
abbrev S2048x1 : Shape := ⟨2, ![2048, 1]⟩
abbrev S16x128 : Shape := ⟨2, ![16, 128]⟩
abbrev S1x1x16x128 : Shape := ⟨4, ![1, 1, 16, 128]⟩
abbrev S32x128 : Shape := ⟨2, ![32, 128]⟩
abbrev S1x32x128 : Shape := ⟨3, ![1, 32, 128]⟩
abbrev S1x1x32x128 : Shape := ⟨4, ![1, 1, 32, 128]⟩
abbrev S1x1x64x128 : Shape := ⟨4, ![1, 1, 64, 128]⟩
abbrev S64x128 : Shape := ⟨2, ![64, 128]⟩
abbrev S1x384x128 : Shape := ⟨3, ![1, 384, 128]⟩
abbrev S384x128 : Shape := ⟨2, ![384, 128]⟩
abbrev S64x384 : Shape := ⟨2, ![64, 384]⟩
abbrev S1x1x1x64x384 : Shape := ⟨5, ![1, 1, 1, 64, 384]⟩
abbrev S1024x384 : Shape := ⟨2, ![1024, 384]⟩
abbrev S1024 : Shape := ⟨1, ![1024]⟩
abbrev S1024x1 : Shape := ⟨2, ![1024, 1]⟩
abbrev S1x1x384x128 : Shape := ⟨4, ![1, 1, 384, 128]⟩
abbrev S1024x128 : Shape := ⟨2, ![1024, 128]⟩
abbrev S1x16x128 : Shape := ⟨3, ![1, 16, 128]⟩
abbrev S8x128 : Shape := ⟨2, ![8, 128]⟩

abbrev nBuf : Space → Nat
  | .hbm => 9
  | .vmem => 27
  | .smem => 0
  | _ => 0

abbrev bufTy : (tb : Table) → Fin (tcTables nBuf tb) → BufTy
  | .hbm, ⟨0, _⟩ => ⟨S8x2048x3072, .f32⟩
  | .hbm, ⟨1, _⟩ => ⟨S2x64, .f32⟩
  | .hbm, ⟨2, _⟩ => ⟨S16x3x4x64x384, .f32⟩
  | .hbm, ⟨3, _⟩ => ⟨S3x512, .f32⟩
  | .hbm, ⟨4, _⟩ => ⟨S1x2x1x64, .f32⟩
  | .hbm, ⟨5, _⟩ => ⟨S1x2x2x64, .f32⟩
  | .hbm, ⟨6, _⟩ => ⟨S2x128, .f32⟩
  | .hbm, ⟨7, _⟩ => ⟨S8x2048x512, .bf16⟩
  | .hbm, ⟨8, _⟩ => ⟨S8x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S2x128, .f32⟩
  | .local _ .vmem, ⟨13, _⟩ => ⟨S2x3x4x64x384, .f32⟩
  | .local _ .vmem, ⟨14, _⟩ => ⟨S2x3x4x64x384, .f32⟩
  | .local _ .vmem, ⟨15, _⟩ => ⟨S3x128, .f32⟩
  | .local _ .vmem, ⟨16, _⟩ => ⟨S3x128, .f32⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S2048x128, .f32⟩
  | .local _ .vmem, ⟨22, _⟩ => ⟨S2048x128, .f32⟩
  | .local _ .vmem, ⟨23, _⟩ => ⟨S2x4x512x128, .bf16⟩
  | .local _ .vmem, ⟨24, _⟩ => ⟨S4x1024x128, .bf16⟩
  | .local _ .vmem, ⟨25, _⟩ => ⟨S2x4x1024x128, .bf16⟩
  | .local _ .vmem, ⟨26, _⟩ => ⟨S2064x128, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  let c0_i32_4 : BitVec 32 := 0#32
  ![v0.toNat, c0_i32_0.toNat, c0_i32_1.toNat, c0_i32_2.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x3x4x64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnConvRefIdeal.lean ====
abbrev S8x2048x3072 : Shape := ⟨3, ![8, 2048, 3072]⟩
abbrev S2x64 : Shape := ⟨2, ![2, 64]⟩
abbrev S16x3x4x64x384 : Shape := ⟨5, ![16, 3, 4, 64, 384]⟩
abbrev S3x512 : Shape := ⟨2, ![3, 512]⟩
abbrev S8x2048x512 : Shape := ⟨3, ![8, 2048, 512]⟩
abbrev S_ : Shape := ⟨0, ![]⟩
abbrev S8x2049x512 : Shape := ⟨3, ![8, 2049, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S2x64, .f32⟩
  | .hbm, ⟨2, _⟩ => ⟨S16x3x4x64x384, .f32⟩
  | .hbm, ⟨3, _⟩ => ⟨S3x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S_, .i32⟩
  | .hbm, ⟨12, _⟩ => ⟨S_, .f32⟩
  | .hbm, ⟨13, _⟩ => ⟨S8x2049x512, .f32⟩
  | .hbm, ⟨14, _⟩ => ⟨S8x2048x512, .f32⟩
  | .hbm, ⟨15, _⟩ => ⟨S_, .i32⟩
  | .hbm, ⟨16, _⟩ => ⟨S_, .f32⟩
  | .hbm, ⟨17, _⟩ => ⟨S8x2049x512, .f32⟩
  | .hbm, ⟨18, _⟩ => ⟨S8x2048x512, .f32⟩
  | .hbm, ⟨19, _⟩ => ⟨S1x512, .f32⟩
  | .hbm, ⟨20, _⟩ => ⟨S512, .f32⟩
  | .hbm, ⟨21, _⟩ => ⟨S1x1x512, .f32⟩
  | .hbm, ⟨22, _⟩ => ⟨S8x2048x512, .f32⟩
  | .hbm, ⟨23, _⟩ => ⟨S8x2048x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .bf16⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.FfnBlock.lean ====
module

public import proofs.«01_k».proof.Defs
public import proofs.«01_k».proof.Proof.Gen.FfnIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen

/-- The gated hidden value of row `r` at feature `f`. -/
def hid (x : Vec Ideal S1x1024x1024 .bf16) (wg wu : Vec Ideal S1024x1024 .bf16) (r f : Fin 1024) : EReal :=
  (∑ k : Fin 1024, x (ix3 0 r k) * wg (ix2 k f))
    * Ideal.logistic (∑ k : Fin 1024, x (ix3 0 r k) * wg (ix2 k f))
    * ∑ k : Fin 1024, x (ix3 0 r k) * wu (ix2 k f)

/-- One load of part of a buffer that one store filled as a whole reads the stored array there. -/
theorem readCov_whole_ld {sig : RefSig} {κ : Kind} {sp : Space} {e : EltTy} {S : Shape} {off : Fin S.rank → Nat}
    (v : View sig κ sp S e) (h : off = fun _ => 0)
    (inb : ∀ a, off a + S.size a ≤ S.size a) (w : S.Idx → Elt Ideal e) (r : Rect S) :
    v.readCov [(⟨Rect.unit off S.size inb, w⟩ : View.Piece (Elt Ideal) S e)] r.toLoadRect = View.ld w r := by
  rw [View.readCov_eq_canon_ld _ _ _ (fun y => ⟨_, List.mem_singleton_self _, View.mem_set_unit_zero h inb y⟩),
    View.canon_unit_zero h]

/-- The product of the hidden rows with the output weights, from its two halves of 512 features. -/
theorem pay5_at (x : Vec Ideal S1x1024x1024 .bf16) (wg wu wd : Vec Ideal S1024x1024 .bf16)
    (g0 u0 : Vec Ideal S1024x512 .bf16) (d0 : Vec Ideal S512x1024 .bf16)
    (g1 u1 : Vec Ideal S1024x512 .bf16) (d1 : Vec Ideal S512x1024 .bf16)
    (hg0 : ∀ (k : Fin 1024) (f : Fin 512), g0 (ix2 k f) = wg (ix2 k ⟨f, by omega⟩))
    (hu0 : ∀ (k : Fin 1024) (f : Fin 512), u0 (ix2 k f) = wu (ix2 k ⟨f, by omega⟩))
    (hd0 : ∀ (f : Fin 512) (k : Fin 1024), d0 (ix2 f k) = wd (ix2 ⟨f, by omega⟩ k))
    (hg1 : ∀ (k : Fin 1024) (f : Fin 512), g1 (ix2 k f) = wg (ix2 k ⟨512 + f, by omega⟩))
    (hu1 : ∀ (k : Fin 1024) (f : Fin 512), u1 (ix2 k f) = wu (ix2 k ⟨512 + f, by omega⟩))
    (hd1 : ∀ (f : Fin 512) (k : Fin 1024), d1 (ix2 f k) = wd (ix2 ⟨512 + f, by omega⟩ k))
    (r q : Fin 1024) :
    k0_pay5 (F := Ideal) x g0 u0 d0 g1 u1 d1 (ix2 r q) = ∑ f : Fin 1024, hid x wg wu r f * wd (ix2 f q) := by
  pointwise [k0_pay5, hg0, hu0, hd0, hg1, hu1, hd1]
  rw [Fin.sum_univ_two_halves 512 512 rfl]
  rfl

/-- A product of a table's entry and its row's gate depends on the row and column numbers alone. -/
theorem slot_congr (T : Vec Ideal S1024x1024 .f32) (g : Vec Ideal S1x1x1024 .f32) {r q r' q' : Fin 1024}
    (hr : (r : ℕ) = r') (hq : (q : ℕ) = q') : T (ix2 r q) * g (ix3 0 0 r) = T (ix2 r' q') * g (ix3 0 0 r') := by
  obtain rfl := Fin.ext hr
  obtain rfl := Fin.ext hq
  rfl

/-- What one grid point leaves in its output block: the expert's values of the block's four sequences, each times its
    slot's gate, cut into eight planes of 128 channels; rows 256 to 263 of every plane are zero. -/
def blk (x : Vec Ideal S1x1024x1024 .bf16) (g : Vec Ideal S1x1x1024 .f32) (wg wu wd : Vec Ideal S1024x1024 .bf16)
    (y : S1x4x8x264x128.Idx) : EReal :=
  if hs : (y 3 : ℕ) < 256 then
    (∑ f : Fin 1024, hid x wg wu ⟨256 * (y 1 : ℕ) + (y 3 : ℕ), by have : (y 1 : ℕ) < 4 := (y 1).isLt; omega⟩ f
        * wd (ix2 f ⟨128 * (y 2 : ℕ) + (y 4 : ℕ), by have : (y 2 : ℕ) < 8 := (y 2).isLt; have : (y 4 : ℕ) < 128 := (y 4).isLt; omega⟩))
      * g (ix3 0 0 ⟨256 * (y 1 : ℕ) + (y 3 : ℕ), by have : (y 1 : ℕ) < 4 := (y 1).isLt; omega⟩)
  else 0

variable (c : Dev nD) (i : grid0.Coords) (arg2 : Memref sig .tc .vmem S1x1024x1024 .bf16) (harg2 : arg2.IsWhole) (arg3 : Memref sig .tc .vmem S1x1x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x4x8x264x128 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
  (x0 : Vec Ideal S1x1024x1024 .bf16) (x1 : Vec Ideal S1x1x1024 .f32) (x2 : Vec Ideal S1x1x1024x1024 .f32) (x3 : Vec Ideal S1x1x1024x1024 .f32) (x4 : Vec Ideal S1x1x1024x1024 .f32)

/-- A point that finds the weights in scratch leaves `blk` of its blocks and of that scratch. -/
theorem out_B (hc0 : ¬ cond0_0 i) (xs0 xs1 xs2 : Vec Ideal S1024x1024 .bf16)
    (y : S1x4x8x264x128.Idx) :
    out0_B_5 c i arg2 harg2 arg3 harg3 arg4 harg4 arg5 harg5 arg6 harg6 arg7 harg7 arg8 harg8 arg9 harg9 arg10 harg10 hc0 x0 x1 x2 x3 x4 xs0 xs1 xs2 y
      = blk x0 x1 xs0 xs1 xs2 y := by
  frame_out
  generalize hT : k0_pay5 (F := Ideal) _ _ _ _ _ _ _ = T
  have hTat : ∀ r q : Fin 1024, T (ix2 r q) = ∑ f : Fin 1024, hid x0 xs0 xs1 r f * xs2 (ix2 f q) := by
    intro r q
    rw [← hT]
    apply pay5_at <;> intro k f <;> pointwise
  clear hT
  have y1b : (y 1 : ℕ) < 4 := (y 1).isLt
  have y2b : (y 2 : ℕ) < 8 := (y 2).isLt
  have y4b : (y 4 : ℕ) < 128 := (y 4).isLt
  unfold blk
  by_cases y3 : (y 3 : ℕ) < 256
  · rw [dif_pos y3, ← hTat]
    clear hTat
    canon_tiles x h using View.cover_of_tiledBy _ ![1, 1, 1, 8, 128] (by sl_kernel_rfl) _
    all_goals first
      | exact absurd y3 (by omega)
      | (open_payloads; pointwise; exact slot_congr T x1 (by dsimp only; omega) (by dsimp only; omega))
  · rw [dif_neg y3]
    clear hTat
    canon_tiles x h using View.cover_of_tiledBy _ ![1, 1, 1, 8, 128] (by sl_kernel_rfl) _
    all_goals first
      | exact absurd (show (y 3 : ℕ) < 256 by omega) y3
      | (open_payloads; pointwise)

/-- A point that first fills the scratch leaves `blk` of its blocks, the weights its own. -/
theorem out_A (hc0 : cond0_0 i)
    (y : S1x4x8x264x128.Idx) :
    out0_A_5 c i arg2 harg2 arg3 harg3 arg4 harg4 arg5 harg5 arg6 harg6 arg7 harg7 arg8 harg8 arg9 harg9 arg10 harg10 hc0 x0 x1 x2 x3 x4 y
      = blk x0 x1 (k0_pay2 (F := Ideal) x2) (k0_pay3 (F := Ideal) x3) (k0_pay4 (F := Ideal) x4) y := by
  frame_out
  simp only [readCov_whole_ld (S := S1024x1024) (off := ![0, 0]) _ (by decide)]
  generalize hT : k0_pay5 (F := Ideal) _ _ _ _ _ _ _ = T
  have hTat : ∀ r q : Fin 1024, T (ix2 r q) = ∑ f : Fin 1024, hid x0 (k0_pay2 (F := Ideal) x2) (k0_pay3 (F := Ideal) x3) r f * k0_pay4 (F := Ideal) x4 (ix2 f q) := by
    intro r q
    rw [← hT]
    apply pay5_at <;> intro k f <;> pointwise
  clear hT
  have y1b : (y 1 : ℕ) < 4 := (y 1).isLt
  have y2b : (y 2 : ℕ) < 8 := (y 2).isLt
  have y4b : (y 4 : ℕ) < 128 := (y 4).isLt
  unfold blk
  by_cases y3 : (y 3 : ℕ) < 256
  · rw [dif_pos y3, ← hTat]
    clear hTat
    canon_tiles x h using View.cover_of_tiledBy _ ![1, 1, 1, 8, 128] (by sl_kernel_rfl) _
    all_goals first
      | exact absurd y3 (by omega)
      | (open_payloads; pointwise; exact slot_congr T x1 (by dsimp only; omega) (by dsimp only; omega))
  · rw [dif_neg y3]
    clear hTat
    canon_tiles x h using View.cover_of_tiledBy _ ![1, 1, 1, 8, 128] (by sl_kernel_rfl) _
    all_goals first
      | exact absurd (show (y 3 : ℕ) < 256 by omega) y3
      | (open_payloads; pointwise)

/-- It leaves in scratch buffer 0 the weights of its block. -/
theorem scratch_A_0 (hc0 : cond0_0 i) :
    sout0_A_0 c i arg2 harg2 arg3 harg3 arg4 harg4 arg5 harg5 arg6 harg6 arg7 harg7 arg8 harg8 arg9 harg9 arg10 harg10 hc0 x0 x1 x2 x3 x4
      = k0_pay2 (F := Ideal) x2 := by
  frame_out

/-- It leaves in scratch buffer 1 the weights of its block. -/
theorem scratch_A_1 (hc0 : cond0_0 i) :
    sout0_A_1 c i arg2 harg2 arg3 harg3 arg4 harg4 arg5 harg5 arg6 harg6 arg7 harg7 arg8 harg8 arg9 harg9 arg10 harg10 hc0 x0 x1 x2 x3 x4
      = k0_pay3 (F := Ideal) x3 := by
  frame_out

/-- It leaves in scratch buffer 2 the weights of its block. -/
theorem scratch_A_2 (hc0 : cond0_0 i) :
    sout0_A_2 c i arg2 harg2 arg3 harg3 arg4 harg4 arg5 harg5 arg6 harg6 arg7 harg7 arg8 harg8 arg9 harg9 arg10 harg10 hc0 x0 x1 x2 x3 x4
      = k0_pay4 (F := Ideal) x4 := by
  frame_out

end Cert.FfnIdeal.Block
end
-- ==== Proof.FfnFinal.lean ====
module

public import proofs.«01_k».proof.Proof.FfnBlock
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen

/-- The gated hidden value of expert `e` at row `r` and feature `f`. -/
def hidden (x : Vec Ideal S16x2048x1024 .bf16) (wg wu : Vec Ideal S4x16x1024x1024 .f32) (e : Fin 16) (r : Fin 2048)
    (f : Fin 1024) : EReal :=
  (∑ k : Fin 1024, x (ix3 e r k) * wg (ix4 0 e k f))
    * Ideal.logistic (∑ k : Fin 1024, x (ix3 e r k) * wg (ix4 0 e k f))
    * ∑ k : Fin 1024, x (ix3 e r k) * wu (ix4 0 e k f)

/-- The array the call returns: at expert `e`, sequence `b`, plane `p`, slot `s`, lane `l` the expert's value of row
    `256 b + s` at channel `128 p + l`, times that slot's gate; zero in the rows 256 to 263. -/
def value (x : Vec Ideal S16x2048x1024 .bf16) (g : Vec Ideal S16x1x2048 .f32) (wg wu wd : Vec Ideal S4x16x1024x1024 .f32)
    (e : Fin 16) (b p : Fin 8) (s : Fin 264) (l : Fin 128) : EReal :=
  if hs : (s : ℕ) < 256 then
    (∑ f : Fin 1024, hidden x wg wu e ⟨256 * (b : ℕ) + (s : ℕ), by omega⟩ f
        * wd (ix4 0 e f ⟨128 * (p : ℕ) + (l : ℕ), by omega⟩))
      * g (ix3 e 0 ⟨256 * (b : ℕ) + (s : ℕ), by omega⟩)
  else 0

variable (m : (ℓ : Loc nD τ sig) → Buf (Elt Ideal) ℓ)

theorem idx0 : ∀ t : Fin grid0.N, win0_0.index t 0 = t.val / 2 ∧ win0_0.index t 1 = t.val % 2 ∧ win0_0.index t 2 = 0 := by decide +kernel
theorem idx1 : ∀ t : Fin grid0.N, win0_1.index t 0 = t.val / 2 ∧ win0_1.index t 1 = 0 ∧ win0_1.index t 2 = t.val % 2 := by decide +kernel
theorem idx2 : ∀ t : Fin grid0.N, win0_2.index t 0 = 0 ∧ win0_2.index t 1 = t.val / 2 ∧ win0_2.index t 2 = 0 ∧ win0_2.index t 3 = 0 := by decide +kernel
theorem idx3 : ∀ t : Fin grid0.N, win0_3.index t 0 = 0 ∧ win0_3.index t 1 = t.val / 2 ∧ win0_3.index t 2 = 0 ∧ win0_3.index t 3 = 0 := by decide +kernel
theorem idx4 : ∀ t : Fin grid0.N, win0_4.index t 0 = 0 ∧ win0_4.index t 1 = t.val / 2 ∧ win0_4.index t 2 = 0 ∧ win0_4.index t 3 = 0 := by decide +kernel
theorem idx5 : ∀ t : Fin grid0.N, win0_5.index t 0 = t.val / 2 ∧ win0_5.index t 1 = t.val % 2 ∧ win0_5.index t 2 = 0 ∧ win0_5.index t 3 = 0 ∧ win0_5.index t 4 = 0 := by decide +kernel

/-- Two points of one expert read the same weights through window 2. -/
theorem weights2 (c : Dev nD) (t t' : Fin cfg0.N) (h : t.val / 2 = t'.val / 2) : iblk m c 2 t = iblk m c 2 t' := by
  funext x
  blk_point [iblk, V, idx2 t, idx2 t']

/-- Two points of one expert read the same weights through window 3. -/
theorem weights3 (c : Dev nD) (t t' : Fin cfg0.N) (h : t.val / 2 = t'.val / 2) : iblk m c 3 t = iblk m c 3 t' := by
  funext x
  blk_point [iblk, V, idx3 t, idx3 t']

/-- Two points of one expert read the same weights through window 4. -/
theorem weights4 (c : Dev nD) (t t' : Fin cfg0.N) (h : t.val / 2 = t'.val / 2) : iblk m c 4 t = iblk m c 4 t' := by
  funext x
  blk_point [iblk, V, idx4 t, idx4 t']

/-- What a point leaves in the output's buffer is `blk` of its blocks, whichever case it is: the weights in scratch are the
    ones of the point's own expert. -/
theorem point (c : Dev nD) (t : Fin cfg0.N) (y : S1x4x8x264x128.Idx) :
    (outsAt0 m c t.val t.isLt).1 y
      = blk (iblk m c 0 t) (iblk m c 1 t) (k0_pay2 (F := Ideal) (iblk m c 2 t)) (k0_pay3 (F := Ideal) (iblk m c 3 t))
          (k0_pay4 (F := Ideal) (iblk m c 4 t)) y := by
  by_cases h : t.val % 2 = 0
  · rw [outsAt0_A m c t h]
    dsimp only
    rw [out_A]
  · have hN : cfg0.N = 32 := N_0
    have ht := t.isLt
    have h' : (t.val - 1) % 2 = 0 := by omega
    have e := outsAt0_A m c ⟨t.val - 1, by omega⟩ h'
    dsimp only at e
    rw [outsAt0_B m c t h]
    dsimp only
    rw [out_B, e]
    dsimp only
    rw [scratch_A_0, scratch_A_1, scratch_A_2, weights2 m c _ t (by dsimp only; omega), weights3 m c _ t (by dsimp only; omega),
      weights4 m c _ t (by dsimp only; omega)]

/-- `blk` of a point's blocks is `value` of the arrays where the point's block lies. -/
theorem blk_value (c : Dev nD) (t : Fin cfg0.N) (y : S1x4x8x264x128.Idx) (e : Fin 16) (b p : Fin 8) (s : Fin 264) (l : Fin 128)
    (he : (e : ℕ) = t.val / 2) (hb : (b : ℕ) = t.val % 2 * 4 + (y 1 : ℕ)) (hp : (p : ℕ) = (y 2 : ℕ)) (hs : (s : ℕ) = (y 3 : ℕ))
    (hl : (l : ℕ) = (y 4 : ℕ)) :
    blk (iblk m c 0 t) (iblk m c 1 t) (k0_pay2 (F := Ideal) (iblk m c 2 t)) (k0_pay3 (F := Ideal) (iblk m c 3 t))
          (k0_pay4 (F := Ideal) (iblk m c 4 t)) y
      = value (m ((c : Thread nD τ).loc main_arg0)) (m ((c : Thread nD τ).loc main_arg1)) (m ((c : Thread nD τ).loc main_arg2))
        (m ((c : Thread nD τ).loc main_arg3)) (m ((c : Thread nD τ).loc main_arg4)) e b p s l := by
  unfold blk value hid hidden
  by_cases h3 : (y 3 : ℕ) < 256
  · rw [dif_pos h3, dif_pos (hs ▸ h3)]
    pointwise [k0_pay2, k0_pay3, k0_pay4]
    blk_point [iblk, V, idx0 t, idx1 t, idx2 t, idx3 t, idx4 t]
  · rw [dif_neg h3, dif_neg (hs ▸ h3)]

/-- The array the run leaves. -/
theorem final (c : Dev nD) : (dats m 0 c).arrAt 5 (cfgs 0).N
    = fun i => value (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2) (i 3) (i 4) := by
  refine (dats m 0 c).arrAt_eq_of_covers 5 _ (by decide +kernel) fun t hf y => ?_
  blk_simp
  rw [after0_5, point]
  refine blk_value m c t y _ _ _ _ _ ?_ ?_ ?_ ?_ ?_
  all_goals (blk_simp [idx5 t] <;> try omega)

/-- The run: the result array is `value` at every index, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = (fun i => value (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1) (i 2) (i 3) (i 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((Value.final5 m c).symm.trans (final m c)), (h c).2⟩) (Value.run m ρ)

end Cert.FfnIdeal.Block
end
-- ==== Proof.FfnAlgebraic.lean ====
module

public import proofs.«01_k».proof.Proof.FfnFinal
public import proofs.«01_k».proof.Proof.Gen.FfnRefIdeal.Run

@[expose] public section

set_option maxRecDepth 16384

noncomputable section

open Idealize.ShloMosaic Idealize.ShloMosaic.TcCoe Idealize.SL.Sem

namespace Cert.FfnRefIdeal.Read

open Cert.FfnRefIdeal Cert.FfnRefIdeal.Gen

/-- The reference's product of the tokens with one weight of the first layer. -/
def proj (x : FVec Ideal S16x2048x1024 .bf16) (w : FVec Ideal S4x16x1024x1024 .f32) : FVec Ideal S16x8x256x1024 .f32 :=
  Host.dotGeneral dot_S16x8x256x1024_S16x1024x1024_S16x8x256x1024_3_1_12_2_0_0 none (shapeCast S16x8x256x1024 (extf .f32 x bitsLt_bf16_f32) shapeCasts_S16x2048x1024_S16x8x256x1024) (shapeCast S16x1024x1024 (extractStridedSlice S1x16x1024x1024 ![0, 0, 0, 0] w slices_S4x16x1024x1024_S1x16x1024x1024_0_0_0_0) shapeCasts_S1x16x1024x1024_S16x1024x1024)

/-- The reference's gated hidden values. -/
def act (x : FVec Ideal S16x2048x1024 .bf16) (wg wu : FVec Ideal S4x16x1024x1024 .f32) : FVec Ideal S16x8x256x1024 .f32 :=
  (mulf (mulf (proj x wg) (Host.divf (broadcastInDim S16x8x256x1024 ![] bcast_S_S16x8x256x1024 (constant S_ .f32 0x3F800000#32)) (addf (broadcastInDim S16x8x256x1024 ![] bcast_S_S16x8x256x1024 (constant S_ .f32 0x3F800000#32)) (Host.exp (Host.negf (proj x wg)))))) (proj x wu))

/-- The reference's result. -/
def term (x : FVec Ideal S16x2048x1024 .bf16) (g : FVec Ideal S16x1x2048 .f32) (wg wu wd : FVec Ideal S4x16x1024x1024 .f32) :
    FVec Ideal S16x8x8x264x128 .f32 :=
  pad S16x8x8x264x128 ![0, 0, 0, 0, 0] ![0, 0, 0, 8, 0] ![0, 0, 0, 0, 0] (transpose S16x8x8x256x128 [0, 1, 3, 2, 4] (shapeCast S16x8x256x8x128 (mulf (Host.dotGeneral dot_S16x8x256x1024_S16x1024x1024_S16x8x256x1024_3_1_12_2_0_0 none (act x wg wu) (shapeCast S16x1024x1024 (extractStridedSlice S1x16x1024x1024 ![0, 0, 0, 0] wd slices_S4x16x1024x1024_S1x16x1024x1024_0_0_0_0) shapeCasts_S1x16x1024x1024_S16x1024x1024)) (broadcastInDim S16x8x256x1024 ![0, 1, 2, 3] bcast_S16x8x256x1_S16x8x256x1024_0_1_2_3 (broadcastInDim S16x8x256x1 ![0, 1, 2] bcast_S16x8x256_S16x8x256x1_0_1_2 (shapeCast S16x8x256 g shapeCasts_S16x1x2048_S16x8x256)))) shapeCasts_S16x8x256x1024_S16x8x256x8x128) transposes_S16x8x256x8x128_S16x8x8x256x128_0_1_3_2_4) (sitofp .f32 (constantI S_ 32 0#32)) pads_S16x8x8x256x128_S16x8x8x264x128_000_000_000_080_000 h_S_

/-- The product at an index: row `256 b + s` of expert `e` against feature `f`. -/
theorem proj_at (x : FVec Ideal S16x2048x1024 .bf16) (w : FVec Ideal S4x16x1024x1024 .f32) (e : Fin 16) (b : Fin 8) (s : Fin 256) (f : Fin 1024) :
    proj x w (ix4 e b s f) = ∑ k : Fin 1024, x (ix3 e ⟨256 * (b : ℕ) + (s : ℕ), by omega⟩ k) * w (ix4 0 e k f) := by
  pointwise [proj]
  refine Finset.sum_congr rfl fun k _ => ?_
  blk_point []

/-- The gated hidden value at an index. -/
theorem act_at (x : FVec Ideal S16x2048x1024 .bf16) (wg wu : FVec Ideal S4x16x1024x1024 .f32) (e : Fin 16) (b : Fin 8) (s : Fin 256) (f : Fin 1024) :
    act x wg wu (ix4 e b s f) = Cert.FfnIdeal.Block.hidden x wg wu e ⟨256 * (b : ℕ) + (s : ℕ), by omega⟩ f := by
  pointwise [act, proj_at]
  rfl

/-- The reference's result at an index. -/
theorem term_at (x : FVec Ideal S16x2048x1024 .bf16) (g : FVec Ideal S16x1x2048 .f32) (wg wu wd : FVec Ideal S4x16x1024x1024 .f32)
    (e : Fin 16) (b p : Fin 8) (s : Fin 264) (l : Fin 128) :
    term x g wg wu wd (ix5 e b p s l) = Cert.FfnIdeal.Block.value x g wg wu wd e b p s l := by
  unfold Cert.FfnIdeal.Block.value
  pointwise [term, act_at]
  by_cases hs : (s : ℕ) < 256
  · simp only [hs, ↓reduceDIte]
    blk_point []
  · simp only [hs, ↓reduceDIte]
    show (((0#32 : BitVec 32).toInt : ℝ) : EReal) = 0
    simp

end Cert.FfnRefIdeal.Read

namespace Cert.Proof

/-- Over the extended reals the expert call and its reference return the same array. -/
theorem algebraic_FfnIdeal_FfnRefIdeal : algebraic_FfnIdeal_FfnRefIdeal := by
  intro m ρ m' ρ' _ hagree
  refine ⟨_, Cert.FfnIdeal.Block.run m ρ, ?_⟩
  refine (θ_run Cert.FfnRefIdeal.defs _ _).mono (fun _ h c => ⟨?_, (h c).2⟩) (Cert.FfnRefIdeal.Value.run (F := Ideal) m' ρ')
  rw [(h c).1]
  simp only [hagree c]
  funext i
  obtain ⟨e, b, p, s, l, rfl⟩ : ∃ (e : Fin 16) (b p : Fin 8) (s : Fin 264) (l : Fin 128), i = ix5 e b p s l :=
    ⟨i 0, i 1, i 2, i 3, i 4, eq_ix5 i⟩
  exact Cert.FfnRefIdeal.Read.term_at _ _ _ _ _ e b p s l

end Cert.Proof
end
-- ==== Proof.NormRow.lean ====
module

public import Idealize.ShloMosaic.Lib.Pipeline.ValueKit
public import Idealize.ShloMosaic.Lib.Pointwise

@[expose] public section

noncomputable section

namespace Cert

open Idealize.ShloMosaic

/-- A row of 1024 channels divided by its root mean square, times the gain `g`, scaled by `1 + sc` and shifted by `sh`. -/
def normRow (x g sc sh : Fin 1024 → EReal) (k : Fin 1024) : EReal :=
  x k * Ideal.rsqrt (Ideal.div (∑ j, x j * x j) (Ideal.ofBits FTy.f32 1149239296#32) + Ideal.ofBits FTy.f32 897988541#32)
      * g k * (1 + sc k) + sh k

end Cert
end
-- ==== Proof.InProjAlgebraic.lean ====
module

public import proofs.«01_k».proof.Defs
public import proofs.«01_k».proof.Proof.Gen.InProjIdeal.Value
public import proofs.«01_k».proof.Proof.Gen.InProjRefIdeal.Run
public import proofs.«01_k».proof.Proof.NormRow

@[expose] public section

set_option maxRecDepth 16384

noncomputable section

open Idealize.ShloMosaic Idealize.ShloMosaic.TcCoe Idealize.SL.Sem
open Idealize.ShloMosaic.Pipeline (Dat)

namespace Cert.InProjIdeal.Block

open Cert.InProjIdeal Cert.InProjIdeal.Gen

/-- A point's block: its rows, normed and modulated, against the weights. -/
theorem out_at (x0 : Vec Ideal S1024x1024 .f32) (x1 : Vec Ideal S1x1024 .f32) (x2 x3 : Vec Ideal S1x1x1x1024 .f32)
    (x4 : Vec Ideal S1024x3072 .bf16) (r : Fin 1024) (n : Fin 3072) :
    out0_5 x0 x1 x2 x3 x4 (ix2 r n)
      = ∑ k, normRow (fun k => x0 (ix2 r k)) (fun k => x1 (ix2 0 k)) (fun k => x2 (ix4 0 0 0 k)) (fun k => x3 (ix4 0 0 0 k)) k
          * x4 (ix2 k n) := by
  frame_out
  pointwise [k0_pay1]
  rfl

/-- The array the call returns: at row `2048 b + s` and feature `n` the product of the row's modulated norm with the
    weights. -/
def value (x : Vec Ideal S8x2048x1024 .f32) (g : Vec Ideal S1024 .f32) (d : Vec Ideal S8x6x1x1024 .f32)
    (w : Vec Ideal S1024x3072 .f32) (r : Fin 16384) (n : Fin 3072) : EReal :=
  ∑ k, normRow (fun k => x (ix3 ⟨(r : ℕ) / 2048, by omega⟩ ⟨(r : ℕ) % 2048, by omega⟩ k)) (fun k => g (ix1 k))
      (fun k => d (ix4 ⟨(r : ℕ) / 2048, by omega⟩ 1 0 k)) (fun k => d (ix4 ⟨(r : ℕ) / 2048, by omega⟩ 0 0 k)) k * w (ix2 k n)

variable (m : (ℓ : Loc nD τ sig) → Buf (Elt Ideal) ℓ)

/-- Window 0 takes the blocks of rows in order. -/
theorem idx0 : ∀ t : Fin grid0.N, win0_0.index t 0 = t.val ∧ win0_0.index t 1 = 0 := by decide +kernel
/-- Window 1 stays on the gain. -/
theorem idx1 : ∀ t : Fin grid0.N, win0_1.index t 0 = 0 ∧ win0_1.index t 1 = 0 := by decide +kernel
/-- Window 2 takes the scale row of the point's sequence. -/
theorem idx2 : ∀ t : Fin grid0.N, win0_2.index t 0 = t.val / 2 ∧ win0_2.index t 1 = 1 ∧ win0_2.index t 2 = 0 ∧ win0_2.index t 3 = 0 := by decide +kernel
/-- Window 3 takes the shift row of the point's sequence. -/
theorem idx3 : ∀ t : Fin grid0.N, win0_3.index t 0 = t.val / 2 ∧ win0_3.index t 1 = 0 ∧ win0_3.index t 2 = 0 ∧ win0_3.index t 3 = 0 := by decide +kernel
/-- Window 4 stays on the weights. -/
theorem idx4 : ∀ t : Fin grid0.N, win0_4.index t 0 = 0 ∧ win0_4.index t 1 = 0 := by decide +kernel
/-- The output's blocks lie in order. -/
theorem idx5 : ∀ t : Fin grid0.N, win0_5.index t 0 = t.val ∧ win0_5.index t 1 = 0 := by decide +kernel

/-- Eight sequences laid one after another, at a row. -/
theorem laid_at (x : Vec Ideal S8x2048x1024 .f32) (r : Fin 16384) (k : Fin 1024) :
    shapeCast S16384x1024 x shapeCasts_S8x2048x1024_S16384x1024 (ix2 r k) = x (ix3 ⟨(r : ℕ) / 2048, by omega⟩ ⟨(r : ℕ) % 2048, by omega⟩ k) := by
  pointwise

/-- The gain as one row. -/
theorem row_at (x : Vec Ideal S1024 .f32) (k : Fin 1024) :
    shapeCast S1x1024 x shapeCasts_S1024_S1x1024 (ix2 0 k) = x (ix1 k) := by
  pointwise

/-- The rows the region finds are the sequences' rows, one after another. -/
theorem V_rows (c : Dev nD) (r : Fin 16384) (k : Fin 1024) :
    V m c main_v0 (ix2 r k) = m ((c : Thread nD τ).loc main_arg0) (ix3 ⟨(r : ℕ) / 2048, by omega⟩ ⟨(r : ℕ) % 2048, by omega⟩ k) := by
  have e : V m c main_v0 = shapeCast S16384x1024 (m ((c : Thread nD τ).loc main_arg0)) shapeCasts_S8x2048x1024_S16384x1024 := by
    unfold V hostOps0
    after_results <;> rfl
  rw [e]
  exact laid_at _ r k

/-- The gain the region finds. -/
theorem V_gain (c : Dev nD) (k : Fin 1024) : V m c main_v1 (ix2 0 k) = m ((c : Thread nD τ).loc main_arg1) (ix1 k) := by
  have e : V m c main_v1 = shapeCast S1x1024 (m ((c : Thread nD τ).loc main_arg1)) shapeCasts_S1024_S1x1024 := by
    unfold V hostOps0
    after_results <;> rfl
  rw [e]
  exact row_at _ k

/-- The weights the region finds. -/
theorem V_weights (c : Dev nD) : V m c main_v2 = (m ((c : Thread nD τ).loc main_arg3) : Vec Ideal S1024x3072 .f32) := by
  unfold V hostOps0
  after_results <;> rfl

/-- Block 0 at an index. -/
theorem blk0 (c : Dev nD) (t : Fin cfg0.N) (r k : Fin 1024) (R : Fin 16384) (hR : (R : ℕ) = 1024 * t.val + r) :
    (iblk m c 0 t : Vec Ideal S1024x1024 .f32) (ix2 r k)
      = m ((c : Thread nD τ).loc main_arg0) (ix3 ⟨(R : ℕ) / 2048, by omega⟩ ⟨(R : ℕ) % 2048, by omega⟩ k) := by
  refine Eq.trans ?_ (V_rows m c R k)
  blk_point [iblk, idx0 t]

/-- Block 1 at an index. -/
theorem blk1 (c : Dev nD) (t : Fin cfg0.N) (k : Fin 1024) :
    (iblk m c 1 t : Vec Ideal S1x1024 .f32) (ix2 0 k) = m ((c : Thread nD τ).loc main_arg1) (ix1 k) := by
  refine Eq.trans ?_ (V_gain m c k)
  blk_point [iblk, idx1 t]

/-- Block 2 at an index. -/
theorem blk2 (c : Dev nD) (t : Fin cfg0.N) (k : Fin 1024) (b : Fin 8) (hb : (b : ℕ) = t.val / 2) :
    (iblk m c 2 t : Vec Ideal S1x1x1x1024 .f32) (ix4 0 0 0 k) = m ((c : Thread nD τ).loc main_arg2) (ix4 b 1 0 k) := by
  refine Eq.trans ?_ (congrFun (V_main_arg2 m c) (ix4 b 1 0 k))
  blk_point [iblk, idx2 t]

/-- Block 3 at an index. -/
theorem blk3 (c : Dev nD) (t : Fin cfg0.N) (k : Fin 1024) (b : Fin 8) (hb : (b : ℕ) = t.val / 2) :
    (iblk m c 3 t : Vec Ideal S1x1x1x1024 .f32) (ix4 0 0 0 k) = m ((c : Thread nD τ).loc main_arg2) (ix4 b 0 0 k) := by
  refine Eq.trans ?_ (congrFun (V_main_arg2 m c) (ix4 b 0 0 k))
  blk_point [iblk, idx3 t]

/-- Block 4 at an index. -/
theorem blk4 (c : Dev nD) (t : Fin cfg0.N) (k : Fin 1024) (n : Fin 3072) :
    (iblk m c 4 t : Vec Ideal S1024x3072 .bf16) (ix2 k n) = m ((c : Thread nD τ).loc main_arg3) (ix2 k n) := by
  refine Eq.trans ?_ (congrFun (V_weights m c) (ix2 k n))
  blk_point [iblk, idx4 t]

/-- A point's block is `value` of the arrays where the block lies. -/
theorem out_value (c : Dev nD) (t : Fin cfg0.N) (y : S1024x3072.Idx) (R : Fin 16384) (n : Fin 3072)
    (hR : (R : ℕ) = 1024 * t.val + (y 0 : ℕ)) (hn : (n : ℕ) = (y 1 : ℕ)) :
    out0_5 (iblk m c 0 t) (iblk m c 1 t) (iblk m c 2 t) (iblk m c 3 t) (iblk m c 4 t) y
      = value (m ((c : Thread nD τ).loc main_arg0)) (m ((c : Thread nD τ).loc main_arg1)) (m ((c : Thread nD τ).loc main_arg2))
        (m ((c : Thread nD τ).loc main_arg3)) R n := by
  obtain ⟨r, n', rfl⟩ : ∃ (r : Fin 1024) (n : Fin 3072), y = ix2 r n := ⟨y 0, y 1, eq_ix2 y⟩
  obtain rfl : n = n' := Fin.ext hn
  have hR' : (R : ℕ) = 1024 * t.val + r := hR
  rw [out_at]
  unfold value
  simp only [blk0 m c t r _ R hR', blk1, blk2 m c t _ ⟨(R : ℕ) / 2048, by omega⟩ (by dsimp only; omega),
    blk3 m c t _ ⟨(R : ℕ) / 2048, by omega⟩ (by dsimp only; omega), blk4]

/-- The array the run leaves. -/
theorem final (c : Dev nD) : (dats m 0 c).arrAt 5 (cfgs 0).N
    = fun i => value (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 5 _ (by decide +kernel) fun t hf y => ?_
  blk_simp
  rw [after0_5]
  refine out_value m c t y _ _ ?_ ?_
  all_goals (blk_simp [idx5 t] <;> try omega)

/-- The run: the result array is `value` at every index, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = (fun i => value (m ((c : Thread nD τ).loc main_arg0)) (m ((c : Thread nD τ).loc main_arg1))
        (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.InProjIdeal.Block

namespace Cert.InProjRefIdeal.Read

open Cert.InProjRefIdeal Cert.InProjRefIdeal.Gen

/-- The reference's rows before the product. -/
def rows (x : FVec Ideal S8x2048x1024 .f32) (g : FVec Ideal S1024 .f32) (d : FVec Ideal S8x6x1x1024 .f32) : FVec Ideal S8x2048x1024 .f32 :=
  (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) (shapeCast S8x1x1024 (extractStridedSlice S8x1x1x1024 ![0, 1, 0, 0] d slices_S8x6x1x1024_S8x1x1x1024_0_1_0_0) shapeCasts_S8x1x1x1024_S8x1x1024)))) (broadcastInDim S8x2048x1024 ![0, 1, 2] bcast_S8x1x1024_S8x2048x1024_0_1_2 (shapeCast S8x1x1024 (extractStridedSlice S8x1x1x1024 ![0, 0, 0, 0] d slices_S8x6x1x1024_S8x1x1x1024_0_0_0_0) shapeCasts_S8x1x1x1024_S8x1x1024)))

/-- The rows at an index. -/
theorem rows_at (x : FVec Ideal S8x2048x1024 .f32) (g : FVec Ideal S1024 .f32) (d : FVec Ideal S8x6x1x1024 .f32) (b : Fin 8) (s : Fin 2048) (k : Fin 1024) :
    rows x g d (ix3 b s k) = normRow (fun k => x (ix3 b s k)) (fun k => g (ix1 k)) (fun k => d (ix4 b 1 0 k)) (fun k => d (ix4 b 0 0 k)) k := by
  pointwise [rows]
  rfl

/-- The reference's result. -/
def term (x : FVec Ideal S8x2048x1024 .f32) (g : FVec Ideal S1024 .f32) (d : FVec Ideal S8x6x1x1024 .f32) (w : FVec Ideal S1024x3072 .f32) :
    FVec Ideal S16384x3072 .f32 :=
  shapeCast S16384x3072 (Host.dotGeneral dot_S8x2048x1024_S1024x3072_S8x2048x3072_2_0_01_1_n_n none (rows x g d) w) shapeCasts_S8x2048x3072_S16384x3072

/-- The reference's result at an index. -/
theorem term_at (x : FVec Ideal S8x2048x1024 .f32) (g : FVec Ideal S1024 .f32) (d : FVec Ideal S8x6x1x1024 .f32) (w : FVec Ideal S1024x3072 .f32)
    (r : Fin 16384) (n : Fin 3072) : term x g d w (ix2 r n) = Cert.InProjIdeal.Block.value x g d w r n := by
  unfold Cert.InProjIdeal.Block.value
  pointwise [term, rows_at]

end Cert.InProjRefIdeal.Read

namespace Cert.Proof

/-- Over the extended reals the input projection and its reference return the same array. -/
theorem algebraic_InProjIdeal_InProjRefIdeal : algebraic_InProjIdeal_InProjRefIdeal := by
  intro m ρ m' ρ' _ hagree
  refine ⟨_, Cert.InProjIdeal.Block.run m ρ, ?_⟩
  refine (θ_run Cert.InProjRefIdeal.defs _ _).mono (fun _ h c => ⟨?_, (h c).2⟩) (Cert.InProjRefIdeal.Value.run (F := Ideal) m' ρ')
  rw [(h c).1]
  simp only [hagree c]
  funext i
  obtain ⟨r, n, rfl⟩ : ∃ (r : Fin 16384) (n : Fin 3072), i = ix2 r n := ⟨i 0, i 1, eq_ix2 i⟩
  exact Cert.InProjRefIdeal.Read.term_at _ _ _ _ r n

end Cert.Proof
end
-- ==== Proof.OutProjIdealFrame.lean ====
module

public import proofs.«01_k».proof.Proof.Gen.OutProjIdeal.Frame
public import proofs.«01_k».proof.Proof.Gen.OutProjIdeal.Skeleton
public import Idealize.ShloMosaic.Lib.Claim

@[expose] public section

set_option maxRecDepth 16384

noncomputable section

namespace Cert.OutProjIdeal.Body

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev rA : Rect S1x512x512 := Rect.unit (s := S1x512x512) ![0, 0, 0] S1x512x512.size inb_S1x512x512_S1x512x512_0_0_0
abbrev rW : Rect S512x1024 := Rect.unit (s := S512x1024) ![0, 0] S512x1024.size inb_S512x1024_S512x1024_0_0
abbrev rX : Rect S1x512x1024 := Rect.unit (s := S1x512x1024) ![0, 0, 0] S1x512x1024.size inb_S1x512x1024_S1x512x1024_0_0_0
abbrev rM : Rect S1x1x1x1024 := Rect.unit (s := S1x1x1x1024) ![0, 0, 0, 0] S1x1x1x1024.size inb_S1x1x1x1024_S1x1x1x1024_0_0_0_0
abbrev rG : Rect S1x1024 := Rect.unit (s := S1x1024) ![0, 0] S1x1024.size inb_S1x1024_S1x1024_0_0
abbrev rR : Rect S1024x256 := Rect.unit (s := S1024x256) ![0, 0] S1024x256.size inb_S1024x256_S1024x256_0_0
abbrev rL : Rect S1024x256 := Rect.unit (s := S1024x256) ![0, 0] S1024x128.size inb_S1024x256_S1024x128_0_0
abbrev rP : Rect S1x16x512 := Rect.unit (s := S1x16x512) ![0, 0, 0] S1x16x512.size inb_S1x16x512_S1x16x512_0_0_0
abbrev slab0 : Rect S1x4096x128 := ⟨⟨![0, 0, 0], S1x512x128.size, ![1, 8, 1], inb_S1x4096x128_S1x512x128_0_0_0_s_1_8_1⟩, spos_1_8_1⟩
abbrev slab1 : Rect S1x4096x128 := ⟨⟨![0, 1, 0], S1x512x128.size, ![1, 8, 1], inb_S1x4096x128_S1x512x128_0_1_0_s_1_8_1⟩, spos_1_8_1⟩
abbrev slab2 : Rect S1x4096x128 := ⟨⟨![0, 2, 0], S1x512x128.size, ![1, 8, 1], inb_S1x4096x128_S1x512x128_0_2_0_s_1_8_1⟩, spos_1_8_1⟩
abbrev slab3 : Rect S1x4096x128 := ⟨⟨![0, 3, 0], S1x512x128.size, ![1, 8, 1], inb_S1x4096x128_S1x512x128_0_3_0_s_1_8_1⟩, spos_1_8_1⟩
abbrev slab4 : Rect S1x4096x128 := ⟨⟨![0, 4, 0], S1x512x128.size, ![1, 8, 1], inb_S1x4096x128_S1x512x128_0_4_0_s_1_8_1⟩, spos_1_8_1⟩
abbrev slab5 : Rect S1x4096x128 := ⟨⟨![0, 5, 0], S1x512x128.size, ![1, 8, 1], inb_S1x4096x128_S1x512x128_0_5_0_s_1_8_1⟩, spos_1_8_1⟩
abbrev slab6 : Rect S1x4096x128 := ⟨⟨![0, 6, 0], S1x512x128.size, ![1, 8, 1], inb_S1x4096x128_S1x512x128_0_6_0_s_1_8_1⟩, spos_1_8_1⟩
abbrev slab7 : Rect S1x4096x128 := ⟨⟨![0, 7, 0], S1x512x128.size, ![1, 8, 1], inb_S1x4096x128_S1x512x128_0_7_0_s_1_8_1⟩, spos_1_8_1⟩

/-- The rows with the mixers' product added. -/
def resid (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) : FVec F S512x1024 .f32 := k0_pay2 (View.ld x0 rA) (View.ld x2 rW) (View.ld x1 rA) (View.ld x3 rW) (View.ld x4 rX) (View.ld x5 rM)

/-- The rows normed and modulated. -/
def normed (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) (x6 : Vec F S1x1024 .f32) (x7 : Vec F S1x1x1x1024 .f32) (x8 : Vec F S1x1x1x1024 .f32) : FVec F S512x1024 .f32 :=
  k0_pay6 (resid x0 x1 x2 x3 x4 x5) (k0_pay4 (View.ld x6 rG)) (k0_pay5 (View.ld x7 rM)) (View.ld x8 rM)

/-- What the body leaves in the block of rows. -/
def out0_10 (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) : Vec F S1x512x1024 .f32 := View.canon [⟨rX, k0_pay3 (View.ld x0 rA) (View.ld x2 rW) (View.ld x1 rA) (View.ld x3 rW) (View.ld x4 rX) (View.ld x5 rM)⟩]

/-- What the body leaves in the block of planes: plane `j` at every eighth row from row `j`, the last store first. -/
def out0_11 (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) (x6 : Vec F S1x1024 .f32) (x7 : Vec F S1x1x1x1024 .f32) (x8 : Vec F S1x1x1x1024 .f32) : Vec F S1x4096x128 .f32 :=
  View.canon [⟨slab7, k0_pay15 (normed x0 x1 x2 x3 x4 x5 x6 x7 x8)⟩, ⟨slab6, k0_pay14 (normed x0 x1 x2 x3 x4 x5 x6 x7 x8)⟩, ⟨slab5, k0_pay13 (normed x0 x1 x2 x3 x4 x5 x6 x7 x8)⟩,
    ⟨slab4, k0_pay12 (k0_pay11 (resid x0 x1 x2 x3 x4 x5) (k0_pay4 (View.ld x6 rG)) (k0_pay5 (View.ld x7 rM)) (View.ld x8 rM))⟩,
    ⟨slab3, k0_pay10 (resid x0 x1 x2 x3 x4 x5) (k0_pay4 (View.ld x6 rG)) (k0_pay5 (View.ld x7 rM)) (View.ld x8 rM)⟩,
    ⟨slab2, k0_pay9 (resid x0 x1 x2 x3 x4 x5) (k0_pay4 (View.ld x6 rG)) (k0_pay5 (View.ld x7 rM)) (View.ld x8 rM)⟩,
    ⟨slab1, k0_pay8 (resid x0 x1 x2 x3 x4 x5) (k0_pay4 (View.ld x6 rG)) (k0_pay5 (View.ld x7 rM)) (View.ld x8 rM)⟩,
    ⟨slab0, k0_pay7 (resid x0 x1 x2 x3 x4 x5) (k0_pay4 (View.ld x6 rG)) (k0_pay5 (View.ld x7 rM)) (View.ld x8 rM)⟩]

/-- What the body leaves in the block of affinities. -/
def out0_12 (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) (x6 : Vec F S1x1024 .f32) (x7 : Vec F S1x1x1x1024 .f32) (x8 : Vec F S1x1x1x1024 .f32) (x9 : Vec F S1024x256 .bf16) : Vec F S1x16x512 .f32 :=
  View.canon [⟨rP, k0_pay1 (k0_pay16 (normed x0 x1 x2 x3 x4 x5 x6 x7 x8) (View.ld x9 rR) (View.ld x9 rL)) (k0_pay17 (normed x0 x1 x2 x3 x4 x5 x6 x7 x8) (View.ld x9 rR) (View.ld x9 rL))⟩]

/-- The one store of the rows covers its block. -/
theorem cover0_10 (p : Vec F S1x512x1024 .f32) (y : S1x512x1024.Idx) :
    ∃ pc ∈ ([⟨rX, p⟩] : List (View.Piece (Elt F) S1x512x1024 .f32)), y ∈ pc.1.set :=
  View.cover_of_tiled [⟨rX, p⟩] S1x512x1024.size (by rfl) y

/-- The one store of the affinities covers its block. -/
theorem cover0_12 (p : Vec F S1x16x512 .f32) (y : S1x16x512.Idx) :
    ∃ pc ∈ ([⟨rP, p⟩] : List (View.Piece (Elt F) S1x16x512 .f32)), y ∈ pc.1.set :=
  View.cover_of_tiled [⟨rP, p⟩] S1x16x512.size (by rfl) y

/-- Every eighth row from row `o` holds the rows that are `o` modulo 8. -/
theorem slab_mem (o : ℕ) (inb sp) (y : S1x4096x128.Idx) (h : (y 1 : ℕ) % 8 = o) :
    y ∈ (⟨⟨![0, o, 0], S1x512x128.size, ![1, 8, 1], inb⟩, sp⟩ : Rect S1x4096x128).set := by
  rw [LoadRect.mem_set]
  intro a
  have h0 : (y 0 : ℕ) < 1 := (y 0).isLt
  have h1 : (y 1 : ℕ) < 4096 := (y 1).isLt
  have h2 : (y 2 : ℕ) < 128 := (y 2).isLt
  match a with
  | ⟨0, _⟩ => exact ⟨0, Nat.one_pos, by show (y 0 : ℕ) = 0 + 1 * 0; omega⟩
  | ⟨1, _⟩ => exact ⟨(y 1 : ℕ) / 8, by show (y 1 : ℕ) / 8 < 512; omega, by show (y 1 : ℕ) = o + 8 * ((y 1 : ℕ) / 8); omega⟩
  | ⟨2, _⟩ => exact ⟨(y 2 : ℕ), h2, by show (y 2 : ℕ) = 0 + 1 * (y 2 : ℕ); omega⟩

/-- The eight stores of the planes cover their block. -/
theorem cover0_11 (p0 p1 p2 p3 p4 p5 p6 p7 : Vec F S1x512x128 .f32) (y : S1x4096x128.Idx) :
    ∃ pc ∈ ([⟨slab7, p7⟩, ⟨slab6, p6⟩, ⟨slab5, p5⟩, ⟨slab4, p4⟩, ⟨slab3, p3⟩, ⟨slab2, p2⟩, ⟨slab1, p1⟩, ⟨slab0, p0⟩] : List (View.Piece (Elt F) S1x4096x128 .f32)),
      y ∈ pc.1.set := by
  obtain h | h | h | h | h | h | h | h : (y 1 : ℕ) % 8 = 0 ∨ (y 1 : ℕ) % 8 = 1 ∨ (y 1 : ℕ) % 8 = 2 ∨ (y 1 : ℕ) % 8 = 3
      ∨ (y 1 : ℕ) % 8 = 4 ∨ (y 1 : ℕ) % 8 = 5 ∨ (y 1 : ℕ) % 8 = 6 ∨ (y 1 : ℕ) % 8 = 7 := by omega
  · exact ⟨_, .tail _ (.tail _ (.tail _ (.tail _ (.tail _ (.tail _ (.tail _ (.head _))))))), slab_mem 0 _ _ y h⟩
  · exact ⟨_, .tail _ (.tail _ (.tail _ (.tail _ (.tail _ (.tail _ (.head _)))))), slab_mem 1 _ _ y h⟩
  · exact ⟨_, .tail _ (.tail _ (.tail _ (.tail _ (.tail _ (.head _))))), slab_mem 2 _ _ y h⟩
  · exact ⟨_, .tail _ (.tail _ (.tail _ (.tail _ (.head _)))), slab_mem 3 _ _ y h⟩
  · exact ⟨_, .tail _ (.tail _ (.tail _ (.head _))), slab_mem 4 _ _ y h⟩
  · exact ⟨_, .tail _ (.tail _ (.head _)), slab_mem 5 _ _ y h⟩
  · exact ⟨_, .tail _ (.head _), slab_mem 6 _ _ y h⟩
  · exact ⟨_, .head _, slab_mem 7 _ _ y h⟩

set_option maxHeartbeats 4000000 in
/-- The body on blocks `x0` to `x9` leaves them as they were and each output block at its content. -/
theorem sound_kernel (c : Dev nD) (E : Set ℕ) (i : grid0.Coords) (a0 : Memref sig .tc .vmem S1x512x512 .bf16) (ha0 : a0.IsWhole) (a1 : Memref sig .tc .vmem S1x512x512 .bf16) (ha1 : a1.IsWhole) (a2 : Memref sig .tc .vmem S512x1024 .bf16) (ha2 : a2.IsWhole) (a3 : Memref sig .tc .vmem S512x1024 .bf16) (ha3 : a3.IsWhole) (a4 : Memref sig .tc .vmem S1x512x1024 .f32) (ha4 : a4.IsWhole) (a5 : Memref sig .tc .vmem S1x1x1x1024 .f32) (ha5 : a5.IsWhole) (a6 : Memref sig .tc .vmem S1x1024 .f32) (ha6 : a6.IsWhole) (a7 : Memref sig .tc .vmem S1x1x1x1024 .f32) (ha7 : a7.IsWhole) (a8 : Memref sig .tc .vmem S1x1x1x1024 .f32) (ha8 : a8.IsWhole) (a9 : Memref sig .tc .vmem S1024x256 .bf16) (ha9 : a9.IsWhole) (a10 : Memref sig .tc .vmem S1x512x1024 .f32) (ha10 : a10.IsWhole) (a11 : Memref sig .tc .vmem S1x4096x128 .f32) (ha11 : a11.IsWhole) (a12 : Memref sig .tc .vmem S1x16x512 .f32) (ha12 : a12.IsWhole)
    (x0 : Vec F S1x512x512 .bf16) (x1 : Vec F S1x512x512 .bf16) (x2 : Vec F S512x1024 .bf16) (x3 : Vec F S512x1024 .bf16) (x4 : Vec F S1x512x1024 .f32) (x5 : Vec F S1x1x1x1024 .f32) (x6 : Vec F S1x1024 .f32) (x7 : Vec F S1x1x1x1024 .f32) (x8 : Vec F S1x1x1x1024 .f32) (x9 : Vec F S1024x256 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5) ∗ owns (c : Thread nD τ) a11 fullShare (out0_11 x0 x1 x2 x3 x4 x5 x6 x7 x8) ∗ owns (c : Thread nD τ) a12 fullShare (out0_12 x0 x1 x2 x3 x4 x5 x6 x7 x8 x9)) -∗ K ⟨⟩))
      ⊢ wp frame (wpE (defs₀ (F := F)) Variants.none c none) E (cc0_out_proj i a0 ha0 a1 ha1 a2 ha2 a3 ha3 a4 ha4 a5 ha5 a6 ha6 a7 ha7 a8 ha8 a9 ha9 a10 ha10 a11 ha11 a12 ha12) K := by
  simp only [cc0_out_proj_eq_skeleton]
  unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _ _ _ _ _ _ _ _)
  iexists _; isplitr
  swap; · iexact H12
  ipureintro
  exact View.read_writes_eq_canon _ _ _ (cover0_12 _)

variable (m : (ℓ : Loc nD τ sig) → Buf (Elt F) ℓ) (ρ : Dev nD → PrngReg)

/-- The pipeline's data: the arrays as the region finds them, each input's block left in place, each output's at its content. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := Pipeline.shareOf spec0 w
  owed _ := 0

/-- The data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = out0_10 (iblk m c 0 t) (iblk m c 1 t) (iblk m c 2 t) (iblk m c 3 t) (iblk m c 4 t) (iblk m c 5 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: its triple at the blocks, the invariant and what is owed passing through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch ends with the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch ends with the arrays as the data says. -/
theorem run_main : θ_run defs (onTc (τ := τ) (main (F := F))) (s₀ m ρ) (Pipeline.FramePost cfgs (dats m) 0 (V m)) :=
  (θ_run defs _ _).mono (fun _ h => h.1) (run_main_quiescent m ρ)

/-- Every run terminates, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.OutProjIdeal.Body

end
-- ==== Proof.SoftRow.lean ====
module

public import Idealize.ShloMosaic.Lib.ReduceAll
public import proofs.«01_k».proof.Proof.NormRow
public import Idealize.ShloMosaic.Lib.IdealHost

@[expose] public section

noncomputable section

namespace Cert

open Idealize.ShloMosaic

/-- An extended real that is a real number. -/
def IsReal (x : EReal) : Prop := ∃ r : ℝ, x = (r : EReal)

namespace IsReal

theorem add {x y : EReal} : IsReal x → IsReal y → IsReal (x + y) := by
  rintro ⟨a, rfl⟩ ⟨b, rfl⟩
  exact ⟨a + b, (EReal.coe_add a b).symm⟩

theorem mul {x y : EReal} : IsReal x → IsReal y → IsReal (x * y) := by
  rintro ⟨a, rfl⟩ ⟨b, rfl⟩
  exact ⟨a * b, (EReal.coe_mul a b).symm⟩

theorem one : IsReal 1 := ⟨1, EReal.coe_one.symm⟩

theorem zero : IsReal 0 := ⟨0, EReal.coe_zero.symm⟩

/-- A sum of reals, read as an extended real, is the sum of the summands read so. -/
theorem coe_sum {ι : Type} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

theorem sum {ι : Type} [Fintype ι] {f : ι → EReal} (h : ∀ i, IsReal (f i)) : IsReal (∑ i, f i) := by
  choose g hg using h
  refine ⟨∑ i, g i, ?_⟩
  rw [coe_sum]
  exact Finset.sum_congr rfl fun i _ => hg i

/-- A real number less itself is zero. -/
theorem sub_self {x : EReal} : IsReal x → x - x = 0 := by
  rintro ⟨a, rfl⟩
  rw [← EReal.coe_sub, _root_.sub_self, EReal.coe_zero]

/-- A number whose absolute value is below infinity is real. -/
theorem of_abs {x : EReal} (h : max x (-x) < ⊤) : IsReal x := by
  induction x using EReal.rec with
  | bot => simp at h
  | coe r => exact ⟨r, rfl⟩
  | top => simp at h

/-- The mean of squares of a real row plus the stabiliser has a real reciprocal root. -/
theorem rsqrt_mean {x : Fin 1024 → EReal} (h : ∀ k, IsReal (x k)) :
    IsReal (Ideal.rsqrt (Ideal.div (∑ j, x j * x j) (Ideal.ofBits FTy.f32 1149239296#32) + Ideal.ofBits FTy.f32 897988541#32)) := by
  choose g hg using h
  obtain rfl : x = fun k => (g k : EReal) := funext hg
  have e1 : Ideal.ofBits FTy.f32 1149239296#32 = ((1024 : ℝ) : EReal) := by
    simp [Ideal.ofBits, Ideal.ieee]
    rw [← EReal.coe_mul]
    norm_num
  have e2 : ∃ e : ℝ, 0 < e ∧ Ideal.ofBits FTy.f32 897988541#32 = (e : EReal) := by
    refine ⟨8796093 * (2 : ℝ) ^ (-43 : ℤ), by positivity, ?_⟩
    simp [Ideal.ofBits, Ideal.ieee]
  obtain ⟨e, he, e2⟩ := e2
  have e3 : ∑ j, (g j : EReal) * (g j : EReal) = ((∑ j, g j * g j : ℝ) : EReal) := by
    rw [coe_sum]
    exact Finset.sum_congr rfl fun i _ => (EReal.coe_mul _ _).symm
  rw [e1, e2, e3, Ideal.div_coe (by norm_num), ← EReal.coe_mul, ← EReal.coe_add]
  have hp : 0 < (∑ j, g j * g j) * (1 / (1024 : ℝ)) + e := by
    have := Finset.sum_nonneg (s := Finset.univ) (f := fun j => g j * g j) fun j _ => mul_self_nonneg (g j)
    positivity
  refine ⟨(Real.sqrt ((∑ j, g j * g j) * (1 / (1024 : ℝ)) + e))⁻¹, ?_⟩
  rw [Ideal.rsqrt_coe, if_neg hp.le.not_gt, if_neg hp.ne']

/-- The modulated norm of a real row is real. -/
theorem normRow {x g sc sh : Fin 1024 → EReal} (hx : ∀ k, IsReal (x k)) (hg : ∀ k, IsReal (g k)) (hc : ∀ k, IsReal (sc k))
    (hs : ∀ k, IsReal (sh k)) (k : Fin 1024) : IsReal (normRow x g sc sh k) :=
  ((((hx k).mul (rsqrt_mean hx)).mul (hg k)).mul (one.add (hc k))).add (hs k)

end IsReal

/-- Entry `e` of the softmax of a row of `n` numbers, shifted by the row's maximum. -/
def softRow {n : ℕ} (L : Fin n → EReal) (e : Fin n) : EReal :=
  Ideal.div (Ideal.exp (L e - Finset.fold max ⊥ L Finset.univ)) (∑ i, Ideal.exp (L i - Finset.fold max ⊥ L Finset.univ))

/-- The greatest of a row that ends in `⊥` is the greatest of its first entries. -/
theorem fold_max_ends_bot (L : Fin 16 → EReal) :
    Finset.fold max ⊥ (fun l : Fin 128 => if h : (l : ℕ) < 16 then L ⟨l, h⟩ else ⊥) Finset.univ = Finset.fold max ⊥ L Finset.univ := by
  change Finset.univ.sup (fun l : Fin 128 => if h : (l : ℕ) < 16 then L ⟨l, h⟩ else ⊥) = Finset.univ.sup L
  refine le_antisymm (Finset.sup_le fun l _ => ?_) (Finset.sup_le fun i _ => ?_)
  · split
    · exact Finset.le_sup (f := L) (Finset.mem_univ _)
    · exact bot_le
  · refine le_trans ?_ (Finset.le_sup (Finset.mem_univ (⟨i, by omega⟩ : Fin 128)))
    simp

/-- Softmax over 128 lanes of which only the first 16 hold logits and the rest hold `⊥` is softmax over the 16. -/
theorem softRow_ends_bot (L : Fin 16 → EReal) (e : Fin 16) :
    softRow (fun l : Fin 128 => if h : (l : ℕ) < 16 then L ⟨l, h⟩ else ⊥) ⟨e, by omega⟩ = softRow L e := by
  unfold softRow
  rw [fold_max_ends_bot]
  congr 1
  · simp
  · refine (Finset.sum_of_injOn (fun i : Fin 16 => (⟨i, by omega⟩ : Fin 128)) ?_ ?_ ?_ ?_).symm
    · intro a _ b _ h
      exact Fin.ext (congrArg (fun x : Fin 128 => (x : ℕ)) h)
    · intro a _
      simp
    · intro l _ hl
      have h : ¬ (l : ℕ) < 16 := fun h => hl ⟨⟨l, h⟩, by simp, rfl⟩
      simp [h]
    · intro i _
      simp

/-- An array whose every absolute value compared below infinity holds real numbers. -/
theorem all_real {S t u : Shape} [Subsingleton t.Idx] {φ : FTy} {axes : List (Fin S.rank)} (x C : FVec Ideal S φ) (hC : ∀ i, C i = (⊤ : EReal))
    (init : IVec u 1) (h : S.ReducesTo axes t) (hu : 0 < u.numel) (j : t.Idx)
    (e : Host.reduce IntOp.andi (cmpf .olt (Host.absf x) C) init h hu j = 1#1) (i : S.Idx) : IsReal (x i) := by
  have h1 := Host.reduce_andi_all _ _ _ _ _ e i
  have h2 : BitVec.ofBool (decide (max (x i) (-(x i)) < (C i : EReal))) = 1#1 := h1
  rw [hC] at h2
  refine IsReal.of_abs ?_
  by_contra hc
  rw [decide_eq_false hc] at h2
  exact absurd h2 (by decide)

/-- The bit pattern of bf16's infinity. -/
theorem top16 : (Ideal.ofBits .bf16 0x7F80#16 : EReal) = ⊤ := by simp [Ideal.ofBits, Ideal.ieee]

/-- The bit pattern of f32's infinity. -/
theorem top32 : (Ideal.ofBits .f32 0x7F800000#32 : EReal) = ⊤ := by simp [Ideal.ofBits, Ideal.ieee]

end Cert
end
-- ==== Proof.OutProjBlock.lean ====
module

public import proofs.«01_k».proof.Defs
public import proofs.«01_k».proof.Proof.OutProjIdealFrame
public import proofs.«01_k».proof.Proof.SoftRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Block

open Cert.OutProjIdeal Cert.OutProjIdeal.Gen Cert.OutProjIdeal.Body

/-- The lane mask's constant is minus infinity. -/
theorem mask_at : (Named.named κ "mask" 0xF149F2CA#32 : Ideal FTy.f32) = (⊥ : EReal) := IdealRules.named_const.ideal_named_scalar _ _ _ _ rfl

/-- A masked router logit: against the weights' high part, their low part, and the row's rounding against the high part. -/
theorem logit_at (h : FVec Ideal S512x1024 .f32) (w : Vec Ideal S1024x256 .bf16) (w' : Vec Ideal S1024x128 .bf16) (r : Fin 512) (l : Fin 128) :
    k0_pay16 h w w' (ix2 r l)
      = if (l : ℕ) < 16 then (∑ k, h (ix2 r k) * w (ix2 k ⟨l, by omega⟩) + ∑ k, h (ix2 r k) * w (ix2 k ⟨128 + l, by omega⟩)
          + ∑ k, (h (ix2 r k) - h (ix2 r k)) * w' (ix2 k l)) else ⊥ := by
  have hm : IntOp.cmpi CmpIPredicate.slt (BitVec.ofNat 32 ↑l) 16#32 = if (l : ℕ) < 16 then 1#1 else 0#1 := by
    revert l
    decide +kernel
  pointwise [k0_pay16]
  rw [mask_at, hm]
  split <;> rfl

/-- The greatest of a row of masked logits. -/
theorem max_at (v : FVec Ideal S512x1024 .f32) (w : Vec Ideal S1024x256 .bf16) (w' : Vec Ideal S1024x128 .bf16) (r : Fin 512) :
    k0_pay17 v w w' (ix2 r 0) = Finset.fold max ⊥ (fun l => k0_pay16 v w w' (ix2 r l)) Finset.univ := by
  unfold k0_pay17
  generalize k0_pay16 v w w' = p
  pointwise
  rw [show Ideal.ofBits FTy.f32 4286578688#32 = ⊥ by simp [Ideal.ofBits, Ideal.ieee]]

/-- The affinities written: softmax across the lanes, the first sixteen lanes as rows. -/
theorem soft_at (p : FVec Ideal S512x128 .f32) (q : FVec Ideal S512x1 .f32) (e : Fin 16) (r : Fin 512) :
    k0_pay1 p q (ix3 0 e r)
      = Ideal.div (Ideal.exp (p (ix2 r ⟨e, by omega⟩) - q (ix2 r 0))) (∑ l, Ideal.exp (p (ix2 r l) - q (ix2 r 0))) := by
  pointwise [k0_pay1]

/-- The rows written are the residual rows. -/
theorem out10_at (x0 x1 : Vec Ideal S1x512x512 .bf16) (x2 x3 : Vec Ideal S512x1024 .bf16) (x4 : Vec Ideal S1x512x1024 .f32)
    (x5 : Vec Ideal S1x1x1x1024 .f32) (r : Fin 512) (k : Fin 1024) :
    out0_10 x0 x1 x2 x3 x4 x5 (ix3 0 r k) = resid x0 x1 x2 x3 x4 x5 (ix2 r k) := by
  simp (disch := decide) only [out0_10, resid, View.canon_cons_unit_lit', View.ld_unit_lit']
  generalize x5 = y5
  pointwise [k0_pay3, k0_pay2]

/-- The residual rows: the two halves' projections, gated, on top of the input rows. -/
theorem resid_at (x0 x1 : Vec Ideal S1x512x512 .bf16) (x2 x3 : Vec Ideal S512x1024 .bf16) (x4 : Vec Ideal S1x512x1024 .f32)
    (x5 : Vec Ideal S1x1x1x1024 .f32) (r : Fin 512) (k : Fin 1024) :
    resid x0 x1 x2 x3 x4 x5 (ix2 r k)
      = x4 (ix3 0 r k) + x5 (ix4 0 0 0 k) * (∑ i, x0 (ix3 0 r i) * x2 (ix2 i k) + ∑ i, x1 (ix3 0 r i) * x3 (ix2 i k)) := by
  simp (disch := decide) only [resid, View.ld_unit_lit']
  pointwise [k0_pay2]

/-- The normed rows. -/
theorem normed_at (x0 x1 : Vec Ideal S1x512x512 .bf16) (x2 x3 : Vec Ideal S512x1024 .bf16) (x4 : Vec Ideal S1x512x1024 .f32)
    (x5 : Vec Ideal S1x1x1x1024 .f32) (x6 : Vec Ideal S1x1024 .f32) (x7 x8 : Vec Ideal S1x1x1x1024 .f32) (r : Fin 512) (k : Fin 1024) :
    normed x0 x1 x2 x3 x4 x5 x6 x7 x8 (ix2 r k)
      = normRow (fun k => resid x0 x1 x2 x3 x4 x5 (ix2 r k)) (fun k => x6 (ix2 0 k)) (fun k => x7 (ix4 0 0 0 k)) (fun k => x8 (ix4 0 0 0 k)) k := by
  unfold normed
  generalize resid x0 x1 x2 x3 x4 x5 = v
  simp (disch := decide) only [View.ld_unit_lit']
  pointwise [k0_pay6, k0_pay5, k0_pay4]
  rfl

theorem plane0_at (v : FVec Ideal S512x1024 .f32) (a b : FVec Ideal S1x1024 .f32) (c : Vec Ideal S1x1x1x1024 .f32) (r : Fin 512) (l : Fin 128) :
    k0_pay7 v a b c (ix3 0 r l) = k0_pay6 v a b c (ix2 r ⟨0 + l, by omega⟩) := by
  pointwise [k0_pay7, k0_pay6]

theorem plane1_at (v : FVec Ideal S512x1024 .f32) (a b : FVec Ideal S1x1024 .f32) (c : Vec Ideal S1x1x1x1024 .f32) (r : Fin 512) (l : Fin 128) :
    k0_pay8 v a b c (ix3 0 r l) = k0_pay6 v a b c (ix2 r ⟨128 + l, by omega⟩) := by
  pointwise [k0_pay8, k0_pay6]

theorem plane2_at (v : FVec Ideal S512x1024 .f32) (a b : FVec Ideal S1x1024 .f32) (c : Vec Ideal S1x1x1x1024 .f32) (r : Fin 512) (l : Fin 128) :
    k0_pay9 v a b c (ix3 0 r l) = k0_pay6 v a b c (ix2 r ⟨256 + l, by omega⟩) := by
  pointwise [k0_pay9, k0_pay6]

theorem plane3_at (v : FVec Ideal S512x1024 .f32) (a b : FVec Ideal S1x1024 .f32) (c : Vec Ideal S1x1x1x1024 .f32) (r : Fin 512) (l : Fin 128) :
    k0_pay10 v a b c (ix3 0 r l) = k0_pay6 v a b c (ix2 r ⟨384 + l, by omega⟩) := by
  pointwise [k0_pay10, k0_pay6]

theorem plane4_at (v : FVec Ideal S512x1024 .f32) (a b : FVec Ideal S1x1024 .f32) (c : Vec Ideal S1x1x1x1024 .f32) (r : Fin 512) (l : Fin 128) :
    k0_pay12 (k0_pay11 v a b c) (ix3 0 r l) = k0_pay6 v a b c (ix2 r ⟨512 + l, by omega⟩) := by
  pointwise [k0_pay12, k0_pay11, k0_pay6]

theorem plane5_at (h : FVec Ideal S512x1024 .f32) (r : Fin 512) (l : Fin 128) :
    k0_pay13 h (ix3 0 r l) = h (ix2 r ⟨640 + l, by omega⟩) := by
  pointwise [k0_pay13]

theorem plane6_at (h : FVec Ideal S512x1024 .f32) (r : Fin 512) (l : Fin 128) :
    k0_pay14 h (ix3 0 r l) = h (ix2 r ⟨768 + l, by omega⟩) := by
  pointwise [k0_pay14]

theorem plane7_at (h : FVec Ideal S512x1024 .f32) (r : Fin 512) (l : Fin 128) :
    k0_pay15 h (ix3 0 r l) = h (ix2 r ⟨896 + l, by omega⟩) := by
  pointwise [k0_pay15]

/-- Plane `o`'s store takes row `r` to row `8 r + o` of the block. -/
theorem slab_emb (o : ℕ) (ho : o < 8) (inb sp) (h : FVec Ideal S512x1024 .f32) (r : Fin 512) (l : Fin 128) (p : ℕ) (hp : p = 128 * o) (hl : p + l < 1024) :
    h (ix2 r ⟨p + l, hl⟩)
      = (fun y : S1x4096x128.Idx => h (ix2 ⟨(y 1 : ℕ) / 8, by have := (y 1).isLt; change (y 1 : ℕ) < 4096 at this; omega⟩
          ⟨128 * ((y 1 : ℕ) % 8) + (y 2 : ℕ), by have := (y 2).isLt; change (y 2 : ℕ) < 128 at this; omega⟩))
        ((⟨⟨![0, o, 0], S1x512x128.size, ![1, 8, 1], inb⟩, sp⟩ : Rect S1x4096x128).emb (ix3 0 r l)) := by
  have e1 : (((⟨⟨![0, o, 0], S1x512x128.size, ![1, 8, 1], inb⟩, sp⟩ : Rect S1x4096x128).emb (ix3 0 r l)) 1 : ℕ) = o + 8 * r := Rect.emb_apply ..
  have e2 : (((⟨⟨![0, o, 0], S1x512x128.size, ![1, 8, 1], inb⟩, sp⟩ : Rect S1x4096x128).emb (ix3 0 r l)) 2 : ℕ) = 0 + 1 * l := Rect.emb_apply ..
  dsimp only
  congr 2
  · apply Fin.ext
    change (r : ℕ) = _ / 8
    rw [e1]
    omega
  · apply Fin.ext
    change p + (l : ℕ) = 128 * (_ % 8) + _
    rw [e1, e2]
    omega

/-- The block of planes: row `8 r + j` holds channels `128 j` to `128 j + 127` of normed row `r`. -/
theorem out11_at (x0 x1 : Vec Ideal S1x512x512 .bf16) (x2 x3 : Vec Ideal S512x1024 .bf16) (x4 : Vec Ideal S1x512x1024 .f32)
    (x5 : Vec Ideal S1x1x1x1024 .f32) (x6 : Vec Ideal S1x1024 .f32) (x7 x8 : Vec Ideal S1x1x1x1024 .f32) (q : Fin 4096) (l : Fin 128) :
    out0_11 x0 x1 x2 x3 x4 x5 x6 x7 x8 (ix3 0 q l)
      = normed x0 x1 x2 x3 x4 x5 x6 x7 x8 (ix2 ⟨(q : ℕ) / 8, by omega⟩ ⟨128 * ((q : ℕ) % 8) + l, by omega⟩) := by
  unfold out0_11
  refine View.canon_apply_of_pieces (Val := Elt Ideal) (fun y : S1x4096x128.Idx => normed x0 x1 x2 x3 x4 x5 x6 x7 x8 (ix2 ⟨(y 1 : ℕ) / 8, by have := (y 1).isLt; change (y 1 : ℕ) < 4096 at this; omega⟩
          ⟨128 * ((y 1 : ℕ) % 8) + (y 2 : ℕ), by have := (y 2).isLt; change (y 2 : ℕ) < 128 at this; omega⟩)) _ ?_ (ix3 0 q l) (cover0_11 ..)
  intro pc hpc x
  simp only [List.mem_cons, List.not_mem_nil, or_false] at hpc
  rcases hpc with rfl | rfl | rfl | rfl | rfl | rfl | rfl | rfl
  all_goals
    obtain ⟨r, l, rfl⟩ : ∃ (r : Fin 512) (l : Fin 128), x = ix3 0 r l := ⟨x 1, x 2, (eq_ix3 x).trans (congrArg (fun z => ix3 z _ _) (Subsingleton.elim _ _))⟩
  · exact (plane7_at (normed x0 x1 x2 x3 x4 x5 x6 x7 x8) r l).trans (slab_emb 7 (by omega) _ _ _ r l 896 rfl _)
  · exact (plane6_at (normed x0 x1 x2 x3 x4 x5 x6 x7 x8) r l).trans (slab_emb 6 (by omega) _ _ _ r l 768 rfl _)
  · exact (plane5_at (normed x0 x1 x2 x3 x4 x5 x6 x7 x8) r l).trans (slab_emb 5 (by omega) _ _ _ r l 640 rfl _)
  · exact (plane4_at _ _ _ _ r l).trans (slab_emb 4 (by omega) _ _ _ r l 512 rfl _)
  · exact (plane3_at _ _ _ _ r l).trans (slab_emb 3 (by omega) _ _ _ r l 384 rfl _)
  · exact (plane2_at _ _ _ _ r l).trans (slab_emb 2 (by omega) _ _ _ r l 256 rfl _)
  · exact (plane1_at _ _ _ _ r l).trans (slab_emb 1 (by omega) _ _ _ r l 128 rfl _)
  · exact (plane0_at _ _ _ _ r l).trans (slab_emb 0 (by omega) _ _ _ r l 0 rfl _)

/-- The left half of the router weights' block. -/
theorem left_at (x : Vec Ideal S1024x256 .bf16) (k : Fin 1024) (l : Fin 128) :
    (View.ld x rL : Vec Ideal S1024x128 .bf16) (ix2 k l) = x (ix2 k ⟨l, by omega⟩) := by
  change x _ = x _
  congr 1
  funext a
  apply Fin.ext
  match a with
  | 0 => exact (Rect.emb_apply ..).trans (by simp)
  | 1 => exact (Rect.emb_apply ..).trans (by simp)

/-- The router weights' block, whole. -/
theorem whole_at (x : Vec Ideal S1024x256 .bf16) : (View.ld x rR : Vec Ideal S1024x256 .bf16) = x := by
  exact View.ld_unit_zero (by funext a; fin_cases a <;> rfl) _ x

/-- The affinities' block, for real normed rows and weights whose high part is `W` in the first sixteen columns and whose low part vanishes:
    the softmax of the rows' logits. -/
theorem out12_at (x0 x1 : Vec Ideal S1x512x512 .bf16) (x2 x3 : Vec Ideal S512x1024 .bf16) (x4 : Vec Ideal S1x512x1024 .f32)
    (x5 : Vec Ideal S1x1x1x1024 .f32) (x6 : Vec Ideal S1x1024 .f32) (x7 x8 : Vec Ideal S1x1x1x1024 .f32) (x9 : Vec Ideal S1024x256 .bf16)
    (W : Fin 1024 → Fin 16 → EReal) (e : Fin 16) (r : Fin 512)
    (hn : ∀ k, IsReal (normed x0 x1 x2 x3 x4 x5 x6 x7 x8 (ix2 r k)))
    (hW : ∀ k (l : Fin 16), x9 (ix2 k ⟨l, by omega⟩) = W k l) (hL : ∀ k (l : Fin 16), x9 (ix2 k ⟨128 + l, by omega⟩) = 0) :
    out0_12 x0 x1 x2 x3 x4 x5 x6 x7 x8 x9 (ix3 0 e r)
      = softRow (fun e => ∑ k, normed x0 x1 x2 x3 x4 x5 x6 x7 x8 (ix2 r k) * W k e) e := by
  unfold out0_12
  generalize normed x0 x1 x2 x3 x4 x5 x6 x7 x8 = v at hn ⊢
  simp (disch := decide) only [View.canon_cons_unit_lit']
  have hp : ∀ l : Fin 128, k0_pay16 v (View.ld x9 rR) (View.ld x9 rL) (ix2 r l)
      = if h : (l : ℕ) < 16 then ∑ k, v (ix2 r k) * W k ⟨l, h⟩ else ⊥ := fun l => by
    rw [logit_at, whole_at]
    split
    · next h =>
      have h1 : ∀ k, x9 (ix2 k ⟨l, by omega⟩) = W k ⟨l, h⟩ := fun k => hW k ⟨l, h⟩
      have h2 : ∀ k, x9 (ix2 k ⟨128 + l, by omega⟩) = 0 := fun k => hL k ⟨l, h⟩
      simp only [h1, h2, (hn _).sub_self, mul_zero, zero_mul, Finset.sum_const_zero, add_zero]
    · rfl
  rw [← softRow_ends_bot]
  rw [soft_at, max_at]
  simp only [hp]
  rfl

end Cert.OutProjIdeal.Block
end
-- ==== Proof.OutProjAlgebraic.lean ====
module

public import proofs.«01_k».proof.Defs
public import proofs.«01_k».proof.Proof.OutProjBlock
public import proofs.«01_k».proof.Proof.Gen.OutProjRefIdeal.Run
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.OutProjIdeal.Block

open Cert.OutProjIdeal Cert.OutProjIdeal.Gen Cert.OutProjIdeal.Body

/-- The residual row of position `s` of sequence `b`: the input row plus the gated projection of the attention and the
    convolution halves. -/
def resRow (a v : Vec Ideal S8x2048x512 .bf16) (w : Vec Ideal S1024x1024 .f32) (x : Vec Ideal S8x2048x1024 .f32)
    (d : Vec Ideal S8x6x1x1024 .f32) (b : Fin 8) (s : Fin 2048) (k : Fin 1024) : EReal :=
  x (ix3 b s k) + d (ix4 b 2 0 k)
    * (∑ i : Fin 512, a (ix3 b s i) * w (ix2 ⟨i, by omega⟩ k) + ∑ i : Fin 512, v (ix3 b s i) * w (ix2 ⟨512 + i, by omega⟩ k))

/-- The normed row of position `s` of sequence `b`. -/
def hRow (a v : Vec Ideal S8x2048x512 .bf16) (w : Vec Ideal S1024x1024 .f32) (x : Vec Ideal S8x2048x1024 .f32)
    (d : Vec Ideal S8x6x1x1024 .f32) (g : Vec Ideal S1024 .f32) (b : Fin 8) (s : Fin 2048) (k : Fin 1024) : EReal :=
  normRow (resRow a v w x d b s) (fun k => g (ix1 k)) (fun k => d (ix4 b 4 0 k)) (fun k => d (ix4 b 3 0 k)) k

/-- Plane row `q` of sequence `b`: channels `128 (q % 8)` and on of the normed row of position `q / 8`. -/
def plane (a v : Vec Ideal S8x2048x512 .bf16) (w : Vec Ideal S1024x1024 .f32) (x : Vec Ideal S8x2048x1024 .f32)
    (d : Vec Ideal S8x6x1x1024 .f32) (g : Vec Ideal S1024 .f32) (b : Fin 8) (q : Fin 16384) (l : Fin 128) : EReal :=
  hRow a v w x d g b ⟨(q : ℕ) / 8, by omega⟩ ⟨128 * ((q : ℕ) % 8) + l, by omega⟩

/-- The affinity of position `s` of sequence `b` to expert `e`. -/
def aff (a v : Vec Ideal S8x2048x512 .bf16) (w : Vec Ideal S1024x1024 .f32) (x : Vec Ideal S8x2048x1024 .f32)
    (d : Vec Ideal S8x6x1x1024 .f32) (g : Vec Ideal S1024 .f32) (rw : Vec Ideal S1024x16 .f32) (b : Fin 8) (e : Fin 16) (s : Fin 2048) : EReal :=
  softRow (fun e => ∑ k, hRow a v w x d g b s k * rw (ix2 k e)) e

variable (m : (ℓ : Loc nD τ sig) → Buf (Elt Ideal) ℓ)

/-- Window 0 takes the attention rows, four blocks to a sequence. -/
theorem idx0 : ∀ t : Fin grid0.N, win0_0.index t 0 = t.val / 4 ∧ win0_0.index t 1 = t.val % 4 ∧ win0_0.index t 2 = 0 := by decide +kernel
/-- Window 1 takes the convolution rows, four blocks to a sequence. -/
theorem idx1 : ∀ t : Fin grid0.N, win0_1.index t 0 = t.val / 4 ∧ win0_1.index t 1 = t.val % 4 ∧ win0_1.index t 2 = 0 := by decide +kernel
/-- Window 2 stays on the weights' upper half. -/
theorem idx2 : ∀ t : Fin grid0.N, win0_2.index t 0 = 0 ∧ win0_2.index t 1 = 0 := by decide +kernel
/-- Window 3 stays on the weights' lower half. -/
theorem idx3 : ∀ t : Fin grid0.N, win0_3.index t 0 = 1 ∧ win0_3.index t 1 = 0 := by decide +kernel
/-- Window 4 takes the input rows. -/
theorem idx4 : ∀ t : Fin grid0.N, win0_4.index t 0 = t.val / 4 ∧ win0_4.index t 1 = t.val % 4 ∧ win0_4.index t 2 = 0 := by decide +kernel
/-- Window 5 takes the gate of the point's sequence. -/
theorem idx5 : ∀ t : Fin grid0.N, win0_5.index t 0 = t.val / 4 ∧ win0_5.index t 1 = 2 ∧ win0_5.index t 2 = 0 ∧ win0_5.index t 3 = 0 := by decide +kernel
/-- Window 6 stays on the gain. -/
theorem idx6 : ∀ t : Fin grid0.N, win0_6.index t 0 = 0 ∧ win0_6.index t 1 = 0 := by decide +kernel
/-- Window 7 takes the scale of the point's sequence. -/
theorem idx7 : ∀ t : Fin grid0.N, win0_7.index t 0 = t.val / 4 ∧ win0_7.index t 1 = 4 ∧ win0_7.index t 2 = 0 ∧ win0_7.index t 3 = 0 := by decide +kernel
/-- Window 8 takes the shift of the point's sequence. -/
theorem idx8 : ∀ t : Fin grid0.N, win0_8.index t 0 = t.val / 4 ∧ win0_8.index t 1 = 3 ∧ win0_8.index t 2 = 0 ∧ win0_8.index t 3 = 0 := by decide +kernel
/-- Window 9 stays on the router weights. -/
theorem idx9 : ∀ t : Fin grid0.N, win0_9.index t 0 = 0 ∧ win0_9.index t 1 = 0 := by decide +kernel
/-- The residual rows written lie as the input rows. -/
theorem idx10 : ∀ t : Fin grid0.N, win0_10.index t 0 = t.val / 4 ∧ win0_10.index t 1 = t.val % 4 ∧ win0_10.index t 2 = 0 := by decide +kernel
/-- The planes written lie in the same order. -/
theorem idx11 : ∀ t : Fin grid0.N, win0_11.index t 0 = t.val / 4 ∧ win0_11.index t 1 = t.val % 4 ∧ win0_11.index t 2 = 0 := by decide +kernel
/-- The affinities written lie with positions last. -/
theorem idx12 : ∀ t : Fin grid0.N, win0_12.index t 0 = t.val / 4 ∧ win0_12.index t 1 = 0 ∧ win0_12.index t 2 = t.val % 4 := by decide +kernel

/-- The gain as one row. -/
theorem row_at (x : Vec Ideal S1024 .f32) (k : Fin 1024) :
    shapeCast S1x1024 x shapeCasts_S1024_S1x1024 (ix2 0 k) = x (ix1 k) := by
  pointwise

/-- The projection weights the region finds. -/
theorem V_weights (c : Dev nD) : V m c main_v0 = (m ((c : Thread nD τ).loc main_arg2) : Vec Ideal S1024x1024 .f32) := by
  unfold V hostOps0 hostOps0_1 hostOps0_2
  after_results <;> rfl

/-- The gain the region finds. -/
theorem V_gain (c : Dev nD) (k : Fin 1024) : V m c main_v1 (ix2 0 k) = m ((c : Thread nD τ).loc main_arg5) (ix1 k) := by
  have e : V m c main_v1 = shapeCast S1x1024 (m ((c : Thread nD τ).loc main_arg5)) shapeCasts_S1024_S1x1024 := by
    unfold V hostOps0 hostOps0_1 hostOps0_2
    after_results <;> rfl
  rw [e]
  exact row_at _ k

/-- The router weights padded to 128 columns. -/
def padded (x : FVec Ideal S1024x16 .f32) : FVec Ideal S1024x128 .f32 :=
  pad S1024x128 ![0, 0] ![0, 112] ![0, 0] x (sitofp .f32 (constantI S_ 32 0#32)) pads_S1024x16_S1024x128_000_01120 h_S_

/-- The router weights' high part beside their low part. -/
def split (x : FVec Ideal S1024x16 .f32) : FVec Ideal S1024x256 .bf16 :=
  concatenate S1024x256 1 [⟨S1024x128, truncf .bf16 (padded x) bitsLt_bf16_f32⟩,
    ⟨S1024x128, truncf .bf16 (subf (padded x) (extf .f32 (truncf .bf16 (padded x) bitsLt_bf16_f32) bitsLt_bf16_f32)) bitsLt_bf16_f32⟩]
    concatenates_S1024x128_S1024x128_S1024x256_d1

/-- A padded column below sixteen. -/
theorem padded_at (x : FVec Ideal S1024x16 .f32) (k : Fin 1024) (l : Fin 16) : padded x (ix2 k ⟨l, by omega⟩) = x (ix2 k l) := by
  pointwise [padded]

/-- A column of the high part below sixteen. -/
theorem split_high (x : FVec Ideal S1024x16 .f32) (k : Fin 1024) (l : Fin 16) : split x (ix2 k ⟨l, by omega⟩) = x (ix2 k l) := by
  refine Eq.trans ?_ (padded_at x k l)
  unfold split
  generalize padded x = p
  pointwise
  rw [dif_pos (by omega)]

/-- A column of the low part below sixteen, of real weights. -/
theorem split_low (x : FVec Ideal S1024x16 .f32) (hx : ∀ k l, IsReal (x (ix2 k l))) (k : Fin 1024) (l : Fin 16) :
    split x (ix2 k ⟨128 + l, by omega⟩) = 0 := by
  refine Eq.trans ?_ (hx k l).sub_self
  rw [← padded_at x k l]
  unfold split
  generalize padded x = p
  pointwise

/-- The router weights the region finds. -/
theorem V_router (c : Dev nD) : V m c main_v7 = split (m ((c : Thread nD τ).loc main_arg6)) := by
  unfold V hostOps0 hostOps0_1 hostOps0_2
  after_results <;> rfl

/-- Block 0 at an index. -/
theorem blk0 (c : Dev nD) (t : Fin cfg0.N) (r : Fin 512) (k : Fin 512) (b : Fin 8) (s : Fin 2048) (hb : (b : ℕ) = t.val / 4)
    (hs : (s : ℕ) = 512 * (t.val % 4) + r) :
    (iblk m c 0 t : Vec Ideal S1x512x512 .bf16) (ix3 0 r k) = m ((c : Thread nD τ).loc main_arg0) (ix3 b s k) := by
  refine Eq.trans ?_ (congrFun (V_main_arg0 m c) (ix3 b s k))
  blk_point [iblk, idx0 t]

/-- Block 1 at an index. -/
theorem blk1 (c : Dev nD) (t : Fin cfg0.N) (r : Fin 512) (k : Fin 512) (b : Fin 8) (s : Fin 2048) (hb : (b : ℕ) = t.val / 4)
    (hs : (s : ℕ) = 512 * (t.val % 4) + r) :
    (iblk m c 1 t : Vec Ideal S1x512x512 .bf16) (ix3 0 r k) = m ((c : Thread nD τ).loc main_arg1) (ix3 b s k) := by
  refine Eq.trans ?_ (congrFun (V_main_arg1 m c) (ix3 b s k))
  blk_point [iblk, idx1 t]

/-- Block 2 at an index. -/
theorem blk2 (c : Dev nD) (t : Fin cfg0.N) (i : Fin 512) (k : Fin 1024) :
    (iblk m c 2 t : Vec Ideal S512x1024 .bf16) (ix2 i k) = m ((c : Thread nD τ).loc main_arg2) (ix2 ⟨i, by omega⟩ k) := by
  refine Eq.trans ?_ (congrFun (V_weights m c) (ix2 ⟨i, by omega⟩ k))
  blk_point [iblk, idx2 t]

/-- Block 3 at an index. -/
theorem blk3 (c : Dev nD) (t : Fin cfg0.N) (i : Fin 512) (k : Fin 1024) :
    (iblk m c 3 t : Vec Ideal S512x1024 .bf16) (ix2 i k) = m ((c : Thread nD τ).loc main_arg2) (ix2 ⟨512 + i, by omega⟩ k) := by
  refine Eq.trans ?_ (congrFun (V_weights m c) (ix2 ⟨512 + i, by omega⟩ k))
  blk_point [iblk, idx3 t]

/-- Block 4 at an index. -/
theorem blk4 (c : Dev nD) (t : Fin cfg0.N) (r : Fin 512) (k : Fin 1024) (b : Fin 8) (s : Fin 2048) (hb : (b : ℕ) = t.val / 4)
    (hs : (s : ℕ) = 512 * (t.val % 4) + r) :
    (iblk m c 4 t : Vec Ideal S1x512x1024 .f32) (ix3 0 r k) = m ((c : Thread nD τ).loc main_arg3) (ix3 b s k) := by
  refine Eq.trans ?_ (congrFun (V_main_arg3 m c) (ix3 b s k))
  blk_point [iblk, idx4 t]

/-- Block 5 at an index. -/
theorem blk5 (c : Dev nD) (t : Fin cfg0.N) (k : Fin 1024) (b : Fin 8) (hb : (b : ℕ) = t.val / 4) :
    (iblk m c 5 t : Vec Ideal S1x1x1x1024 .f32) (ix4 0 0 0 k) = m ((c : Thread nD τ).loc main_arg4) (ix4 b 2 0 k) := by
  refine Eq.trans ?_ (congrFun (V_main_arg4 m c) (ix4 b 2 0 k))
  blk_point [iblk, idx5 t]

/-- Block 6 at an index. -/
theorem blk6 (c : Dev nD) (t : Fin cfg0.N) (k : Fin 1024) :
    (iblk m c 6 t : Vec Ideal S1x1024 .f32) (ix2 0 k) = m ((c : Thread nD τ).loc main_arg5) (ix1 k) := by
  refine Eq.trans ?_ (V_gain m c k)
  blk_point [iblk, idx6 t]

/-- Block 7 at an index. -/
theorem blk7 (c : Dev nD) (t : Fin cfg0.N) (k : Fin 1024) (b : Fin 8) (hb : (b : ℕ) = t.val / 4) :
    (iblk m c 7 t : Vec Ideal S1x1x1x1024 .f32) (ix4 0 0 0 k) = m ((c : Thread nD τ).loc main_arg4) (ix4 b 4 0 k) := by
  refine Eq.trans ?_ (congrFun (V_main_arg4 m c) (ix4 b 4 0 k))
  blk_point [iblk, idx7 t]

/-- Block 8 at an index. -/
theorem blk8 (c : Dev nD) (t : Fin cfg0.N) (k : Fin 1024) (b : Fin 8) (hb : (b : ℕ) = t.val / 4) :
    (iblk m c 8 t : Vec Ideal S1x1x1x1024 .f32) (ix4 0 0 0 k) = m ((c : Thread nD τ).loc main_arg4) (ix4 b 3 0 k) := by
  refine Eq.trans ?_ (congrFun (V_main_arg4 m c) (ix4 b 3 0 k))
  blk_point [iblk, idx8 t]

/-- Block 9 at an index. -/
theorem blk9 (c : Dev nD) (t : Fin cfg0.N) (k : Fin 1024) (l : Fin 256) :
    (iblk m c 9 t : Vec Ideal S1024x256 .bf16) (ix2 k l) = split (m ((c : Thread nD τ).loc main_arg6)) (ix2 k l) := by
  refine Eq.trans ?_ (congrFun (V_router m c) (ix2 k l))
  blk_point [iblk, idx9 t]

/-- A point's residual rows are the arrays' residual rows where the block lies. -/
theorem resid_value (c : Dev nD) (t : Fin cfg0.N) (r : Fin 512) (k : Fin 1024) (b : Fin 8) (s : Fin 2048) (hb : (b : ℕ) = t.val / 4)
    (hs : (s : ℕ) = 512 * (t.val % 4) + r) :
    resid (iblk m c 0 t) (iblk m c 1 t) (iblk m c 2 t) (iblk m c 3 t) (iblk m c 4 t) (iblk m c 5 t) (ix2 r k)
      = resRow (m ((c : Thread nD τ).loc main_arg0)) (m ((c : Thread nD τ).loc main_arg1)) (m ((c : Thread nD τ).loc main_arg2))
        (m ((c : Thread nD τ).loc main_arg3)) (m ((c : Thread nD τ).loc main_arg4)) b s k := by
  rw [resid_at]
  unfold resRow
  simp only [blk0 m c t r _ b s hb hs, blk1 m c t r _ b s hb hs, blk2, blk3, blk4 m c t r _ b s hb hs, blk5 m c t _ b hb]

/-- A point's normed rows are the arrays' normed rows where the block lies. -/
theorem normed_value (c : Dev nD) (t : Fin cfg0.N) (r : Fin 512) (k : Fin 1024) (b : Fin 8) (s : Fin 2048) (hb : (b : ℕ) = t.val / 4)
    (hs : (s : ℕ) = 512 * (t.val % 4) + r) :
    normed (iblk m c 0 t) (iblk m c 1 t) (iblk m c 2 t) (iblk m c 3 t) (iblk m c 4 t) (iblk m c 5 t) (iblk m c 6 t) (iblk m c 7 t) (iblk m c 8 t) (ix2 r k)
      = hRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s k := by
  rw [normed_at]
  unfold hRow
  simp only [resid_value m c t r _ b s hb hs, blk6, blk7 m c t _ b hb, blk8 m c t _ b hb]

/-- The residual block of a point. -/
theorem value10 (c : Dev nD) (t : Fin cfg0.N) (y : S1x512x1024.Idx) (b : Fin 8) (s : Fin 2048) (k : Fin 1024) (hb : (b : ℕ) = t.val / 4)
    (hs : (s : ℕ) = 512 * (t.val % 4) + (y 1 : ℕ)) (hk : (k : ℕ) = (y 2 : ℕ)) :
    out0_10 (iblk m c 0 t) (iblk m c 1 t) (iblk m c 2 t) (iblk m c 3 t) (iblk m c 4 t) (iblk m c 5 t) y = resRow (m ((c : Thread nD τ).loc main_arg0)) (m ((c : Thread nD τ).loc main_arg1)) (m ((c : Thread nD τ).loc main_arg2))
        (m ((c : Thread nD τ).loc main_arg3)) (m ((c : Thread nD τ).loc main_arg4)) b s k := by
  obtain ⟨r, k', rfl⟩ : ∃ (r : Fin 512) (k : Fin 1024), y = ix3 0 r k := ⟨y 1, y 2, (eq_ix3 y).trans (congrArg (fun z => ix3 z _ _) (Subsingleton.elim _ _))⟩
  obtain rfl : k = k' := Fin.ext hk
  exact (out10_at _ _ _ _ _ _ r k).trans (resid_value m c t r k b s hb hs)

/-- The planes of a point. -/
theorem value11 (c : Dev nD) (t : Fin cfg0.N) (y : S1x4096x128.Idx) (b : Fin 8) (q : Fin 16384) (l : Fin 128) (hb : (b : ℕ) = t.val / 4)
    (hq : (q : ℕ) = 4096 * (t.val % 4) + (y 1 : ℕ)) (hl : (l : ℕ) = (y 2 : ℕ)) :
    out0_11 (iblk m c 0 t) (iblk m c 1 t) (iblk m c 2 t) (iblk m c 3 t) (iblk m c 4 t) (iblk m c 5 t) (iblk m c 6 t) (iblk m c 7 t) (iblk m c 8 t) y
      = plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b q l := by
  obtain ⟨p, l', rfl⟩ : ∃ (p : Fin 4096) (l : Fin 128), y = ix3 0 p l := ⟨y 1, y 2, (eq_ix3 y).trans (congrArg (fun z => ix3 z _ _) (Subsingleton.elim _ _))⟩
  obtain rfl : l = l' := Fin.ext hl
  have hq' : (q : ℕ) = 4096 * (t.val % 4) + p := hq
  refine (out11_at _ _ _ _ _ _ _ _ _ p l).trans ?_
  rw [normed_value m c t _ _ b ⟨(q : ℕ) / 8, by omega⟩ hb (by dsimp only; omega)]
  unfold plane
  congr 2
  omega

/-- The affinities of a point, of real arrays. -/
theorem value12 (c : Dev nD) (hR : ∀ b s k, IsReal (hRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s k))
    (hw : ∀ k l, IsReal ((m ((c : Thread nD τ).loc main_arg6) : Vec Ideal S1024x16 .f32) (ix2 k l)))
    (t : Fin cfg0.N) (y : S1x16x512.Idx) (b : Fin 8) (e : Fin 16) (s : Fin 2048) (hb : (b : ℕ) = t.val / 4)
    (he : (e : ℕ) = (y 1 : ℕ)) (hs : (s : ℕ) = 512 * (t.val % 4) + (y 2 : ℕ)) :
    out0_12 (iblk m c 0 t) (iblk m c 1 t) (iblk m c 2 t) (iblk m c 3 t) (iblk m c 4 t) (iblk m c 5 t) (iblk m c 6 t) (iblk m c 7 t) (iblk m c 8 t) (iblk m c 9 t) y
      = aff (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) b e s := by
  obtain ⟨e', r, rfl⟩ : ∃ (e : Fin 16) (r : Fin 512), y = ix3 0 e r := ⟨y 1, y 2, (eq_ix3 y).trans (congrArg (fun z => ix3 z _ _) (Subsingleton.elim _ _))⟩
  obtain rfl : e = e' := Fin.ext he
  have hn := fun k => normed_value m c t r k b s hb hs
  refine (out12_at _ _ _ _ _ _ _ _ _ _ (fun k l => (m ((c : Thread nD τ).loc main_arg6) : Vec Ideal S1024x16 .f32) (ix2 k l)) e r
    (fun k => by rw [hn]; exact hR b s k) (fun k l => (blk9 m c t k _).trans (split_high _ k l))
    (fun k l => (blk9 m c t k _).trans (split_low _ hw k l))).trans ?_
  unfold aff
  simp only [hn]

/-- The residual rows the run leaves. -/
theorem final10 (c : Dev nD) : (dats m 0 c).arrAt 10 (cfgs 0).N
    = fun i => resRow (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2) := by
  refine (dats m 0 c).arrAt_eq_of_covers 10 _ (by decide +kernel) fun t hf y => ?_
  blk_simp
  rw [after0_10]
  refine value10 m c t y _ _ _ ?_ ?_ ?_
  all_goals (blk_simp [idx10 t] <;> try omega)

/-- The planes the run leaves. -/
theorem final11 (c : Dev nD) : (dats m 0 c).arrAt 11 (cfgs 0).N
    = fun i => plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) (i 2) := by
  refine (dats m 0 c).arrAt_eq_of_covers 11 _ (by decide +kernel) fun t hf y => ?_
  blk_simp
  rw [after0_11]
  refine value11 m c t y _ _ _ ?_ ?_ ?_
  all_goals (blk_simp [idx11 t] <;> try omega)

/-- The affinities the run leaves, of real arrays. -/
theorem final12 (c : Dev nD) (hR : ∀ b s k, IsReal (hRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s k))
    (hw : ∀ k l, IsReal ((m ((c : Thread nD τ).loc main_arg6) : Vec Ideal S1024x16 .f32) (ix2 k l))) : (dats m 0 c).arrAt 12 (cfgs 0).N
    = fun i => aff (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_covers 12 _ (by decide +kernel) fun t hf y => ?_
  blk_simp
  rw [after0_12]
  refine value12 m c hR hw t y _ _ _ ?_ ?_ ?_
  all_goals (blk_simp [idx12 t] <;> try omega)

/-- The run on real arrays: each result array is its value at every index, the arguments are unchanged. -/
theorem run (ρ : Dev nD → PrngReg) (hR : ∀ (c : Dev nD) b s k, IsReal (hRow (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s k))
    (hw : ∀ (c : Dev nD) k l, IsReal ((m ((c : Thread nD τ).loc main_arg6) : Vec Ideal S1024x16 .f32) (ix2 k l))) :
    θ_run defs (onTc (τ := τ) (main (F := Ideal))) ⟨m, fun _ => 0, ρ⟩ fun r => ∀ c : Dev nD,
      r.2.mem ((c : Thread nD τ).loc main_v8_0) = (fun i => resRow (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2))
      ∧ r.2.mem ((c : Thread nD τ).loc main_v8_1) = (fun i => plane (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) (i 2))
      ∧ r.2.mem ((c : Thread nD τ).loc main_v8_2) = (fun i => aff (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.2 c).1 10).trans (final10 m c), ((h.2 c).1 11).trans (final11 m c),
      ((h.2 c).1 12).trans (final12 m c (hR c) (hw c)), h.1 c⟩)
    (θ_run_and (frame_of m ρ (dats m) (A_eq m) (Body.run_main m ρ)) (Body.run_main m ρ))

end Cert.OutProjIdeal.Block

namespace Cert.OutProjRefIdeal.Read

open Cert.OutProjRefIdeal Cert.OutProjRefIdeal.Gen

/-- The reference's residual rows. -/
def res (a v : FVec Ideal S8x2048x512 .bf16) (w : FVec Ideal S1024x1024 .f32) (x : FVec Ideal S8x2048x1024 .f32) (d : FVec Ideal S8x6x1x1024 .f32) :
    FVec Ideal S8x2048x1024 .f32 :=
  addf x (mulf (broadcastInDim S8x2048x1024 ![0, 1, 2] bcast_S8x1x1024_S8x2048x1024_0_1_2 (shapeCast S8x1x1024 (extractStridedSlice S8x1x1x1024 ![0, 2, 0, 0] d slices_S8x6x1x1024_S8x1x1x1024_0_2_0_0) shapeCasts_S8x1x1x1024_S8x1x1024)) (Host.dotGeneral dot_S8x2048x1024_S1024x1024_S8x2048x1024_2_0_01_1_n_n none (extf .f32 (concatenate S8x2048x1024 2 [⟨S8x2048x512, a⟩, ⟨S8x2048x512, v⟩] concatenates_S8x2048x512_S8x2048x512_S8x2048x1024_d2) bitsLt_bf16_f32) w))

/-- The reference's normed rows, of residual rows `y`. -/
def rows (y : FVec Ideal S8x2048x1024 .f32) (g : FVec Ideal S1024 .f32) (d : FVec Ideal S8x6x1x1024 .f32) : FVec Ideal S8x2048x1024 .f32 :=
  addf (mulf (mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) (shapeCast S8x1x1024 (extractStridedSlice S8x1x1x1024 ![0, 4, 0, 0] d slices_S8x6x1x1024_S8x1x1x1024_0_4_0_0) shapeCasts_S8x1x1x1024_S8x1x1024)))) (broadcastInDim S8x2048x1024 ![0, 1, 2] bcast_S8x1x1024_S8x2048x1024_0_1_2 (shapeCast S8x1x1024 (extractStridedSlice S8x1x1x1024 ![0, 3, 0, 0] d slices_S8x6x1x1024_S8x1x1x1024_0_3_0_0) shapeCasts_S8x1x1x1024_S8x1x1024))

/-- The reference's affinities, of logits `L`. -/
def soft (L : FVec Ideal S8x2048x16 .f32) : FVec Ideal S8x16x2048 .f32 :=
  transpose S8x16x2048 [0, 2, 1] (Host.divf (Host.exp (subf L (broadcastInDim S8x2048x16 ![0, 1, 2] bcast_S8x2048x1_S8x2048x16_0_1_2 (broadcastInDim S8x2048x1 ![0, 1] bcast_S8x2048_S8x2048x1_0_1 (maximumf (broadcastInDim S8x2048 ![] bcast_S_S8x2048 (constant S_ .f32 0xFF800000#32)) (Host.reduce FloatOps.maximumf L (constant S_ .f32 0xFF800000#32) reducesTo_S8x2048x16_S8x2048_d2 h_S_)))))) (broadcastInDim S8x2048x16 ![0, 1, 2] bcast_S8x2048x1_S8x2048x16_0_1_2 (broadcastInDim S8x2048x1 ![0, 1] bcast_S8x2048_S8x2048x1_0_1 (Host.reduceAdd (Host.exp (subf L (broadcastInDim S8x2048x16 ![0, 1, 2] bcast_S8x2048x1_S8x2048x16_0_1_2 (broadcastInDim S8x2048x1 ![0, 1] bcast_S8x2048_S8x2048x1_0_1 (maximumf (broadcastInDim S8x2048 ![] bcast_S_S8x2048 (constant S_ .f32 0xFF800000#32)) (Host.reduce FloatOps.maximumf L (constant S_ .f32 0xFF800000#32) reducesTo_S8x2048x16_S8x2048_d2 h_S_)))))) (constant S_ .f32 0x00000000#32) reducesTo_S8x2048x16_S8x2048_d2 h_S_)))) transposes_S8x2048x16_S8x16x2048_0_2_1

/-- The residual rows at an index. -/
theorem res_at (a v : FVec Ideal S8x2048x512 .bf16) (w : FVec Ideal S1024x1024 .f32) (x : FVec Ideal S8x2048x1024 .f32) (d : FVec Ideal S8x6x1x1024 .f32)
    (b : Fin 8) (s : Fin 2048) (k : Fin 1024) : res a v w x d (ix3 b s k) = Cert.OutProjIdeal.Block.resRow a v w x d b s k := by
  unfold Cert.OutProjIdeal.Block.resRow
  pointwise [res]

/-- The normed rows at an index. -/
theorem rows_at (y : FVec Ideal S8x2048x1024 .f32) (g : FVec Ideal S1024 .f32) (d : FVec Ideal S8x6x1x1024 .f32) (b : Fin 8) (s : Fin 2048) (k : Fin 1024) :
    rows y g d (ix3 b s k) = normRow (fun k => y (ix3 b s k)) (fun k => g (ix1 k)) (fun k => d (ix4 b 4 0 k)) (fun k => d (ix4 b 3 0 k)) k := by
  pointwise [rows]
  rfl

/-- The planes at an index, of normed rows `h`. -/
theorem planes_at (h : FVec Ideal S8x2048x1024 .f32) (b : Fin 8) (q : Fin 16384) (l : Fin 128) :
    shapeCast S8x16384x128 h shapeCasts_S8x2048x1024_S8x16384x128 (ix3 b q l)
      = h (ix3 b ⟨(q : ℕ) / 8, by omega⟩ ⟨128 * ((q : ℕ) % 8) + l, by omega⟩) := by
  pointwise
  congr 2
  apply Fin.ext
  dsimp only
  omega

/-- The affinities at an index. -/
theorem soft_at (L : FVec Ideal S8x2048x16 .f32) (b : Fin 8) (e : Fin 16) (s : Fin 2048) :
    soft L (ix3 b e s) = softRow (fun e => L (ix3 b s e)) e := by
  pointwise [soft]
  rw [show Ideal.ofBits FTy.f32 4286578688#32 = ⊥ by simp [Ideal.ofBits, Ideal.ieee]]
  simp only [bot_le, sup_of_le_right]
  rfl

/-- The logits at an index. -/
theorem logits_at (h : FVec Ideal S8x2048x1024 .f32) (rw : FVec Ideal S1024x16 .f32) (b : Fin 8) (s : Fin 2048) (e : Fin 16) :
    Host.dotGeneral dot_S8x2048x1024_S1024x16_S8x2048x16_2_0_01_1_n_n none h rw (ix3 b s e) = ∑ k, h (ix3 b s k) * rw (ix2 k e) := by
  pointwise

/-- The reference's planes are the kernel's. -/
theorem planes_of (a v : FVec Ideal S8x2048x512 .bf16) (w : FVec Ideal S1024x1024 .f32) (x : FVec Ideal S8x2048x1024 .f32) (d : FVec Ideal S8x6x1x1024 .f32)
    (g : FVec Ideal S1024 .f32) (b : Fin 8) (q : Fin 16384) (l : Fin 128) :
    shapeCast S8x16384x128 (rows (res a v w x d) g d) shapeCasts_S8x2048x1024_S8x16384x128 (ix3 b q l)
      = Cert.OutProjIdeal.Block.plane a v w x d g b q l := by
  rw [planes_at, rows_at]
  simp only [res_at]
  rfl

/-- The reference's affinities are the kernel's. -/
theorem aff_of (a v : FVec Ideal S8x2048x512 .bf16) (w : FVec Ideal S1024x1024 .f32) (x : FVec Ideal S8x2048x1024 .f32) (d : FVec Ideal S8x6x1x1024 .f32)
    (g : FVec Ideal S1024 .f32) (rw : FVec Ideal S1024x16 .f32) (b : Fin 8) (e : Fin 16) (s : Fin 2048) :
    soft (Host.dotGeneral dot_S8x2048x1024_S1024x16_S8x2048x16_2_0_01_1_n_n none (rows (res a v w x d) g d) rw) (ix3 b e s)
      = Cert.OutProjIdeal.Block.aff a v w x d g rw b e s := by
  rw [soft_at]
  simp only [logits_at, rows_at, res_at]
  rfl

end Cert.OutProjRefIdeal.Read

namespace Cert.Pre_finite.Read

open Cert.Pre_finite

instance : Subsingleton S_.Idx := ⟨fun a b => funext fun i => i.elim0⟩

variable [Facts]

/-- Where the precondition holds every element of every argument is a real number. -/
theorem decode (a v : FVec Ideal S8x2048x512 .bf16) (w : FVec Ideal S1024x1024 .f32) (x : FVec Ideal S8x2048x1024 .f32)
    (d : FVec Ideal S8x6x1x1024 .f32) (g : FVec Ideal S1024 .f32) (rw : FVec Ideal S1024x16 .f32)
    (h : fn (F := Ideal) a v w x d g rw = fun _ => 1#1) :
    (∀ i, IsReal (a i)) ∧ (∀ i, IsReal (v i)) ∧ (∀ i, IsReal (w i)) ∧ (∀ i, IsReal (x i)) ∧ (∀ i, IsReal (d i)) ∧ (∀ i, IsReal (g i))
      ∧ ∀ i, IsReal (rw i) := by
  have e := congrFun h (fun i => i.elim0)
  unfold fn fn_part1 at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real _ _ (fun _ => top16) _ _ _ _ h0, all_real _ _ (fun _ => top16) _ _ _ _ h1, all_real _ _ (fun _ => top32) _ _ _ _ h2,
    all_real _ _ (fun _ => top32) _ _ _ _ h3, all_real _ _ (fun _ => top32) _ _ _ _ h4, all_real _ _ (fun _ => top32) _ _ _ _ h5,
    all_real _ _ (fun _ => top32) _ _ _ _ h6⟩

end Cert.Pre_finite.Read

namespace Cert.OutProjIdeal.Block

open Cert.OutProjIdeal Cert.OutProjIdeal.Gen Cert.OutProjIdeal.Body

/-- The normed rows of real arrays are real. -/
theorem hRow_real (a v : Vec Ideal S8x2048x512 .bf16) (w : Vec Ideal S1024x1024 .f32) (x : Vec Ideal S8x2048x1024 .f32)
    (d : Vec Ideal S8x6x1x1024 .f32) (g : Vec Ideal S1024 .f32) (ha : ∀ i, IsReal (a i)) (hv : ∀ i, IsReal (v i)) (hw : ∀ i, IsReal (w i))
    (hx : ∀ i, IsReal (x i)) (hd : ∀ i, IsReal (d i)) (hg : ∀ i, IsReal (g i)) (b : Fin 8) (s : Fin 2048) (k : Fin 1024) :
    IsReal (hRow a v w x d g b s k) :=
  IsReal.normRow (fun k => (hx _).add ((hd _).mul ((IsReal.sum fun i => (ha _).mul (hw _)).add (IsReal.sum fun i => (hv _).mul (hw _)))))
    (fun _ => hg _) (fun _ => hd _) (fun _ => hd _) k

end Cert.OutProjIdeal.Block

namespace Cert.Proof

open Cert.OutProjIdeal.Block in
/-- Over the extended reals, of arrays of real numbers, the output projection and its reference return the same residual rows, the same
    planes of normed rows and the same affinities. -/
theorem algebraic_OutProjIdeal_OutProjRefIdeal_pre_finite [hPre_finite : Cert.Pre_finite.Facts] :
    algebraic_OutProjIdeal_OutProjRefIdeal_pre_finite := by
  intro m ρ m' ρ' hpre hagree
  have hr := fun c => Cert.Pre_finite.Read.decode _ _ _ _ _ _ _ (hpre c)
  refine ⟨_, _, _, run m ρ (fun c b s k => hRow_real _ _ _ _ _ _ (hr c).1 (hr c).2.1 (hr c).2.2.1 (hr c).2.2.2.1 (hr c).2.2.2.2.1
        (hr c).2.2.2.2.2.1 b s k) (fun c k l => (hr c).2.2.2.2.2.2 _), ?_⟩
  refine (θ_run Cert.OutProjRefIdeal.defs _ _).mono (fun _ h c => ⟨?_, ?_, ?_, (h c).2.2.2⟩) (Cert.OutProjRefIdeal.Value.run (F := Ideal) m' ρ')
  all_goals obtain ⟨e0, e1, e2, e3, e4, e5, e6⟩ := hagree c
  · refine (h c).1.trans ?_
    simp only [← e0, ← e1, ← e2, ← e3, ← e4, ← e5, ← e6]
    funext i
    obtain ⟨b, s, k, rfl⟩ : ∃ (b : Fin 8) (s : Fin 2048) (k : Fin 1024), i = ix3 b s k := ⟨i 0, i 1, i 2, eq_ix3 i⟩
    exact Cert.OutProjRefIdeal.Read.res_at _ _ _ _ _ b s k
  · refine (h c).2.1.trans ?_
    simp only [← e0, ← e1, ← e2, ← e3, ← e4, ← e5, ← e6]
    funext i
    obtain ⟨b, q, l, rfl⟩ : ∃ (b : Fin 8) (q : Fin 16384) (l : Fin 128), i = ix3 b q l := ⟨i 0, i 1, i 2, eq_ix3 i⟩
    exact Cert.OutProjRefIdeal.Read.planes_of _ _ _ _ _ _ b q l
  · refine (h c).2.2.1.trans ?_
    unfold Cert.OutProjRefIdeal.Value.res_main_v43
    simp only [← e0, ← e1, ← e2, ← e3, ← e4, ← e5, ← e6]
    funext i
    obtain ⟨b, e, s, rfl⟩ : ∃ (b : Fin 8) (e : Fin 16) (s : Fin 2048), i = ix3 b e s := ⟨i 0, i 1, i 2, eq_ix3 i⟩
    exact Cert.OutProjRefIdeal.Read.aff_of _ _ _ _ _ _ _ b e s

end Cert.Proof
end
-- ==== Proof.AdalnAlgebraic.lean ====
module

public import proofs.«01_k».proof.Defs
public import proofs.«01_k».proof.Proof.Gen.AdalnIdeal.Value
public import proofs.«01_k».proof.Proof.Gen.AdalnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdalnIdeal.Block

open Cert.AdalnIdeal Cert.AdalnIdeal.Gen

/-- The array the call returns: at layer `l`, sequence `b` and feature `n` the product of the condition, times its own
    logistic, with the layer's weights, plus the layer's bias. -/
def value (x : Vec Ideal S8x1024 .f32) (w : Vec Ideal S4x1024x6144 .f32) (d : Vec Ideal S4x6144 .f32)
    (l : Fin 4) (b : Fin 8) (n : Fin 6144) : EReal :=
  (∑ k, x (ix2 b k) * Ideal.logistic (x (ix2 b k)) * w (ix3 l k n)) + d (ix2 l n)

/-- A point's block: the condition, times its own logistic, against the point's weights, plus the point's bias. -/
theorem out_at (x0 : Vec Ideal S8x1024 .f32) (x1 : Vec Ideal S1x1024x1536 .f32) (x2 : Vec Ideal S1x1x1536 .f32)
    (b : Fin 8) (n : Fin 1536) :
    out0_3 x0 x1 x2 (ix3 0 b n)
      = (∑ k, x0 (ix2 b k) * Ideal.logistic (x0 (ix2 b k)) * x1 (ix3 0 k n)) + x2 (ix3 0 0 n) := by
  frame_out
  pointwise [k0_pay1]

variable (m : (ℓ : Loc nD τ sig) → Buf (Elt Ideal) ℓ)

/-- Window 0 stays on the condition. -/
theorem idx0 : ∀ t : Fin grid0.N, win0_0.index t 0 = 0 ∧ win0_0.index t 1 = 0 := by decide +kernel
/-- Window 1 takes the weights of the point's layer and features. -/
theorem idx1 : ∀ t : Fin grid0.N, win0_1.index t 0 = t.val / 4 ∧ win0_1.index t 1 = 0 ∧ win0_1.index t 2 = t.val % 4 := by decide +kernel
/-- Window 2 takes the bias of the point's layer and features. -/
theorem idx2 : ∀ t : Fin grid0.N, win0_2.index t 0 = t.val / 4 ∧ win0_2.index t 1 = 0 ∧ win0_2.index t 2 = t.val % 4 := by decide +kernel
/-- The output's blocks lie by layer, then by features. -/
theorem idx3 : ∀ t : Fin grid0.N, win0_3.index t 0 = t.val / 4 ∧ win0_3.index t 1 = 0 ∧ win0_3.index t 2 = t.val % 4 := by decide +kernel

/-- The biases as one row a layer. -/
theorem row_at (x : Vec Ideal S4x6144 .f32) (l : Fin 4) (n : Fin 6144) :
    shapeCast S4x1x6144 x shapeCasts_S4x6144_S4x1x6144 (ix3 l 0 n) = x (ix2 l n) := by
  pointwise

/-- The biases the region finds. -/
theorem V_bias (c : Dev nD) (l : Fin 4) (n : Fin 6144) :
    V m c main_v0 (ix3 l 0 n) = m ((c : Thread nD τ).loc main_arg2) (ix2 l n) := by
  have e : V m c main_v0 = shapeCast S4x1x6144 (m ((c : Thread nD τ).loc main_arg2)) shapeCasts_S4x6144_S4x1x6144 := by
    unfold V hostOps0
    after_results <;> rfl
  rw [e]
  exact row_at _ l n

/-- Block 0 at an index. -/
theorem blk0 (c : Dev nD) (t : Fin cfg0.N) (b : Fin 8) (k : Fin 1024) :
    (iblk m c 0 t : Vec Ideal S8x1024 .f32) (ix2 b k) = m ((c : Thread nD τ).loc main_arg0) (ix2 b k) := by
  refine Eq.trans ?_ (congrFun (V_main_arg0 m c) (ix2 b k))
  blk_point [iblk, idx0 t]

/-- Block 1 at an index. -/
theorem blk1 (c : Dev nD) (t : Fin cfg0.N) (k : Fin 1024) (n : Fin 1536) (l : Fin 4) (N : Fin 6144)
    (hl : (l : ℕ) = t.val / 4) (hN : (N : ℕ) = 1536 * (t.val % 4) + n) :
    (iblk m c 1 t : Vec Ideal S1x1024x1536 .f32) (ix3 0 k n) = m ((c : Thread nD τ).loc main_arg1) (ix3 l k N) := by
  refine Eq.trans ?_ (congrFun (V_main_arg1 m c) (ix3 l k N))
  blk_point [iblk, idx1 t]

/-- Block 2 at an index. -/
theorem blk2 (c : Dev nD) (t : Fin cfg0.N) (n : Fin 1536) (l : Fin 4) (N : Fin 6144)
    (hl : (l : ℕ) = t.val / 4) (hN : (N : ℕ) = 1536 * (t.val % 4) + n) :
    (iblk m c 2 t : Vec Ideal S1x1x1536 .f32) (ix3 0 0 n) = m ((c : Thread nD τ).loc main_arg2) (ix2 l N) := by
  refine Eq.trans ?_ (V_bias m c l N)
  blk_point [iblk, idx2 t]

/-- A point's block is `value` of the arrays where the block lies. -/
theorem out_value (c : Dev nD) (t : Fin cfg0.N) (y : S1x8x1536.Idx) (l : Fin 4) (b : Fin 8) (N : Fin 6144)
    (hl : (l : ℕ) = t.val / 4) (hb : (b : ℕ) = (y 1 : ℕ)) (hN : (N : ℕ) = 1536 * (t.val % 4) + (y 2 : ℕ)) :
    out0_3 (iblk m c 0 t) (iblk m c 1 t) (iblk m c 2 t) y
      = value (m ((c : Thread nD τ).loc main_arg0)) (m ((c : Thread nD τ).loc main_arg1)) (m ((c : Thread nD τ).loc main_arg2)) l b N := by
  obtain ⟨z, b', n, rfl⟩ : ∃ (z : Fin 1) (b : Fin 8) (n : Fin 1536), y = ix3 z b n := ⟨y 0, y 1, y 2, eq_ix3 y⟩
  obtain rfl : z = 0 := Subsingleton.elim _ _
  obtain rfl : b = b' := Fin.ext hb
  rw [out_at]
  unfold value
  simp only [blk0, blk1 m c t _ n l N hl hN, blk2 m c t n l N hl hN]

/-- The array the run leaves. -/
theorem final (c : Dev nD) : (dats m 0 c).arrAt 3 (cfgs 0).N
    = fun i => value (m ((c : Thread nD τ).loc main_arg0)) (m ((c : Thread nD τ).loc main_arg1)) (m ((c : Thread nD τ).loc main_arg2))
        (i 0) (i 1) (i 2) := by
  refine (dats m 0 c).arrAt_eq_of_covers 3 _ (by decide +kernel) fun t hf y => ?_
  blk_simp
  rw [after0_3]
  refine out_value m c t y _ _ _ ?_ ?_ ?_
  all_goals (blk_simp [idx3 t] <;> try omega)

/-- The run: the result array is `value` at every index, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1) = (fun i => value (m ((c : Thread nD τ).loc main_arg0)) (m ((c : Thread nD τ).loc main_arg1))
        (m ((c : Thread nD τ).loc main_arg2)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.AdalnIdeal.Block

namespace Cert.AdalnRefIdeal.Read

open Cert.AdalnRefIdeal Cert.AdalnRefIdeal.Gen

/-- The reference's result. -/
def term (x : FVec Ideal S8x1024 .f32) (w : FVec Ideal S4x1024x6144 .f32) (d : FVec Ideal S4x6144 .f32) : FVec Ideal S4x8x6144 .f32 :=
  addf (transpose S4x8x6144 [0, 2, 1] (Host.dotGeneral dot_S4x1024x6144_S8x1024_S4x6144x8_1_1_02_0_n_n none w (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x)))))) transposes_S4x6144x8_S4x8x6144_0_2_1) (broadcastInDim S4x8x6144 ![0, 1, 2] bcast_S4x1x6144_S4x8x6144_0_1_2 (broadcastInDim S4x1x6144 ![0, 2] bcast_S4x6144_S4x1x6144_0_2 d))

/-- The reference's result at an index. -/
theorem term_at (x : FVec Ideal S8x1024 .f32) (w : FVec Ideal S4x1024x6144 .f32) (d : FVec Ideal S4x6144 .f32)
    (l : Fin 4) (b : Fin 8) (n : Fin 6144) : term x w d (ix3 l b n) = Cert.AdalnIdeal.Block.value x w d l b n := by
  unfold Cert.AdalnIdeal.Block.value
  pointwise [term]
  exact congrArg (· + d (ix2 l n)) (Finset.sum_congr rfl fun k _ => mul_comm _ _)

end Cert.AdalnRefIdeal.Read

namespace Cert.Proof

/-- Over the extended reals the modulation call and its reference return the same array. -/
theorem algebraic_AdalnIdeal_AdalnRefIdeal : algebraic_AdalnIdeal_AdalnRefIdeal := by
  intro m ρ m' ρ' _ hagree
  refine ⟨_, Cert.AdalnIdeal.Block.run m ρ, ?_⟩
  refine (θ_run Cert.AdalnRefIdeal.defs _ _).mono (fun _ h c => ⟨?_, (h c).2⟩) (Cert.AdalnRefIdeal.Value.run (F := Ideal) m' ρ')
  rw [(h c).1]
  simp only [hagree c]
  funext i
  obtain ⟨l, b, n, rfl⟩ : ∃ (l : Fin 4) (b : Fin 8) (n : Fin 6144), i = ix3 l b n := ⟨i 0, i 1, i 2, eq_ix3 i⟩
  exact Cert.AdalnRefIdeal.Read.term_at _ _ _ l b n

end Cert.Proof
end
-- ==== Proof.BiasAlgebraic.lean ====
module

public import proofs.«01_k».proof.Defs
public import proofs.«01_k».proof.Proof.Gen.BiasIdeal.Value
public import proofs.«01_k».proof.Proof.Gen.BiasRefIdeal.Run
public import proofs.«01_k».proof.Proof.SoftRow

@[expose] public section

set_option maxRecDepth 16384

noncomputable section

open Idealize.ShloMosaic Idealize.ShloMosaic.TcCoe Idealize.SL.Sem
open Idealize.ShloMosaic.Pipeline (Dat)

namespace Cert.BiasIdeal.Block

open Cert.BiasIdeal Cert.BiasIdeal.Gen

/-- The product of the bias columns with one case's selection: the two remainders of real columns add nothing. -/
theorem prod_at (x0 : Vec Ideal S512x512 .f32) (x1 : Vec Ideal S1x512x1536 .bf16) (x2 : Vec Ideal S1x4x64x384 .f32) (hx : ∀ i, IsReal (x0 i))
    (r : Fin 512) (n : Fin 1536) : k0_pay165 x0 x1 x2 (ix2 r n) = ∑ k, x0 (ix2 r k) * x1 (ix3 0 k n) := by
  unfold k0_pay165
  simp (disch := decide) only [View.ld_unit_lit']
  pointwise [k0_pay2]
  simp only [(hx _).sub_self, IsReal.zero.sub_self, zero_mul, Finset.sum_const_zero, add_zero]

/-- One entry of a case's table: head `h`, column block `c`, query `q` and key `k`. -/
def entry (R : FVec Ideal S512x1536 .f32) (x2 : Vec Ideal S1x4x64x384 .f32) (h : Fin 8) (c : Fin 4) (q : Fin 64) (k : Fin 384) : EReal :=
  R (ix2 ⟨64 * h + 16 * c + (q : ℕ) % 16, by omega⟩ ⟨384 * ((q : ℕ) / 16) + k, by omega⟩) + x2 (ix4 0 c q k)

/-- A slice of the product plus a slice of the mask, at an index. -/
theorem slice_at (R : FVec Ideal S512x1536 .f32) (v : Vec Ideal S1x1x16x384 .f32) (a b : ℕ) (hs : S512x1536.Slices ![a, b] S16x384) (q : Fin 16) (k : Fin 384)
    (ha : a + q < 512) (hb : b + k < 1536) :
    shapeCast S1x1x1x16x384 (addf (extractStridedSlice S16x384 ![a, b] R hs) (shapeCast S16x384 v shapeCasts_S1x1x16x384_S16x384))
        shapeCasts_S16x384_S1x1x1x16x384 (ix5 0 0 0 q k)
      = R (ix2 ⟨a + q, ha⟩ ⟨b + k, hb⟩) + v (ix4 0 0 q k) := by
  pointwise

/-- The slice that head `h` stores for column block `c` at query `o` holds that part of the table's entries. -/
theorem piece_at (R : FVec Ideal S512x1536 .f32) (x2 : Vec Ideal S1x4x64x384 .f32) (h c a b o : ℕ) (hs : S512x1536.Slices ![a, b] S16x384) (inb inb')
    (y : S1x1x1x16x384.Idx) (hh : h < 8) (hc : c < 4) (ho : o < 64) (ha : a = 64 * h + 16 * c) (hb : b = 24 * o) (hm : o % 16 = 0) :
    shapeCast S1x1x1x16x384 (addf (extractStridedSlice S16x384 ![a, b] R hs)
        (shapeCast S16x384 (View.ld x2 (Rect.unit (s := S1x4x64x384) ![0, c, o, 0] S1x1x16x384.size inb)) shapeCasts_S1x1x16x384_S16x384))
        shapeCasts_S16x384_S1x1x1x16x384 y
      = (fun z : S8x1x4x64x384.Idx => entry R x2 (z 0) (z 2) (z 3) (z 4))
          ((Rect.unit (s := S8x1x4x64x384) ![h, 0, c, o, 0] S1x1x1x16x384.size inb').emb y) := by
  obtain ⟨q, k, rfl⟩ : ∃ (q : Fin 16) (k : Fin 384), y = ix5 0 0 0 q k := ⟨y 3, y 4, (eq_ix5 y).trans (by
    congr 1 <;> exact Subsingleton.elim (α := Fin 1) _ _)⟩
  rw [slice_at R _ a b hs q k (by omega) (by omega)]
  dsimp only
  have e0 : (((Rect.unit (s := S8x1x4x64x384) ![h, 0, c, o, 0] S1x1x1x16x384.size inb').emb (ix5 0 0 0 q k)) 0 : ℕ) = h + 1 * 0 := Rect.emb_apply ..
  have e2 : (((Rect.unit (s := S8x1x4x64x384) ![h, 0, c, o, 0] S1x1x1x16x384.size inb').emb (ix5 0 0 0 q k)) 2 : ℕ) = c + 1 * 0 := Rect.emb_apply ..
  have e3 : (((Rect.unit (s := S8x1x4x64x384) ![h, 0, c, o, 0] S1x1x1x16x384.size inb').emb (ix5 0 0 0 q k)) 3 : ℕ) = o + 1 * q := Rect.emb_apply ..
  have e4 : (((Rect.unit (s := S8x1x4x64x384) ![h, 0, c, o, 0] S1x1x1x16x384.size inb').emb (ix5 0 0 0 q k)) 4 : ℕ) = 0 + 1 * k := Rect.emb_apply ..
  have f0 : ((Rect.unit (s := S8x1x4x64x384) ![h, 0, c, o, 0] S1x1x1x16x384.size inb').emb (ix5 0 0 0 q k)) 0 = (⟨h, hh⟩ : Fin 8) := Fin.ext (e0.trans (show h + 1 * 0 = h by omega))
  have f2 : ((Rect.unit (s := S8x1x4x64x384) ![h, 0, c, o, 0] S1x1x1x16x384.size inb').emb (ix5 0 0 0 q k)) 2 = (⟨c, hc⟩ : Fin 4) := Fin.ext (e2.trans (show c + 1 * 0 = c by omega))
  have f3 : ((Rect.unit (s := S8x1x4x64x384) ![h, 0, c, o, 0] S1x1x1x16x384.size inb').emb (ix5 0 0 0 q k)) 3 = (⟨o + q, by omega⟩ : Fin 64) := Fin.ext (e3.trans (show o + 1 * (q : ℕ) = o + q by omega))
  have f4 : ((Rect.unit (s := S8x1x4x64x384) ![h, 0, c, o, 0] S1x1x1x16x384.size inb').emb (ix5 0 0 0 q k)) 4 = (k : Fin 384) := Fin.ext (e4.trans (show 0 + 1 * (k : ℕ) = k by omega))
  rw [f0, f2, f3, f4]
  unfold entry
  refine congrArg₂ (· + ·) (congrArg R ?_) ?_
  · refine congrArg₂ ix2 (Fin.ext ?_) (Fin.ext ?_)
    · change a + (q : ℕ) = 64 * h + 16 * c + (o + q) % 16
      omega
    · change b + (k : ℕ) = 384 * ((o + q) / 16) + k
      omega
  · change x2 _ = x2 _
    refine congrArg x2 ?_
    funext d
    apply Fin.ext
    refine (Rect.emb_apply ..).trans ?_
    fin_cases d <;> simp

/-- The block that a case leaves, at an index. -/
theorem out_at (x0 : Vec Ideal S512x512 .f32) (x1 : Vec Ideal S1x512x1536 .bf16) (x2 : Vec Ideal S1x4x64x384 .f32) (y : S8x1x4x64x384.Idx) :
    out0_3 x0 x1 x2 y = entry (k0_pay165 x0 x1 x2) x2 (y 0) (y 2) (y 3) (y 4) := by
  unfold out0_3
  dsimp only
  refine View.canon_apply_of_pieces (Val := Elt Ideal) (fun z : S8x1x4x64x384.Idx => entry (k0_pay165 x0 x1 x2) x2 (z 0) (z 2) (z 3) (z 4)) _ ?_ y (cover0_3 ..)
  iterate 128
    refine List.forall_mem_cons.2 ⟨fun z => piece_at (k0_pay165 x0 x1 x2) x2 _ _ _ _ _ (by decide) _ (by decide) z (by decide) (by decide) (by decide) rfl rfl rfl, ?_⟩
  exact fun _ hp => absurd hp List.not_mem_nil

/-- The array the call returns: at head `h`, case `z`, column block `c`, query `q` and key `k` the columns' row of the head, block and
    query against the case's selection at the query's row of the block and the key, plus the mask. -/
def value (x : Vec Ideal S512x512 .f32) (s : Vec Ideal S3x512x1536 .bf16) (v : Vec Ideal S3x4x64x384 .f32)
    (h : Fin 8) (z : Fin 3) (c : Fin 4) (q : Fin 64) (k : Fin 384) : EReal :=
  (∑ d, x (ix2 ⟨64 * h + 16 * c + (q : ℕ) % 16, by omega⟩ d) * s (ix3 z d ⟨384 * ((q : ℕ) / 16) + k, by omega⟩)) + v (ix4 z c q k)

variable (m : (ℓ : Loc nD τ sig) → Buf (Elt Ideal) ℓ)

/-- Window 0 stays on the columns. -/
theorem idx0 : ∀ t : Fin grid0.N, win0_0.index t 0 = 0 ∧ win0_0.index t 1 = 0 := by decide +kernel
/-- Window 1 takes the cases' selections in order. -/
theorem idx1 : ∀ t : Fin grid0.N, win0_1.index t 0 = t.val ∧ win0_1.index t 1 = 0 ∧ win0_1.index t 2 = 0 := by decide +kernel
/-- Window 2 takes the cases' masks in order. -/
theorem idx2 : ∀ t : Fin grid0.N, win0_2.index t 0 = t.val ∧ win0_2.index t 1 = 0 ∧ win0_2.index t 2 = 0 ∧ win0_2.index t 3 = 0 := by
  decide +kernel
/-- The output's blocks lie by case. -/
theorem idx3 : ∀ t : Fin grid0.N, win0_3.index t 0 = 0 ∧ win0_3.index t 1 = t.val ∧ win0_3.index t 2 = 0 ∧ win0_3.index t 3 = 0
    ∧ win0_3.index t 4 = 0 := by decide +kernel

/-- Block 0 at an index. -/
theorem blk0 (c : Dev nD) (t : Fin cfg0.N) (r d : Fin 512) :
    (iblk m c 0 t : Vec Ideal S512x512 .f32) (ix2 r d) = m ((c : Thread nD τ).loc main_arg0) (ix2 r d) := by
  refine Eq.trans ?_ (congrFun (V_main_arg0 m c) (ix2 r d))
  blk_point [iblk, idx0 t]

/-- Block 1 at an index. -/
theorem blk1 (c : Dev nD) (t : Fin cfg0.N) (d : Fin 512) (n : Fin 1536) (z : Fin 3) (hz : (z : ℕ) = t.val) :
    (iblk m c 1 t : Vec Ideal S1x512x1536 .bf16) (ix3 0 d n) = m ((c : Thread nD τ).loc main_arg1) (ix3 z d n) := by
  refine Eq.trans ?_ (congrFun (V_main_arg1 m c) (ix3 z d n))
  blk_point [iblk, idx1 t]

/-- Block 2 at an index. -/
theorem blk2 (c : Dev nD) (t : Fin cfg0.N) (b : Fin 4) (q : Fin 64) (k : Fin 384) (z : Fin 3) (hz : (z : ℕ) = t.val) :
    (iblk m c 2 t : Vec Ideal S1x4x64x384 .f32) (ix4 0 b q k) = m ((c : Thread nD τ).loc main_arg2) (ix4 z b q k) := by
  refine Eq.trans ?_ (congrFun (V_main_arg2 m c) (ix4 z b q k))
  blk_point [iblk, idx2 t]

/-- The columns of a case's block are real where the argument's are. -/
theorem blk0_real (c : Dev nD) (t : Fin cfg0.N) (hx : ∀ i, IsReal (m ((c : Thread nD τ).loc main_arg0) i)) (i : S512x512.Idx) :
    IsReal ((iblk m c 0 t : Vec Ideal S512x512 .f32) i) := by
  obtain ⟨r, d, rfl⟩ : ∃ (r d : Fin 512), i = ix2 r d := ⟨i 0, i 1, eq_ix2 i⟩
  rw [blk0]
  exact hx _

/-- A case's block is `value` of the arrays where the block lies. -/
theorem out_value (c : Dev nD) (t : Fin cfg0.N) (hx : ∀ i, IsReal (m ((c : Thread nD τ).loc main_arg0) i)) (y : S8x1x4x64x384.Idx)
    (h : Fin 8) (z : Fin 3) (b : Fin 4) (q : Fin 64) (k : Fin 384)
    (hh : (h : ℕ) = (y 0 : ℕ)) (hz : (z : ℕ) = t.val) (hb : (b : ℕ) = (y 2 : ℕ)) (hq : (q : ℕ) = (y 3 : ℕ)) (hk : (k : ℕ) = (y 4 : ℕ)) :
    out0_3 (iblk m c 0 t) (iblk m c 1 t) (iblk m c 2 t) y
      = value (m ((c : Thread nD τ).loc main_arg0)) (m ((c : Thread nD τ).loc main_arg1)) (m ((c : Thread nD τ).loc main_arg2)) h z b q k := by
  obtain ⟨h', z', b', q', k', rfl⟩ : ∃ (h : Fin 8) (z : Fin 1) (b : Fin 4) (q : Fin 64) (k : Fin 384), y = ix5 h z b q k :=
    ⟨y 0, y 1, y 2, y 3, y 4, eq_ix5 y⟩
  obtain rfl : h = h' := Fin.ext hh
  obtain rfl : b = b' := Fin.ext hb
  obtain rfl : q = q' := Fin.ext hq
  obtain rfl : k = k' := Fin.ext hk
  rw [out_at]
  change entry _ _ h b q k = _
  unfold entry value
  rw [prod_at _ _ _ (blk0_real m c t hx)]
  simp only [blk0, blk1 m c t _ _ z hz, blk2 m c t _ _ _ z hz]

/-- The array the run leaves. -/
theorem final (c : Dev nD) (hx : ∀ i, IsReal (m ((c : Thread nD τ).loc main_arg0) i)) : (dats m 0 c).arrAt 3 (cfgs 0).N
    = fun i => value (m ((c : Thread nD τ).loc main_arg0)) (m ((c : Thread nD τ).loc main_arg1)) (m ((c : Thread nD τ).loc main_arg2))
        (i 0) (i 1) (i 2) (i 3) (i 4) := by
  refine (dats m 0 c).arrAt_eq_of_covers 3 _ (by decide +kernel) fun t hf y => ?_
  blk_simp
  rw [after0_3]
  refine out_value m c t hx y _ _ _ _ _ ?_ ?_ ?_ ?_ ?_
  all_goals (blk_simp [idx3 t] <;> try omega)

/-- The run: the result array is `value` at every index, the arguments are unchanged. -/
theorem run (ρ : Dev nD → PrngReg) (hx : ∀ (c : Dev nD) i, IsReal (m ((c : Thread nD τ).loc main_arg0) i)) :
    θ_run defs (onTc (τ := τ) (main (F := Ideal))) ⟨m, fun _ => 0, ρ⟩ fun r => ∀ c : Dev nD,
      r.2.mem ((c : Thread nD τ).loc main_v0) = (fun i => value (m ((c : Thread nD τ).loc main_arg0)) (m ((c : Thread nD τ).loc main_arg1))
        (m ((c : Thread nD τ).loc main_arg2)) (i 0) (i 1) (i 2) (i 3) (i 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (hx c)), (h c).2⟩) (Value.run_blocks m ρ)

end Cert.BiasIdeal.Block

namespace Cert.BiasRefIdeal.Read

open Cert.BiasRefIdeal Cert.BiasRefIdeal.Gen

/-- The reference's product, before the heads come first. -/
def prod (x : FVec Ideal S512x512 .f32) (s : FVec Ideal S3x512x1536 .bf16) : FVec Ideal S3x4x384x8x4x16 .f32 :=
  Host.dotGeneral dot_S3x512x4x384_S8x4x16x512_S3x4x384x8x4x16_1_3_023_012_n_n none (shapeCast _ (extf .f32 s bitsLt_bf16_f32) shapeCasts_S3x512x1536_S3x512x4x384) (shapeCast _ x shapeCasts_S512x512_S8x4x16x512)

/-- The reference's result. -/
def term (x : FVec Ideal S512x512 .f32) (s : FVec Ideal S3x512x1536 .bf16) (v : FVec Ideal S3x4x64x384 .f32) : FVec Ideal S8x3x4x64x384 .f32 :=
  addf (shapeCast _ (transpose S8x3x4x4x16x384 [3, 0, 4, 1, 5, 2] (prod x s) transposes_S3x4x384x8x4x16_S8x3x4x4x16x384_3_0_4_1_5_2) shapeCasts_S8x3x4x4x16x384_S8x3x4x64x384) (broadcastInDim S8x3x4x64x384 ![0, 1, 2, 3, 4] bcast_S1x3x4x64x384_S8x3x4x64x384_0_1_2_3_4 (broadcastInDim S1x3x4x64x384 ![1, 2, 3, 4] bcast_S3x4x64x384_S1x3x4x64x384_1_2_3_4 v))

/-- The reference's result at an index. -/
theorem term_at (x : FVec Ideal S512x512 .f32) (s : FVec Ideal S3x512x1536 .bf16) (v : FVec Ideal S3x4x64x384 .f32)
    (h : Fin 8) (z : Fin 3) (c : Fin 4) (q : Fin 64) (k : Fin 384) : term x s v (ix5 h z c q k) = Cert.BiasIdeal.Block.value x s v h z c q k := by
  unfold Cert.BiasIdeal.Block.value
  pointwise [term, prod]
  refine congrArg (· + v (ix4 z c q k)) (Finset.sum_congr rfl fun d _ => (mul_comm _ _).trans ?_)
  refine congrArg₂ (· * ·) (congrArg x (congrArg₂ ix2 (Fin.ext ?_) rfl)) (congrArg s (congrArg (ix3 z d) (Fin.ext ?_))) <;> dsimp only <;> omega

end Cert.BiasRefIdeal.Read

namespace Cert.Pre_finite_cols.Read

open Cert.Pre_finite_cols

instance : Subsingleton S_.Idx := ⟨fun a b => funext fun i => i.elim0⟩

variable [Facts]

/-- Where the precondition holds every bias column holds real numbers. -/
theorem decode (x : FVec Ideal S512x512 .f32) (s : FVec Ideal S3x512x1536 .bf16) (v : FVec Ideal S3x4x64x384 .f32)
    (h : fn (F := Ideal) x s v = fun _ => 1#1) (i : S512x512.Idx) : IsReal (x i) := by
  have e := congrFun h (fun i => i.elim0)
  unfold fn at e
  exact all_real _ _ (fun _ => top32) _ _ _ _ e i

end Cert.Pre_finite_cols.Read

namespace Cert.Proof

/-- Over the extended reals, of real columns, the bias table and its reference return the same array. -/
theorem algebraic_BiasIdeal_BiasRefIdeal_pre_finite_cols [hPre_finite_cols : Cert.Pre_finite_cols.Facts] :
    algebraic_BiasIdeal_BiasRefIdeal_pre_finite_cols := by
  intro m ρ m' ρ' hpre hagree
  refine ⟨_, Cert.BiasIdeal.Block.run m ρ (fun c => Cert.Pre_finite_cols.Read.decode _ _ _ (hpre c)), ?_⟩
  refine (θ_run Cert.BiasRefIdeal.defs _ _).mono (fun _ h c => ⟨?_, (h c).2⟩) (Cert.BiasRefIdeal.Value.run (F := Ideal) m' ρ')
  rw [(h c).1]
  simp only [hagree c]
  funext i
  obtain ⟨h, z, b, q, k, rfl⟩ : ∃ (h : Fin 8) (z : Fin 3) (b : Fin 4) (q : Fin 64) (k : Fin 384), i = ix5 h z b q k :=
    ⟨i 0, i 1, i 2, i 3, i 4, eq_ix5 i⟩
  exact Cert.BiasRefIdeal.Read.term_at _ _ _ h z b q k

end Cert.Proof
end
-- ==== Proof.FnetIdealDefs.lean ====
module

public import proofs.«01_k».proof.Proof.Gen.FnetIdeal.Frame
public import proofs.«01_k».proof.Proof.Gen.FnetIdeal.Skeleton

@[expose] public section

set_option maxRecDepth 16384

noncomputable section

namespace Cert.FnetIdeal.Body

open Cert.FnetIdeal Cert.FnetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev rG : Rect S1x1024 := Rect.unit (s := S1x1024) ![0, 0] S1x1024.size inb_S1x1024_S1x1024_0_0
abbrev rM : Rect S1x1x1x1024 := Rect.unit (s := S1x1x1x1024) ![0, 0, 0, 0] S1x1x1x1024.size inb_S1x1x1x1024_S1x1x1x1024_0_0_0_0
abbrev rC : Rect S256x512 := Rect.unit (s := S256x512) ![0, 0] S256x512.size inb_S256x512_S256x512_0_0
abbrev rT : Rect S512x2048 := Rect.unit (s := S512x2048) ![0, 0] S512x2048.size inb_S512x2048_S512x2048_0_0
abbrev rS : Rect S2048x1024 := Rect.unit (s := S2048x1024) ![0, 0] S2048x1024.size inb_S2048x1024_S2048x1024_0_0
abbrev rW : Rect S1024x1024 := Rect.unit (s := S1024x1024) ![0, 0] S1024x1024.size inb_S1024x1024_S1024x1024_0_0
abbrev rO (i : grid0.Coords) : Rect S1x2048x1024 := Rect.unit (s := S1x2048x1024) (k0_off1 i) S1x512x1024.size (k0_off1_inb i)
abbrev rX : Rect S1x512x1024 := Rect.unit (s := S1x512x1024) ![0, 0, 0] S1x512x1024.size inb_S1x512x1024_S1x512x1024_0_0_0
abbrev rR : Rect S1024x256 := Rect.unit (s := S1024x256) ![0, 0] S1024x256.size inb_S1024x256_S1024x256_0_0
abbrev rL : Rect S1024x256 := Rect.unit (s := S1024x256) ![0, 0] S1024x128.size inb_S1024x256_S1024x128_0_0
abbrev rP : Rect S1x16x512 := Rect.unit (s := S1x16x512) ![0, 0, 0] S1x16x512.size inb_S1x16x512_S1x16x512_0_0_0
abbrev slab0 : Rect S1x4096x128 := ⟨⟨![0, 0, 0], S1x512x128.size, ![1, 8, 1], inb_S1x4096x128_S1x512x128_0_0_0_s_1_8_1⟩, spos_1_8_1⟩
abbrev slab1 : Rect S1x4096x128 := ⟨⟨![0, 1, 0], S1x512x128.size, ![1, 8, 1], inb_S1x4096x128_S1x512x128_0_1_0_s_1_8_1⟩, spos_1_8_1⟩
abbrev slab2 : Rect S1x4096x128 := ⟨⟨![0, 2, 0], S1x512x128.size, ![1, 8, 1], inb_S1x4096x128_S1x512x128_0_2_0_s_1_8_1⟩, spos_1_8_1⟩
abbrev slab3 : Rect S1x4096x128 := ⟨⟨![0, 3, 0], S1x512x128.size, ![1, 8, 1], inb_S1x4096x128_S1x512x128_0_3_0_s_1_8_1⟩, spos_1_8_1⟩
abbrev slab4 : Rect S1x4096x128 := ⟨⟨![0, 4, 0], S1x512x128.size, ![1, 8, 1], inb_S1x4096x128_S1x512x128_0_4_0_s_1_8_1⟩, spos_1_8_1⟩
abbrev slab5 : Rect S1x4096x128 := ⟨⟨![0, 5, 0], S1x512x128.size, ![1, 8, 1], inb_S1x4096x128_S1x512x128_0_5_0_s_1_8_1⟩, spos_1_8_1⟩
abbrev slab6 : Rect S1x4096x128 := ⟨⟨![0, 6, 0], S1x512x128.size, ![1, 8, 1], inb_S1x4096x128_S1x512x128_0_6_0_s_1_8_1⟩, spos_1_8_1⟩
abbrev slab7 : Rect S1x4096x128 := ⟨⟨![0, 7, 0], S1x512x128.size, ![1, 8, 1], inb_S1x4096x128_S1x512x128_0_7_0_s_1_8_1⟩, spos_1_8_1⟩

/-- The normed and modulated rows from row 0. -/
def hrow0 (x0 : Vec F S1x2048x1024 .f32) (x1 : Vec F S1x1024 .f32) (x2 : Vec F S1x1x1x1024 .f32) (x3 : Vec F S1x1x1x1024 .f32) : FVec F S512x1024 .bf16 :=
  k0_pay2 (View.ld x0 (Rect.unit (s := S1x2048x1024) ![0, 0, 0] S1x512x1024.size inb_S1x2048x1024_S1x512x1024_0_0_0)) (View.ld x1 rG) (View.ld x2 rM) (View.ld x3 rM)

/-- The normed and modulated rows from row 512. -/
def hrow512 (x0 : Vec F S1x2048x1024 .f32) (x1 : Vec F S1x1024 .f32) (x2 : Vec F S1x1x1x1024 .f32) (x3 : Vec F S1x1x1x1024 .f32) : FVec F S512x1024 .bf16 :=
  k0_pay2 (View.ld x0 (Rect.unit (s := S1x2048x1024) ![0, 512, 0] S1x512x1024.size inb_S1x2048x1024_S1x512x1024_0_512_0)) (View.ld x1 rG) (View.ld x2 rM) (View.ld x3 rM)

/-- The normed and modulated rows from row 1024. -/
def hrow1024 (x0 : Vec F S1x2048x1024 .f32) (x1 : Vec F S1x1024 .f32) (x2 : Vec F S1x1x1x1024 .f32) (x3 : Vec F S1x1x1x1024 .f32) : FVec F S512x1024 .bf16 :=
  k0_pay2 (View.ld x0 (Rect.unit (s := S1x2048x1024) ![0, 1024, 0] S1x512x1024.size inb_S1x2048x1024_S1x512x1024_0_1024_0)) (View.ld x1 rG) (View.ld x2 rM) (View.ld x3 rM)

/-- The normed and modulated rows from row 1536. -/
def hrow1536 (x0 : Vec F S1x2048x1024 .f32) (x1 : Vec F S1x1024 .f32) (x2 : Vec F S1x1x1x1024 .f32) (x3 : Vec F S1x1x1x1024 .f32) : FVec F S512x1024 .bf16 :=
  k0_pay2 (View.ld x0 (Rect.unit (s := S1x2048x1024) ![0, 1536, 0] S1x512x1024.size inb_S1x2048x1024_S1x512x1024_0_1536_0)) (View.ld x1 rG) (View.ld x2 rM) (View.ld x3 rM)

/-- The cosine products of the batch entry: four blocks of rows by four groups of columns, the last store first. -/
def piecesA (x0 : Vec F S1x2048x1024 .f32) (x1 : Vec F S1x1024 .f32) (x2 : Vec F S1x1x1x1024 .f32) (x3 : Vec F S1x1x1x1024 .f32) (x4 : Vec F S256x512 .bf16) : List (View.Piece (Elt F) S2048x1024 .bf16) :=
  [
    ⟨Rect.unit (s := S2048x1024) ![1536, 768] S512x256.size inb_S2048x1024_S512x256_1536_768, k0_pay20 (extractStridedSlice S512x256 ![0, 768] (hrow1536 x0 x1 x2 x3) slices_S512x1024_o0_768_S512x256) (View.ld x4 rC)⟩,
    ⟨Rect.unit (s := S2048x1024) ![1536, 512] S512x256.size inb_S2048x1024_S512x256_1536_512, k0_pay20 (extractStridedSlice S512x256 ![0, 512] (hrow1536 x0 x1 x2 x3) slices_S512x1024_o0_512_S512x256) (View.ld x4 rC)⟩,
    ⟨Rect.unit (s := S2048x1024) ![1536, 256] S512x256.size inb_S2048x1024_S512x256_1536_256, k0_pay20 (extractStridedSlice S512x256 ![0, 256] (hrow1536 x0 x1 x2 x3) slices_S512x1024_o0_256_S512x256) (View.ld x4 rC)⟩,
    ⟨Rect.unit (s := S2048x1024) ![1536, 0] S512x256.size inb_S2048x1024_S512x256_1536_0, k0_pay20 (extractStridedSlice S512x256 ![0, 0] (hrow1536 x0 x1 x2 x3) slices_S512x1024_o0_0_S512x256) (View.ld x4 rC)⟩,
    ⟨Rect.unit (s := S2048x1024) ![1024, 768] S512x256.size inb_S2048x1024_S512x256_1024_768, k0_pay20 (extractStridedSlice S512x256 ![0, 768] (hrow1024 x0 x1 x2 x3) slices_S512x1024_o0_768_S512x256) (View.ld x4 rC)⟩,
    ⟨Rect.unit (s := S2048x1024) ![1024, 512] S512x256.size inb_S2048x1024_S512x256_1024_512, k0_pay20 (extractStridedSlice S512x256 ![0, 512] (hrow1024 x0 x1 x2 x3) slices_S512x1024_o0_512_S512x256) (View.ld x4 rC)⟩,
    ⟨Rect.unit (s := S2048x1024) ![1024, 256] S512x256.size inb_S2048x1024_S512x256_1024_256, k0_pay20 (extractStridedSlice S512x256 ![0, 256] (hrow1024 x0 x1 x2 x3) slices_S512x1024_o0_256_S512x256) (View.ld x4 rC)⟩,
    ⟨Rect.unit (s := S2048x1024) ![1024, 0] S512x256.size inb_S2048x1024_S512x256_1024_0, k0_pay20 (extractStridedSlice S512x256 ![0, 0] (hrow1024 x0 x1 x2 x3) slices_S512x1024_o0_0_S512x256) (View.ld x4 rC)⟩,
    ⟨Rect.unit (s := S2048x1024) ![512, 768] S512x256.size inb_S2048x1024_S512x256_512_768, k0_pay20 (extractStridedSlice S512x256 ![0, 768] (hrow512 x0 x1 x2 x3) slices_S512x1024_o0_768_S512x256) (View.ld x4 rC)⟩,
    ⟨Rect.unit (s := S2048x1024) ![512, 512] S512x256.size inb_S2048x1024_S512x256_512_512, k0_pay20 (extractStridedSlice S512x256 ![0, 512] (hrow512 x0 x1 x2 x3) slices_S512x1024_o0_512_S512x256) (View.ld x4 rC)⟩,
    ⟨Rect.unit (s := S2048x1024) ![512, 256] S512x256.size inb_S2048x1024_S512x256_512_256, k0_pay20 (extractStridedSlice S512x256 ![0, 256] (hrow512 x0 x1 x2 x3) slices_S512x1024_o0_256_S512x256) (View.ld x4 rC)⟩,
    ⟨Rect.unit (s := S2048x1024) ![512, 0] S512x256.size inb_S2048x1024_S512x256_512_0, k0_pay20 (extractStridedSlice S512x256 ![0, 0] (hrow512 x0 x1 x2 x3) slices_S512x1024_o0_0_S512x256) (View.ld x4 rC)⟩,
    ⟨Rect.unit (s := S2048x1024) ![0, 768] S512x256.size inb_S2048x1024_S512x256_0_768, k0_pay20 (extractStridedSlice S512x256 ![0, 768] (hrow0 x0 x1 x2 x3) slices_S512x1024_o0_768_S512x256) (View.ld x4 rC)⟩,
    ⟨Rect.unit (s := S2048x1024) ![0, 512] S512x256.size inb_S2048x1024_S512x256_0_512, k0_pay20 (extractStridedSlice S512x256 ![0, 512] (hrow0 x0 x1 x2 x3) slices_S512x1024_o0_512_S512x256) (View.ld x4 rC)⟩,
    ⟨Rect.unit (s := S2048x1024) ![0, 256] S512x256.size inb_S2048x1024_S512x256_0_256, k0_pay20 (extractStridedSlice S512x256 ![0, 256] (hrow0 x0 x1 x2 x3) slices_S512x1024_o0_256_S512x256) (View.ld x4 rC)⟩,
    ⟨Rect.unit (s := S2048x1024) ![0, 0] S512x256.size inb_S2048x1024_S512x256_0_0, k0_pay20 (extractStridedSlice S512x256 ![0, 0] (hrow0 x0 x1 x2 x3) slices_S512x1024_o0_0_S512x256) (View.ld x4 rC)⟩]

/-- The sine products of the batch entry. -/
def piecesB (x0 : Vec F S1x2048x1024 .f32) (x1 : Vec F S1x1024 .f32) (x2 : Vec F S1x1x1x1024 .f32) (x3 : Vec F S1x1x1x1024 .f32) (x4 : Vec F S256x512 .bf16) : List (View.Piece (Elt F) S2048x1024 .bf16) :=
  [
    ⟨Rect.unit (s := S2048x1024) ![1536, 768] S512x256.size inb_S2048x1024_S512x256_1536_768, k0_pay21 (extractStridedSlice S512x256 ![0, 768] (hrow1536 x0 x1 x2 x3) slices_S512x1024_o0_768_S512x256) (View.ld x4 rC)⟩,
    ⟨Rect.unit (s := S2048x1024) ![1536, 512] S512x256.size inb_S2048x1024_S512x256_1536_512, k0_pay21 (extractStridedSlice S512x256 ![0, 512] (hrow1536 x0 x1 x2 x3) slices_S512x1024_o0_512_S512x256) (View.ld x4 rC)⟩,
    ⟨Rect.unit (s := S2048x1024) ![1536, 256] S512x256.size inb_S2048x1024_S512x256_1536_256, k0_pay21 (extractStridedSlice S512x256 ![0, 256] (hrow1536 x0 x1 x2 x3) slices_S512x1024_o0_256_S512x256) (View.ld x4 rC)⟩,
    ⟨Rect.unit (s := S2048x1024) ![1536, 0] S512x256.size inb_S2048x1024_S512x256_1536_0, k0_pay21 (extractStridedSlice S512x256 ![0, 0] (hrow1536 x0 x1 x2 x3) slices_S512x1024_o0_0_S512x256) (View.ld x4 rC)⟩,
    ⟨Rect.unit (s := S2048x1024) ![1024, 768] S512x256.size inb_S2048x1024_S512x256_1024_768, k0_pay21 (extractStridedSlice S512x256 ![0, 768] (hrow1024 x0 x1 x2 x3) slices_S512x1024_o0_768_S512x256) (View.ld x4 rC)⟩,
    ⟨Rect.unit (s := S2048x1024) ![1024, 512] S512x256.size inb_S2048x1024_S512x256_1024_512, k0_pay21 (extractStridedSlice S512x256 ![0, 512] (hrow1024 x0 x1 x2 x3) slices_S512x1024_o0_512_S512x256) (View.ld x4 rC)⟩,
    ⟨Rect.unit (s := S2048x1024) ![1024, 256] S512x256.size inb_S2048x1024_S512x256_1024_256, k0_pay21 (extractStridedSlice S512x256 ![0, 256] (hrow1024 x0 x1 x2 x3) slices_S512x1024_o0_256_S512x256) (View.ld x4 rC)⟩,
    ⟨Rect.unit (s := S2048x1024) ![1024, 0] S512x256.size inb_S2048x1024_S512x256_1024_0, k0_pay21 (extractStridedSlice S512x256 ![0, 0] (hrow1024 x0 x1 x2 x3) slices_S512x1024_o0_0_S512x256) (View.ld x4 rC)⟩,
    ⟨Rect.unit (s := S2048x1024) ![512, 768] S512x256.size inb_S2048x1024_S512x256_512_768, k0_pay21 (extractStridedSlice S512x256 ![0, 768] (hrow512 x0 x1 x2 x3) slices_S512x1024_o0_768_S512x256) (View.ld x4 rC)⟩,
    ⟨Rect.unit (s := S2048x1024) ![512, 512] S512x256.size inb_S2048x1024_S512x256_512_512, k0_pay21 (extractStridedSlice S512x256 ![0, 512] (hrow512 x0 x1 x2 x3) slices_S512x1024_o0_512_S512x256) (View.ld x4 rC)⟩,
    ⟨Rect.unit (s := S2048x1024) ![512, 256] S512x256.size inb_S2048x1024_S512x256_512_256, k0_pay21 (extractStridedSlice S512x256 ![0, 256] (hrow512 x0 x1 x2 x3) slices_S512x1024_o0_256_S512x256) (View.ld x4 rC)⟩,
    ⟨Rect.unit (s := S2048x1024) ![512, 0] S512x256.size inb_S2048x1024_S512x256_512_0, k0_pay21 (extractStridedSlice S512x256 ![0, 0] (hrow512 x0 x1 x2 x3) slices_S512x1024_o0_0_S512x256) (View.ld x4 rC)⟩,
    ⟨Rect.unit (s := S2048x1024) ![0, 768] S512x256.size inb_S2048x1024_S512x256_0_768, k0_pay21 (extractStridedSlice S512x256 ![0, 768] (hrow0 x0 x1 x2 x3) slices_S512x1024_o0_768_S512x256) (View.ld x4 rC)⟩,
    ⟨Rect.unit (s := S2048x1024) ![0, 512] S512x256.size inb_S2048x1024_S512x256_0_512, k0_pay21 (extractStridedSlice S512x256 ![0, 512] (hrow0 x0 x1 x2 x3) slices_S512x1024_o0_512_S512x256) (View.ld x4 rC)⟩,
    ⟨Rect.unit (s := S2048x1024) ![0, 256] S512x256.size inb_S2048x1024_S512x256_0_256, k0_pay21 (extractStridedSlice S512x256 ![0, 256] (hrow0 x0 x1 x2 x3) slices_S512x1024_o0_256_S512x256) (View.ld x4 rC)⟩,
    ⟨Rect.unit (s := S2048x1024) ![0, 0] S512x256.size inb_S2048x1024_S512x256_0_0, k0_pay21 (extractStridedSlice S512x256 ![0, 0] (hrow0 x0 x1 x2 x3) slices_S512x1024_o0_0_S512x256) (View.ld x4 rC)⟩]

/-- The cosine products as they stand in the first carried buffer. -/
def scrA (x0 : Vec F S1x2048x1024 .f32) (x1 : Vec F S1x1024 .f32) (x2 : Vec F S1x1x1x1024 .f32) (x3 : Vec F S1x1x1x1024 .f32) (x4 : Vec F S256x512 .bf16) : Vec F S2048x1024 .bf16 := View.canon (piecesA x0 x1 x2 x3 x4)

/-- The sine products as they stand in the second carried buffer. -/
def scrB (x0 : Vec F S1x2048x1024 .f32) (x1 : Vec F S1x1024 .f32) (x2 : Vec F S1x1x1x1024 .f32) (x3 : Vec F S1x1x1x1024 .f32) (x4 : Vec F S256x512 .bf16) : Vec F S2048x1024 .bf16 := View.canon (piecesB x0 x1 x2 x3 x4)

/-- The rows with the mixer's product added. -/
def resid (i : grid0.Coords) (x0 : Vec F S1x2048x1024 .f32) (x5 : Vec F S512x2048 .bf16) (x6 : Vec F S512x2048 .bf16) (x7 : Vec F S1024x1024 .bf16) (x8 : Vec F S1x1x1x1024 .f32) (s0 s1 : Vec F S2048x1024 .bf16) : FVec F S512x1024 .f32 :=
  k0_pay68 (View.ld x5 rT) (View.ld s0 rS) (View.ld x6 rT) (View.ld s1 rS) (View.ld x7 rW) (View.ld x0 (rO i)) (View.ld x8 rM)

/-- The rows normed and modulated. -/
def normed (i : grid0.Coords) (x0 : Vec F S1x2048x1024 .f32) (x5 : Vec F S512x2048 .bf16) (x6 : Vec F S512x2048 .bf16) (x7 : Vec F S1024x1024 .bf16) (x8 : Vec F S1x1x1x1024 .f32) (x9 : Vec F S1x1024 .f32) (x10 : Vec F S1x1x1x1024 .f32) (x11 : Vec F S1x1x1x1024 .f32) (s0 s1 : Vec F S2048x1024 .bf16) : FVec F S512x1024 .f32 :=
  k0_pay70 (resid i x0 x5 x6 x7 x8 s0 s1) (View.ld x9 rG) (View.ld x10 rM) (View.ld x11 rM)

/-- What the body leaves in the block of rows. -/
def out0_13 (i : grid0.Coords) (x0 : Vec F S1x2048x1024 .f32) (x5 : Vec F S512x2048 .bf16) (x6 : Vec F S512x2048 .bf16) (x7 : Vec F S1024x1024 .bf16) (x8 : Vec F S1x1x1x1024 .f32) (s0 s1 : Vec F S2048x1024 .bf16) : Vec F S1x512x1024 .f32 :=
  View.canon [⟨rX, k0_pay69 (View.ld x5 rT) (View.ld s0 rS) (View.ld x6 rT) (View.ld s1 rS) (View.ld x7 rW) (View.ld x0 (rO i)) (View.ld x8 rM)⟩]

/-- What the body leaves in the block of planes: plane `j` at every eighth row from row `j`, the last store first. -/
def out0_14 (i : grid0.Coords) (x0 : Vec F S1x2048x1024 .f32) (x5 : Vec F S512x2048 .bf16) (x6 : Vec F S512x2048 .bf16) (x7 : Vec F S1024x1024 .bf16) (x8 : Vec F S1x1x1x1024 .f32) (x9 : Vec F S1x1024 .f32) (x10 : Vec F S1x1x1x1024 .f32) (x11 : Vec F S1x1x1x1024 .f32) (s0 s1 : Vec F S2048x1024 .bf16) : Vec F S1x4096x128 .f32 :=
  View.canon [⟨slab7, k0_pay78 (normed i x0 x5 x6 x7 x8 x9 x10 x11 s0 s1)⟩, ⟨slab6, k0_pay77 (normed i x0 x5 x6 x7 x8 x9 x10 x11 s0 s1)⟩, ⟨slab5, k0_pay76 (normed i x0 x5 x6 x7 x8 x9 x10 x11 s0 s1)⟩,
    ⟨slab4, k0_pay75 (normed i x0 x5 x6 x7 x8 x9 x10 x11 s0 s1)⟩, ⟨slab3, k0_pay74 (normed i x0 x5 x6 x7 x8 x9 x10 x11 s0 s1)⟩,
    ⟨slab2, k0_pay73 (resid i x0 x5 x6 x7 x8 s0 s1) (View.ld x9 rG) (View.ld x10 rM) (View.ld x11 rM)⟩,
    ⟨slab1, k0_pay72 (resid i x0 x5 x6 x7 x8 s0 s1) (View.ld x9 rG) (View.ld x10 rM) (View.ld x11 rM)⟩,
    ⟨slab0, k0_pay71 (resid i x0 x5 x6 x7 x8 s0 s1) (View.ld x9 rG) (View.ld x10 rM) (View.ld x11 rM)⟩]

/-- What the body leaves in the block of affinities. -/
def out0_15 (i : grid0.Coords) (x0 : Vec F S1x2048x1024 .f32) (x5 : Vec F S512x2048 .bf16) (x6 : Vec F S512x2048 .bf16) (x7 : Vec F S1024x1024 .bf16) (x8 : Vec F S1x1x1x1024 .f32) (x9 : Vec F S1x1024 .f32) (x10 : Vec F S1x1x1x1024 .f32) (x11 : Vec F S1x1x1x1024 .f32) (x12 : Vec F S1024x256 .bf16) (s0 s1 : Vec F S2048x1024 .bf16) : Vec F S1x16x512 .f32 :=
  View.canon [⟨rP, k0_pay1 (k0_pay80 (normed i x0 x5 x6 x7 x8 x9 x10 x11 s0 s1) (View.ld x12 rR)) (k0_pay81 (normed i x0 x5 x6 x7 x8 x9 x10 x11 s0 s1) (View.ld x12 rL))⟩]

/-- The one store of the rows covers its block. -/
theorem cover0_13 (p : Vec F S1x512x1024 .f32) (y : S1x512x1024.Idx) :
    ∃ pc ∈ ([⟨rX, p⟩] : List (View.Piece (Elt F) S1x512x1024 .f32)), y ∈ pc.1.set :=
  View.cover_of_tiled [⟨rX, p⟩] S1x512x1024.size (by rfl) y

/-- The one store of the affinities covers its block. -/
theorem cover0_15 (p : Vec F S1x16x512 .f32) (y : S1x16x512.Idx) :
    ∃ pc ∈ ([⟨rP, p⟩] : List (View.Piece (Elt F) S1x16x512 .f32)), y ∈ pc.1.set :=
  View.cover_of_tiled [⟨rP, p⟩] S1x16x512.size (by rfl) y

/-- Every eighth row from row `o` holds the rows that are `o` modulo 8. -/
theorem slab_mem (o : ℕ) (inb sp) (y : S1x4096x128.Idx) (h : (y 1 : ℕ) % 8 = o) :
    y ∈ (⟨⟨![0, o, 0], S1x512x128.size, ![1, 8, 1], inb⟩, sp⟩ : Rect S1x4096x128).set := by
  rw [LoadRect.mem_set]
  intro a
  have h0 : (y 0 : ℕ) < 1 := (y 0).isLt
  have h1 : (y 1 : ℕ) < 4096 := (y 1).isLt
  have h2 : (y 2 : ℕ) < 128 := (y 2).isLt
  match a with
  | ⟨0, _⟩ => exact ⟨0, Nat.one_pos, by show (y 0 : ℕ) = 0 + 1 * 0; omega⟩
  | ⟨1, _⟩ => exact ⟨(y 1 : ℕ) / 8, by show (y 1 : ℕ) / 8 < 512; omega, by show (y 1 : ℕ) = o + 8 * ((y 1 : ℕ) / 8); omega⟩
  | ⟨2, _⟩ => exact ⟨(y 2 : ℕ), h2, by show (y 2 : ℕ) = 0 + 1 * (y 2 : ℕ); omega⟩

/-- The eight stores of the planes cover their block. -/
theorem cover0_14 (p0 p1 p2 p3 p4 p5 p6 p7 : Vec F S1x512x128 .f32) (y : S1x4096x128.Idx) :
    ∃ pc ∈ ([⟨slab7, p7⟩, ⟨slab6, p6⟩, ⟨slab5, p5⟩, ⟨slab4, p4⟩, ⟨slab3, p3⟩, ⟨slab2, p2⟩, ⟨slab1, p1⟩, ⟨slab0, p0⟩] : List (View.Piece (Elt F) S1x4096x128 .f32)),
      y ∈ pc.1.set := by
  obtain h | h | h | h | h | h | h | h : (y 1 : ℕ) % 8 = 0 ∨ (y 1 : ℕ) % 8 = 1 ∨ (y 1 : ℕ) % 8 = 2 ∨ (y 1 : ℕ) % 8 = 3
      ∨ (y 1 : ℕ) % 8 = 4 ∨ (y 1 : ℕ) % 8 = 5 ∨ (y 1 : ℕ) % 8 = 6 ∨ (y 1 : ℕ) % 8 = 7 := by omega
  · exact ⟨_, .tail _ (.tail _ (.tail _ (.tail _ (.tail _ (.tail _ (.tail _ (.head _))))))), slab_mem 0 _ _ y h⟩
  · exact ⟨_, .tail _ (.tail _ (.tail _ (.tail _ (.tail _ (.tail _ (.head _)))))), slab_mem 1 _ _ y h⟩
  · exact ⟨_, .tail _ (.tail _ (.tail _ (.tail _ (.tail _ (.head _))))), slab_mem 2 _ _ y h⟩
  · exact ⟨_, .tail _ (.tail _ (.tail _ (.tail _ (.head _)))), slab_mem 3 _ _ y h⟩
  · exact ⟨_, .tail _ (.tail _ (.tail _ (.head _))), slab_mem 4 _ _ y h⟩
  · exact ⟨_, .tail _ (.tail _ (.head _)), slab_mem 5 _ _ y h⟩
  · exact ⟨_, .tail _ (.head _), slab_mem 6 _ _ y h⟩
  · exact ⟨_, .head _, slab_mem 7 _ _ y h⟩

/-- The stores of the cosine products cover the buffer. -/
theorem coverA (x0 : Vec F S1x2048x1024 .f32) (x1 : Vec F S1x1024 .f32) (x2 : Vec F S1x1x1x1024 .f32) (x3 : Vec F S1x1x1x1024 .f32) (x4 : Vec F S256x512 .bf16) (y : S2048x1024.Idx) : ∃ pc ∈ piecesA x0 x1 x2 x3 x4, y ∈ pc.1.set :=
  View.cover_of_tiled (piecesA x0 x1 x2 x3 x4) S512x256.size (by sl_kernel_rfl) y

/-- The stores of the sine products cover the buffer. -/
theorem coverB (x0 : Vec F S1x2048x1024 .f32) (x1 : Vec F S1x1024 .f32) (x2 : Vec F S1x1x1x1024 .f32) (x3 : Vec F S1x1x1x1024 .f32) (x4 : Vec F S256x512 .bf16) (y : S2048x1024.Idx) : ∃ pc ∈ piecesB x0 x1 x2 x3 x4, y ∈ pc.1.set :=
  View.cover_of_tiled (piecesB x0 x1 x2 x3 x4) S512x256.size (by sl_kernel_rfl) y

/-- The body fills the carried buffers at such coordinates. -/
abbrev cond0_0 (i : grid0.Coords) : Prop := (Scalar.cmpi .ne (Scalar.extui (Scalar.cmpi .eq (BitVec.ofNat 32 (i 1).val) 0#32)) 0#32) = 1#1

end Cert.FnetIdeal.Body

end
-- ==== Proof.FnetIdealRest.lean ====
module

public import proofs.«01_k».proof.Proof.Gen.FnetIdeal.Frame
public import proofs.«01_k».proof.Proof.Gen.FnetIdeal.Skeleton
public import proofs.«01_k».proof.Proof.FnetIdealDefs

@[expose] public section

set_option maxRecDepth 16384

noncomputable section

namespace Cert.FnetIdeal.Body

open Cert.FnetIdeal Cert.FnetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at a later step of a batch entry: the carried buffers are read and left, each output block ends at its content. -/
theorem sound_rest (c : Dev nD) (E : Set ℕ) (i : grid0.Coords) (a0 : Memref sig .tc .vmem S1x2048x1024 .f32) (ha0 : a0.IsWhole) (a1 : Memref sig .tc .vmem S1x1024 .f32) (ha1 : a1.IsWhole) (a2 : Memref sig .tc .vmem S1x1x1x1024 .f32) (ha2 : a2.IsWhole) (a3 : Memref sig .tc .vmem S1x1x1x1024 .f32) (ha3 : a3.IsWhole) (a4 : Memref sig .tc .vmem S256x512 .bf16) (ha4 : a4.IsWhole) (a5 : Memref sig .tc .vmem S512x2048 .bf16) (ha5 : a5.IsWhole) (a6 : Memref sig .tc .vmem S512x2048 .bf16) (ha6 : a6.IsWhole) (a7 : Memref sig .tc .vmem S1024x1024 .bf16) (ha7 : a7.IsWhole) (a8 : Memref sig .tc .vmem S1x1x1x1024 .f32) (ha8 : a8.IsWhole) (a9 : Memref sig .tc .vmem S1x1024 .f32) (ha9 : a9.IsWhole) (a10 : Memref sig .tc .vmem S1x1x1x1024 .f32) (ha10 : a10.IsWhole) (a11 : Memref sig .tc .vmem S1x1x1x1024 .f32) (ha11 : a11.IsWhole) (a12 : Memref sig .tc .vmem S1024x256 .bf16) (ha12 : a12.IsWhole) (a13 : Memref sig .tc .vmem S1x512x1024 .f32) (ha13 : a13.IsWhole) (a14 : Memref sig .tc .vmem S1x4096x128 .f32) (ha14 : a14.IsWhole) (a15 : Memref sig .tc .vmem S1x16x512 .f32) (ha15 : a15.IsWhole) (a16 : Memref sig .tc .vmem S2048x1024 .bf16) (ha16 : a16.IsWhole) (a17 : Memref sig .tc .vmem S2048x1024 .bf16) (ha17 : a17.IsWhole) (hc : ¬cond0_0 i)
    (x0 : Vec F S1x2048x1024 .f32) (x1 : Vec F S1x1024 .f32) (x2 : Vec F S1x1x1x1024 .f32) (x3 : Vec F S1x1x1x1024 .f32) (x4 : Vec F S256x512 .bf16) (x5 : Vec F S512x2048 .bf16) (x6 : Vec F S512x2048 .bf16) (x7 : Vec F S1024x1024 .bf16) (x8 : Vec F S1x1x1x1024 .f32) (x9 : Vec F S1x1024 .f32) (x10 : Vec F S1x1x1x1024 .f32) (x11 : Vec F S1x1x1x1024 .f32) (x12 : Vec F S1024x256 .bf16) (s0 s1 : Vec F S2048x1024 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ owns (c : Thread nD τ) a16 fullShare s0 ∗ owns (c : Thread nD τ) a17 fullShare s1
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (out0_13 i x0 x5 x6 x7 x8 s0 s1) ∗ owns (c : Thread nD τ) a14 fullShare (out0_14 i x0 x5 x6 x7 x8 x9 x10 x11 s0 s1) ∗ owns (c : Thread nD τ) a15 fullShare (out0_15 i x0 x5 x6 x7 x8 x9 x10 x11 x12 s0 s1) ∗ owns (c : Thread nD τ) a16 fullShare s0 ∗ owns (c : Thread nD τ) a17 fullShare s1) -∗ K ⟨⟩))
      ⊢ wp frame (wpE (defs₀ (F := F)) Variants.none c none) E (cc0_fnet i a0 ha0 a1 ha1 a2 ha2 a3 ha3 a4 ha4 a5 ha5 a6 ha6 a7 ha7 a8 ha8 a9 ha9 a10 ha10 a11 ha11 a12 ha12 a13 ha13 a14 ha14 a15 ha15 a16 ha16 a17 ha17) K := by
  simp only [cc0_fnet_eq_skeleton]; unfold cc0_fnet_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, Hk⟩
  subst hf0 hf1 hf2 hf3 hf4 hf5 hf6 hf7 hf8 hf9 hf10 hf11 hf12 hf16 hf17
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _ _ _ _ _ _ _ _)
  isplitl [H15]
  · iexists _; isplitr
    swap; · iexact H15
    ipureintro
    exact View.read_writes_eq_canon _ _ _ (cover0_15 _)
  isplitl [H16]
  · iexists f16; isplitr; · ipureintro; rfl
    iexact H16
  iexists f17; isplitr; · ipureintro; rfl
  iexact H17

end Cert.FnetIdeal.Body

end
-- ==== Proof.FnetIdealFirst.lean ====
module

public import proofs.«01_k».proof.Proof.Gen.FnetIdeal.Frame
public import proofs.«01_k».proof.Proof.Gen.FnetIdeal.Skeleton
public import proofs.«01_k».proof.Proof.FnetIdealRest

@[expose] public section

set_option maxRecDepth 16384

noncomputable section

namespace Cert.FnetIdeal.Body

open Cert.FnetIdeal Cert.FnetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The body at the first step of a batch entry: the carried buffers are filled, then read; each output block ends at its content. -/
theorem sound_first (c : Dev nD) (E : Set ℕ) (i : grid0.Coords) (a0 : Memref sig .tc .vmem S1x2048x1024 .f32) (ha0 : a0.IsWhole) (a1 : Memref sig .tc .vmem S1x1024 .f32) (ha1 : a1.IsWhole) (a2 : Memref sig .tc .vmem S1x1x1x1024 .f32) (ha2 : a2.IsWhole) (a3 : Memref sig .tc .vmem S1x1x1x1024 .f32) (ha3 : a3.IsWhole) (a4 : Memref sig .tc .vmem S256x512 .bf16) (ha4 : a4.IsWhole) (a5 : Memref sig .tc .vmem S512x2048 .bf16) (ha5 : a5.IsWhole) (a6 : Memref sig .tc .vmem S512x2048 .bf16) (ha6 : a6.IsWhole) (a7 : Memref sig .tc .vmem S1024x1024 .bf16) (ha7 : a7.IsWhole) (a8 : Memref sig .tc .vmem S1x1x1x1024 .f32) (ha8 : a8.IsWhole) (a9 : Memref sig .tc .vmem S1x1024 .f32) (ha9 : a9.IsWhole) (a10 : Memref sig .tc .vmem S1x1x1x1024 .f32) (ha10 : a10.IsWhole) (a11 : Memref sig .tc .vmem S1x1x1x1024 .f32) (ha11 : a11.IsWhole) (a12 : Memref sig .tc .vmem S1024x256 .bf16) (ha12 : a12.IsWhole) (a13 : Memref sig .tc .vmem S1x512x1024 .f32) (ha13 : a13.IsWhole) (a14 : Memref sig .tc .vmem S1x4096x128 .f32) (ha14 : a14.IsWhole) (a15 : Memref sig .tc .vmem S1x16x512 .f32) (ha15 : a15.IsWhole) (a16 : Memref sig .tc .vmem S2048x1024 .bf16) (ha16 : a16.IsWhole) (a17 : Memref sig .tc .vmem S2048x1024 .bf16) (ha17 : a17.IsWhole) (hc : cond0_0 i)
    (x0 : Vec F S1x2048x1024 .f32) (x1 : Vec F S1x1024 .f32) (x2 : Vec F S1x1x1x1024 .f32) (x3 : Vec F S1x1x1x1024 .f32) (x4 : Vec F S256x512 .bf16) (x5 : Vec F S512x2048 .bf16) (x6 : Vec F S512x2048 .bf16) (x7 : Vec F S1024x1024 .bf16) (x8 : Vec F S1x1x1x1024 .f32) (x9 : Vec F S1x1024 .f32) (x10 : Vec F S1x1x1x1024 .f32) (x11 : Vec F S1x1x1x1024 .f32) (x12 : Vec F S1024x256 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare (out0_13 i x0 x5 x6 x7 x8 (scrA x0 x1 x2 x3 x4) (scrB x0 x1 x2 x3 x4)) ∗ owns (c : Thread nD τ) a14 fullShare (out0_14 i x0 x5 x6 x7 x8 x9 x10 x11 (scrA x0 x1 x2 x3 x4) (scrB x0 x1 x2 x3 x4)) ∗ owns (c : Thread nD τ) a15 fullShare (out0_15 i x0 x5 x6 x7 x8 x9 x10 x11 x12 (scrA x0 x1 x2 x3 x4) (scrB x0 x1 x2 x3 x4)) ∗ owns (c : Thread nD τ) a16 fullShare (scrA x0 x1 x2 x3 x4) ∗ owns (c : Thread nD τ) a17 fullShare (scrB x0 x1 x2 x3 x4)) -∗ K ⟨⟩))
      ⊢ wp frame (wpE (defs₀ (F := F)) Variants.none c none) E (cc0_fnet i a0 ha0 a1 ha1 a2 ha2 a3 ha3 a4 ha4 a5 ha5 a6 ha6 a7 ha7 a8 ha8 a9 ha9 a10 ha10 a11 ha11 a12 ha12 a13 ha13 a14 ha14 a15 ha15 a16 ha16 a17 ha17) K := by
  simp only [cc0_fnet_eq_skeleton]; unfold cc0_fnet_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  have hL : sound_first.sl.H16_16 c a0 a1 a2 a3 a4 f0 f1 f2 f3 f4
      = piecesA (a0.view.read (Elt F) f0) (a1.view.read (Elt F) f1) (a2.view.read (Elt F) f2) (a3.view.read (Elt F) f3) (a4.view.read (Elt F) f4) := rfl
  have hL' : sound_first.sl.H17_16 c a0 a1 a2 a3 a4 f0 f1 f2 f3 f4
      = piecesB (a0.view.read (Elt F) f0) (a1.view.read (Elt F) f1) (a2.view.read (Elt F) f2) (a3.view.read (Elt F) f3) (a4.view.read (Elt F) f4) := rfl
  have hA : sound_first.sl.v4 c a0 a1 a2 a3 a4 a16 f0 f1 f2 f3 f4
      = View.ld (scrA (a0.view.read (Elt F) f0) (a1.view.read (Elt F) f1) (a2.view.read (Elt F) f2) (a3.view.read (Elt F) f3) (a4.view.read (Elt F) f4)) rS := by
    unfold sound_first.sl.v4
    rw [hL]
    exact View.readCov_eq_canon_ld _ _ _ (coverA _ _ _ _ _)
  have hB : sound_first.sl.v7 c a0 a1 a2 a3 a4 a17 f0 f1 f2 f3 f4
      = View.ld (scrB (a0.view.read (Elt F) f0) (a1.view.read (Elt F) f1) (a2.view.read (Elt F) f2) (a3.view.read (Elt F) f3) (a4.view.read (Elt F) f4)) rS := by
    unfold sound_first.sl.v7
    rw [hL']
    exact View.readCov_eq_canon_ld _ _ _ (coverB _ _ _ _ _)
  isplitl [H13]
  · iexists _; isplitr
    swap; · iexact H13
    ipureintro
    refine (View.read_writes_eq_canon _ _ _ (cover0_13 _)).trans ?_
    rw [hA, hB]
    rfl
  isplitl [H14]
  · iexists _; isplitr
    swap; · iexact H14
    ipureintro
    refine (View.read_writes_eq_canon _ _ _ (cover0_14 _ _ _ _ _ _ _ _)).trans ?_
    unfold sound_first.sl.r_2 sound_first.sl.r_3 sound_first.sl.r_1
    rw [hA, hB]
    rfl
  isplitl [H15]
  · iexists _; isplitr
    swap; · iexact H15
    ipureintro
    refine (View.read_writes_eq_canon _ _ _ (cover0_15 _)).trans ?_
    unfold sound_first.sl.r_4 sound_first.sl.r_5 sound_first.sl.r_2 sound_first.sl.r_1
    rw [hA, hB]
    rfl
  isplitl [H16]
  · iexists _; isplitr
    swap; · iexact H16
    ipureintro
    exact (View.read_writes_eq_canon _ _ _ (by rw [hL]; exact coverA _ _ _ _ _)).trans (congrArg View.canon hL)
  iexists _; isplitr
  swap; · iexact H17
  ipureintro
  exact (View.read_writes_eq_canon _ _ _ (by rw [hL']; exact coverB _ _ _ _ _)).trans (congrArg View.canon hL')

end Cert.FnetIdeal.Body

end
-- ==== Proof.FnetIdealFrame.lean ====
module

public import proofs.«01_k».proof.Proof.Gen.FnetIdeal.Frame
public import proofs.«01_k».proof.Proof.Gen.FnetIdeal.Skeleton
public import proofs.«01_k».proof.Proof.FnetIdealFirst
public import Idealize.ShloMosaic.Lib.Claim

@[expose] public section

set_option maxRecDepth 16384

noncomputable section

namespace Cert.FnetIdeal.Body

open Cert.FnetIdeal Cert.FnetIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body fills the carried buffers at every fourth point. -/
theorem hcond0_0 (t : Fin cfg0.N) : cond0_0 (grid0.coords t) ↔ t.val % 4 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [cond0_0, e0, e1]
  word_cmp

/-- The point at which a point's batch entry began. -/
def base (t : Fin cfg0.N) : Fin cfg0.N := ⟨t.val - t.val % 4, lt_of_le_of_lt (Nat.sub_le _ _) t.isLt⟩

/-- The cosine products a point finds: those of its batch entry. -/
def sA (c : Dev nD) (t : Fin cfg0.N) : Vec F S2048x1024 .bf16 := scrA (iblk m c 0 (base t)) (iblk m c 1 (base t)) (iblk m c 2 (base t)) (iblk m c 3 (base t)) (iblk m c 4 (base t))

/-- The sine products a point finds: those of its batch entry. -/
def sB (c : Dev nD) (t : Fin cfg0.N) : Vec F S2048x1024 .bf16 := scrB (iblk m c 0 (base t)) (iblk m c 1 (base t)) (iblk m c 2 (base t)) (iblk m c 3 (base t)) (iblk m c 4 (base t))

/-- A batch entry's first point is its own beginning. -/
theorem base_first (t : Fin cfg0.N) (h : t.val % 4 = 0) : base t = t := Fin.ext (by simp only [base]; omega)

/-- A later point of a batch entry began where the point before it did. -/
theorem base_rest (t : Fin cfg0.N) (h : ¬t.val % 4 = 0) (hp : t.val - 1 < cfg0.N) : base ⟨t.val - 1, hp⟩ = base t :=
  Fin.ext (by simp only [base]; omega)

theorem sA_first (c : Dev nD) (t : Fin cfg0.N) (h : t.val % 4 = 0) : sA m c t = scrA (iblk m c 0 t) (iblk m c 1 t) (iblk m c 2 t) (iblk m c 3 t) (iblk m c 4 t) := by unfold sA; rw [base_first t h]
theorem sB_first (c : Dev nD) (t : Fin cfg0.N) (h : t.val % 4 = 0) : sB m c t = scrB (iblk m c 0 t) (iblk m c 1 t) (iblk m c 2 t) (iblk m c 3 t) (iblk m c 4 t) := by unfold sB; rw [base_first t h]
theorem sA_rest (c : Dev nD) (t : Fin cfg0.N) (h : ¬t.val % 4 = 0) (hp : t.val - 1 < cfg0.N) : sA m c ⟨t.val - 1, hp⟩ = sA m c t := by
  unfold sA; rw [base_rest t h hp]
theorem sB_rest (c : Dev nD) (t : Fin cfg0.N) (h : ¬t.val % 4 = 0) (hp : t.val - 1 < cfg0.N) : sB m c ⟨t.val - 1, hp⟩ = sB m c t := by
  unfold sB; rw [base_rest t h hp]

/-- The carried buffers. -/
abbrev scM0_0 : Memref sig .tc .vmem S2048x1024 .bf16 := Memref.whole cc0_scratch0
abbrev scM0_1 : Memref sig .tc .vmem S2048x1024 .bf16 := Memref.whole cc0_scratch1

/-- What the launch hands the loop: the carried buffers at anything and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before point `n`: at the start the carried buffers at anything, afterwards at the products of the batch entry of the point before. -/
def PhiS (c : Dev nD) : (n : ℕ) → n ≤ cfg0.N → sProp 𝕄
  | 0, _ => Pipeline.ΦA spec0 c
  | n + 1, hn => iprop(iprop(owns (c : Thread nD τ) scM0_0 fullShare (sA m c ⟨n, hn⟩) ∗ owns (c : Thread nD τ) scM0_1 fullShare (sB m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (sA m c ⟨n, hn⟩) ∗ owns (c : Thread nD τ) scM0_1 fullShare (sB m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (sA m c ⟨n - 1, by omega⟩) ∗ owns (c : Thread nD τ) scM0_1 fullShare (sB m c ⟨n - 1, by omega⟩)) ∗ (∃ r, prngReg c r)) := by
  cases n with
  | zero => exact absurd rfl hz
  | succ n => rfl

/-- The pipeline's data: the arrays as the region finds them, each input's block left in place, each output's at its content, the carried
    buffers tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (grid0.coords t) (iblk m c 0 t) (iblk m c 5 t) (iblk m c 6 t) (iblk m c 7 t) (iblk m c 8 t) (sA m c t) (sB m c t)
    | ⟨14, _⟩ => out0_14 (grid0.coords t) (iblk m c 0 t) (iblk m c 5 t) (iblk m c 6 t) (iblk m c 7 t) (iblk m c 8 t) (iblk m c 9 t) (iblk m c 10 t) (iblk m c 11 t) (sA m c t) (sB m c t)
    | ⟨15, _⟩ => out0_15 (grid0.coords t) (iblk m c 0 t) (iblk m c 5 t) (iblk m c 6 t) (iblk m c 7 t) (iblk m c 8 t) (iblk m c 9 t) (iblk m c 10 t) (iblk m c 11 t) (iblk m c 12 t) (sA m c t) (sB m c t)
    | ⟨n + 16, h⟩ => absurd h (Nat.not_lt.2 (Nat.le_add_left 16 n))
  Φ t := PhiS m c t.val (Nat.le_of_lt_succ t.isLt)
  q w := Pipeline.shareOf spec0 w
  owed _ := 0

/-- The data's arrays are the contents the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem after0_12 (c : Dev nD) (t : Fin cfg0.N) : (dats m 0 c).after 12 t = iblk m c 12 t := by dsimp only [dats]
theorem before0_12 (c : Dev nD) (t : Fin cfg0.N) (d) : (dats m 0 c).before 12 t d = iblk m c 12 t :=
  before0_12_of m (dats m 0 c) (A_eq m c 12) (after0_12 m c) t d
theorem after0_13 (c : Dev nD) (t : Fin cfg0.N) : (dats m 0 c).after 13 t = out0_13 (grid0.coords t) (iblk m c 0 t) (iblk m c 5 t) (iblk m c 6 t) (iblk m c 7 t) (iblk m c 8 t) (sA m c t) (sB m c t) := by dsimp only [dats]
theorem after0_14 (c : Dev nD) (t : Fin cfg0.N) : (dats m 0 c).after 14 t = out0_14 (grid0.coords t) (iblk m c 0 t) (iblk m c 5 t) (iblk m c 6 t) (iblk m c 7 t) (iblk m c 8 t) (iblk m c 9 t) (iblk m c 10 t) (iblk m c 11 t) (sA m c t) (sB m c t) := by dsimp only [dats]
theorem after0_15 (c : Dev nD) (t : Fin cfg0.N) : (dats m 0 c).after 15 t = out0_15 (grid0.coords t) (iblk m c 0 t) (iblk m c 5 t) (iblk m c 6 t) (iblk m c 7 t) (iblk m c 8 t) (iblk m c 9 t) (iblk m c 10 t) (iblk m c 11 t) (iblk m c 12 t) (sA m c t) (sB m c t) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: its triple at the blocks, the carried buffers filled at a batch entry's first point and read at the later ones. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  by_cases h0 : t.val % 4 = 0
  · rw [show (⟨t.val, t.isLt⟩ : Fin cfg0.N) = t from rfl, sA_first m c t h0, sB_first m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_first c Set.univ (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_first c Set.univ (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexists _; iexact HS0
      isplitl [HS1]; · iexists _; iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · by_cases hz : t.val = 0
    · exact absurd (by rw [hz]) h0
    · rw [PhiS_castSucc m c t, PhiS_pos m c _ _ hz, sA_rest m c t h0, sB_rest m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply (sound_rest c Set.univ (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sA m c t) (sB m c t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, H14, H15, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The library's obligation for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the loop is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the carried buffers back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch ends with the arrays as the data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch ends with the arrays as the data says. -/
theorem run_main : θ_run defs (onTc (τ := τ) (main (F := F))) (s₀ m ρ) (Pipeline.FramePost cfgs (dats m) 0 (V m)) :=
  (θ_run defs _ _).mono (fun _ h => h.1) (run_main_quiescent m ρ)

/-- Every run terminates, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.FnetIdeal.Body

end
-- ==== Proof.FnetBlock.lean ====
module

public import proofs.«01_k».proof.Defs
public import proofs.«01_k».proof.Proof.FnetIdealFrame
public import proofs.«01_k».proof.Proof.SoftRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FnetIdeal.Block

open Cert.FnetIdeal Cert.FnetIdeal.Gen Cert.FnetIdeal.Body

/-- The lane mask's constant is minus infinity. -/
theorem mask_at : (Named.named κ "mask" 0xF149F2CA#32 : Ideal FTy.f32) = (⊥ : EReal) := IdealRules.named_const.ideal_named_scalar _ _ _ _ rfl

/-- Row `s` of a batch entry, normed and modulated. -/
def hIn (x0 : Vec Ideal S1x2048x1024 .f32) (x1 : Vec Ideal S1x1024 .f32) (x2 x3 : Vec Ideal S1x1x1x1024 .f32) (s : Fin 2048) (k : Fin 1024) : EReal :=
  normRow (fun k => x0 (ix3 0 s k)) (fun k => x1 (ix2 0 k)) (fun k => x2 (ix4 0 0 0 k)) (fun k => x3 (ix4 0 0 0 k)) k

/-- Row `s` of `h` against the table `t`, one group of 256 columns at a time. -/
def part (h : Fin 2048 → Fin 1024 → EReal) (t : Fin 256 → Fin 256 → EReal) (s : Fin 2048) (k : Fin 1024) : EReal :=
  ∑ c : Fin 256, h s ⟨256 * ((k : ℕ) / 256) + c, by omega⟩ * t c ⟨(k : ℕ) % 256, by omega⟩

/-- A block of rows, normed and modulated. -/
theorem norm_at (v : Vec Ideal S1x512x1024 .f32) (x1 : Vec Ideal S1x1024 .f32) (x2 x3 : Vec Ideal S1x1x1x1024 .f32) (r : Fin 512) (k : Fin 1024) :
    k0_pay2 v x1 x2 x3 (ix2 r k)
      = normRow (fun k => v (ix3 0 r k)) (fun k => x1 (ix2 0 k)) (fun k => x2 (ix4 0 0 0 k)) (fun k => x3 (ix4 0 0 0 k)) k := by
  pointwise [k0_pay2]
  rfl

/-- A block of 512 rows of the batch entry, from row `R`. -/
theorem rows_from (R : ℕ) (inb) (x0 : Vec Ideal S1x2048x1024 .f32) (r : Fin 512) (k : Fin 1024) (s : Fin 2048) (hs : (s : ℕ) = R + r) :
    (View.ld x0 (Rect.unit (s := S1x2048x1024) ![0, R, 0] S1x512x1024.size inb) : Vec Ideal S1x512x1024 .f32) (ix3 0 r k) = x0 (ix3 0 s k) := by
  change x0 _ = x0 _
  congr 1
  funext a
  apply Fin.ext
  match a with
  | 0 => exact (Rect.emb_apply ..).trans (by simp)
  | 1 => exact (Rect.emb_apply ..).trans (by simp [hs])
  | 2 => exact (Rect.emb_apply ..).trans (by simp)

theorem hrow0_at (x0 : Vec Ideal S1x2048x1024 .f32) (x1 : Vec Ideal S1x1024 .f32) (x2 x3 : Vec Ideal S1x1x1x1024 .f32) (r : Fin 512) (k : Fin 1024) :
    hrow0 x0 x1 x2 x3 (ix2 r k) = hIn x0 x1 x2 x3 ⟨0 + r, by omega⟩ k := by
  unfold hrow0 hIn
  simp (disch := decide) only [View.ld_unit_lit']
  rw [norm_at]
  simp only [rows_from 0 _ x0 r _ ⟨0 + r, by omega⟩ rfl]

theorem hrow512_at (x0 : Vec Ideal S1x2048x1024 .f32) (x1 : Vec Ideal S1x1024 .f32) (x2 x3 : Vec Ideal S1x1x1x1024 .f32) (r : Fin 512) (k : Fin 1024) :
    hrow512 x0 x1 x2 x3 (ix2 r k) = hIn x0 x1 x2 x3 ⟨512 + r, by omega⟩ k := by
  unfold hrow512 hIn
  simp (disch := decide) only [View.ld_unit_lit']
  rw [norm_at]
  simp only [rows_from 512 _ x0 r _ ⟨512 + r, by omega⟩ rfl]

theorem hrow1024_at (x0 : Vec Ideal S1x2048x1024 .f32) (x1 : Vec Ideal S1x1024 .f32) (x2 x3 : Vec Ideal S1x1x1x1024 .f32) (r : Fin 512) (k : Fin 1024) :
    hrow1024 x0 x1 x2 x3 (ix2 r k) = hIn x0 x1 x2 x3 ⟨1024 + r, by omega⟩ k := by
  unfold hrow1024 hIn
  simp (disch := decide) only [View.ld_unit_lit']
  rw [norm_at]
  simp only [rows_from 1024 _ x0 r _ ⟨1024 + r, by omega⟩ rfl]

theorem hrow1536_at (x0 : Vec Ideal S1x2048x1024 .f32) (x1 : Vec Ideal S1x1024 .f32) (x2 x3 : Vec Ideal S1x1x1x1024 .f32) (r : Fin 512) (k : Fin 1024) :
    hrow1536 x0 x1 x2 x3 (ix2 r k) = hIn x0 x1 x2 x3 ⟨1536 + r, by omega⟩ k := by
  unfold hrow1536 hIn
  simp (disch := decide) only [View.ld_unit_lit']
  rw [norm_at]
  simp only [rows_from 1536 _ x0 r _ ⟨1536 + r, by omega⟩ rfl]

/-- A group of 256 columns, from column `g`. -/
theorem cols_from (g : ℕ) (sl) (h : FVec Ideal S512x1024 .bf16) (r : Fin 512) (c : Fin 256) (k : Fin 1024) (hk : (k : ℕ) = g + c) :
    extractStridedSlice S512x256 ![0, g] h sl (ix2 r c) = h (ix2 r k) := by
  refine congrArg h ?_
  funext a
  apply Fin.ext
  match a with
  | 0 => exact Nat.zero_add _
  | 1 => exact hk.symm

/-- A group of columns against the left half of the table. -/
theorem cos_at (y : FVec Ideal S512x256 .bf16) (x4 : Vec Ideal S256x512 .bf16) (r : Fin 512) (n : Fin 256) :
    k0_pay20 y x4 (ix2 r n) = ∑ c, y (ix2 r c) * x4 (ix2 c ⟨n, by omega⟩) := by
  pointwise [k0_pay20, k0_pay19]

/-- A group of columns against the right half of the table. -/
theorem sin_at (y : FVec Ideal S512x256 .bf16) (x4 : Vec Ideal S256x512 .bf16) (r : Fin 512) (n : Fin 256) :
    k0_pay21 y x4 (ix2 r n) = ∑ c, y (ix2 r c) * x4 (ix2 c ⟨256 + n, by omega⟩) := by
  pointwise [k0_pay21, k0_pay19]

/-- The store from row `R` and column `g` writes the products of those rows and columns. -/
theorem store_at (R g : ℕ) (inb) (sl) (hg : g % 256 = 0) (v : FVec Ideal S512x1024 .bf16) (H : Fin 2048 → Fin 1024 → EReal)
    (hR : R + 512 ≤ 2048) (hh : ∀ (r : Fin 512) k, v (ix2 r k) = H ⟨R + r, by omega⟩ k) (t : Fin 256 → Fin 256 → EReal)
    (p : FVec Ideal S512x256 .bf16) (hp : ∀ r n, p (ix2 r n) = ∑ c, extractStridedSlice S512x256 ![0, g] v sl (ix2 r c) * t c n) (z : S512x256.Idx) :
    p z = (fun y : S2048x1024.Idx => part H t (y 0) (y 1)) ((Rect.unit (s := S2048x1024) ![R, g] S512x256.size inb).emb z) := by
  obtain ⟨r, n, rfl⟩ : ∃ (r : Fin 512) (n : Fin 256), z = ix2 r n := ⟨z 0, z 1, eq_ix2 z⟩
  have e0 : (((Rect.unit (s := S2048x1024) ![R, g] S512x256.size inb).emb (ix2 r n)) 0 : ℕ) = R + 1 * r := Rect.emb_apply ..
  have e1 : (((Rect.unit (s := S2048x1024) ![R, g] S512x256.size inb).emb (ix2 r n)) 1 : ℕ) = g + 1 * n := Rect.emb_apply ..
  have b1 : g + (n : ℕ) < 1024 := by
    have := (((Rect.unit (s := S2048x1024) ![R, g] S512x256.size inb).emb (ix2 r n)) 1).isLt
    change (_ : ℕ) < 1024 at this
    omega
  have f0 : ((Rect.unit (s := S2048x1024) ![R, g] S512x256.size inb).emb (ix2 r n)) 0 = (⟨R + r, by omega⟩ : Fin 2048) :=
    Fin.ext (e0.trans (by simp))
  have f1 : ((Rect.unit (s := S2048x1024) ![R, g] S512x256.size inb).emb (ix2 r n)) 1 = (⟨g + n, b1⟩ : Fin 1024) :=
    Fin.ext (e1.trans (by simp))
  dsimp only
  rw [f0, f1, hp]
  unfold part
  refine Finset.sum_congr rfl fun c _ => ?_
  rw [cols_from g sl v r c ⟨256 * ((g + (n : ℕ)) / 256) + c, by omega⟩ (by dsimp only; omega), hh]
  congr 2
  apply Fin.ext
  dsimp only
  omega

/-- The cosine products carried, at an index. -/
theorem scrA_at (x0 : Vec Ideal S1x2048x1024 .f32) (x1 : Vec Ideal S1x1024 .f32) (x2 x3 : Vec Ideal S1x1x1x1024 .f32) (x4 : Vec Ideal S256x512 .bf16) (s : Fin 2048) (k : Fin 1024) :
    scrA x0 x1 x2 x3 x4 (ix2 s k) = part (hIn x0 x1 x2 x3) (fun c n => x4 (ix2 c ⟨n, by omega⟩)) s k := by
  unfold scrA
  refine View.canon_apply_of_pieces (Val := Elt Ideal) (fun y : S2048x1024.Idx => part (hIn x0 x1 x2 x3) (fun c n => x4 (ix2 c ⟨n, by omega⟩)) (y 0) (y 1)) _ ?_ (ix2 s k) (coverA x0 x1 x2 x3 x4 _)
  have e4 : View.ld x4 rC = x4 := View.ld_unit_zero (by funext a; fin_cases a <;> rfl) _ x4
  unfold piecesA
  rw [e4]
  refine List.forall_mem_cons.2 ⟨store_at 1536 768 inb_S2048x1024_S512x256_1536_768 slices_S512x1024_o0_768_S512x256 (by decide) (hrow1536 x0 x1 x2 x3) (hIn x0 x1 x2 x3) (by decide) (hrow1536_at x0 x1 x2 x3) (fun c n => x4 (ix2 c ⟨n, by omega⟩)) _ (cos_at _ x4), ?_⟩
  refine List.forall_mem_cons.2 ⟨store_at 1536 512 inb_S2048x1024_S512x256_1536_512 slices_S512x1024_o0_512_S512x256 (by decide) (hrow1536 x0 x1 x2 x3) (hIn x0 x1 x2 x3) (by decide) (hrow1536_at x0 x1 x2 x3) (fun c n => x4 (ix2 c ⟨n, by omega⟩)) _ (cos_at _ x4), ?_⟩
  refine List.forall_mem_cons.2 ⟨store_at 1536 256 inb_S2048x1024_S512x256_1536_256 slices_S512x1024_o0_256_S512x256 (by decide) (hrow1536 x0 x1 x2 x3) (hIn x0 x1 x2 x3) (by decide) (hrow1536_at x0 x1 x2 x3) (fun c n => x4 (ix2 c ⟨n, by omega⟩)) _ (cos_at _ x4), ?_⟩
  refine List.forall_mem_cons.2 ⟨store_at 1536 0 inb_S2048x1024_S512x256_1536_0 slices_S512x1024_o0_0_S512x256 (by decide) (hrow1536 x0 x1 x2 x3) (hIn x0 x1 x2 x3) (by decide) (hrow1536_at x0 x1 x2 x3) (fun c n => x4 (ix2 c ⟨n, by omega⟩)) _ (cos_at _ x4), ?_⟩
  refine List.forall_mem_cons.2 ⟨store_at 1024 768 inb_S2048x1024_S512x256_1024_768 slices_S512x1024_o0_768_S512x256 (by decide) (hrow1024 x0 x1 x2 x3) (hIn x0 x1 x2 x3) (by decide) (hrow1024_at x0 x1 x2 x3) (fun c n => x4 (ix2 c ⟨n, by omega⟩)) _ (cos_at _ x4), ?_⟩
  refine List.forall_mem_cons.2 ⟨store_at 1024 512 inb_S2048x1024_S512x256_1024_512 slices_S512x1024_o0_512_S512x256 (by decide) (hrow1024 x0 x1 x2 x3) (hIn x0 x1 x2 x3) (by decide) (hrow1024_at x0 x1 x2 x3) (fun c n => x4 (ix2 c ⟨n, by omega⟩)) _ (cos_at _ x4), ?_⟩
  refine List.forall_mem_cons.2 ⟨store_at 1024 256 inb_S2048x1024_S512x256_1024_256 slices_S512x1024_o0_256_S512x256 (by decide) (hrow1024 x0 x1 x2 x3) (hIn x0 x1 x2 x3) (by decide) (hrow1024_at x0 x1 x2 x3) (fun c n => x4 (ix2 c ⟨n, by omega⟩)) _ (cos_at _ x4), ?_⟩
  refine List.forall_mem_cons.2 ⟨store_at 1024 0 inb_S2048x1024_S512x256_1024_0 slices_S512x1024_o0_0_S512x256 (by decide) (hrow1024 x0 x1 x2 x3) (hIn x0 x1 x2 x3) (by decide) (hrow1024_at x0 x1 x2 x3) (fun c n => x4 (ix2 c ⟨n, by omega⟩)) _ (cos_at _ x4), ?_⟩
  refine List.forall_mem_cons.2 ⟨store_at 512 768 inb_S2048x1024_S512x256_512_768 slices_S512x1024_o0_768_S512x256 (by decide) (hrow512 x0 x1 x2 x3) (hIn x0 x1 x2 x3) (by decide) (hrow512_at x0 x1 x2 x3) (fun c n => x4 (ix2 c ⟨n, by omega⟩)) _ (cos_at _ x4), ?_⟩
  refine List.forall_mem_cons.2 ⟨store_at 512 512 inb_S2048x1024_S512x256_512_512 slices_S512x1024_o0_512_S512x256 (by decide) (hrow512 x0 x1 x2 x3) (hIn x0 x1 x2 x3) (by decide) (hrow512_at x0 x1 x2 x3) (fun c n => x4 (ix2 c ⟨n, by omega⟩)) _ (cos_at _ x4), ?_⟩
  refine List.forall_mem_cons.2 ⟨store_at 512 256 inb_S2048x1024_S512x256_512_256 slices_S512x1024_o0_256_S512x256 (by decide) (hrow512 x0 x1 x2 x3) (hIn x0 x1 x2 x3) (by decide) (hrow512_at x0 x1 x2 x3) (fun c n => x4 (ix2 c ⟨n, by omega⟩)) _ (cos_at _ x4), ?_⟩
  refine List.forall_mem_cons.2 ⟨store_at 512 0 inb_S2048x1024_S512x256_512_0 slices_S512x1024_o0_0_S512x256 (by decide) (hrow512 x0 x1 x2 x3) (hIn x0 x1 x2 x3) (by decide) (hrow512_at x0 x1 x2 x3) (fun c n => x4 (ix2 c ⟨n, by omega⟩)) _ (cos_at _ x4), ?_⟩
  refine List.forall_mem_cons.2 ⟨store_at 0 768 inb_S2048x1024_S512x256_0_768 slices_S512x1024_o0_768_S512x256 (by decide) (hrow0 x0 x1 x2 x3) (hIn x0 x1 x2 x3) (by decide) (hrow0_at x0 x1 x2 x3) (fun c n => x4 (ix2 c ⟨n, by omega⟩)) _ (cos_at _ x4), ?_⟩
  refine List.forall_mem_cons.2 ⟨store_at 0 512 inb_S2048x1024_S512x256_0_512 slices_S512x1024_o0_512_S512x256 (by decide) (hrow0 x0 x1 x2 x3) (hIn x0 x1 x2 x3) (by decide) (hrow0_at x0 x1 x2 x3) (fun c n => x4 (ix2 c ⟨n, by omega⟩)) _ (cos_at _ x4), ?_⟩
  refine List.forall_mem_cons.2 ⟨store_at 0 256 inb_S2048x1024_S512x256_0_256 slices_S512x1024_o0_256_S512x256 (by decide) (hrow0 x0 x1 x2 x3) (hIn x0 x1 x2 x3) (by decide) (hrow0_at x0 x1 x2 x3) (fun c n => x4 (ix2 c ⟨n, by omega⟩)) _ (cos_at _ x4), ?_⟩
  refine List.forall_mem_cons.2 ⟨store_at 0 0 inb_S2048x1024_S512x256_0_0 slices_S512x1024_o0_0_S512x256 (by decide) (hrow0 x0 x1 x2 x3) (hIn x0 x1 x2 x3) (by decide) (hrow0_at x0 x1 x2 x3) (fun c n => x4 (ix2 c ⟨n, by omega⟩)) _ (cos_at _ x4), ?_⟩
  exact fun _ hp => absurd hp List.not_mem_nil

/-- The sine products carried, at an index. -/
theorem scrB_at (x0 : Vec Ideal S1x2048x1024 .f32) (x1 : Vec Ideal S1x1024 .f32) (x2 x3 : Vec Ideal S1x1x1x1024 .f32) (x4 : Vec Ideal S256x512 .bf16) (s : Fin 2048) (k : Fin 1024) :
    scrB x0 x1 x2 x3 x4 (ix2 s k) = part (hIn x0 x1 x2 x3) (fun c n => x4 (ix2 c ⟨256 + n, by omega⟩)) s k := by
  unfold scrB
  refine View.canon_apply_of_pieces (Val := Elt Ideal) (fun y : S2048x1024.Idx => part (hIn x0 x1 x2 x3) (fun c n => x4 (ix2 c ⟨256 + n, by omega⟩)) (y 0) (y 1)) _ ?_ (ix2 s k) (coverB x0 x1 x2 x3 x4 _)
  have e4 : View.ld x4 rC = x4 := View.ld_unit_zero (by funext a; fin_cases a <;> rfl) _ x4
  unfold piecesB
  rw [e4]
  refine List.forall_mem_cons.2 ⟨store_at 1536 768 inb_S2048x1024_S512x256_1536_768 slices_S512x1024_o0_768_S512x256 (by decide) (hrow1536 x0 x1 x2 x3) (hIn x0 x1 x2 x3) (by decide) (hrow1536_at x0 x1 x2 x3) (fun c n => x4 (ix2 c ⟨256 + n, by omega⟩)) _ (sin_at _ x4), ?_⟩
  refine List.forall_mem_cons.2 ⟨store_at 1536 512 inb_S2048x1024_S512x256_1536_512 slices_S512x1024_o0_512_S512x256 (by decide) (hrow1536 x0 x1 x2 x3) (hIn x0 x1 x2 x3) (by decide) (hrow1536_at x0 x1 x2 x3) (fun c n => x4 (ix2 c ⟨256 + n, by omega⟩)) _ (sin_at _ x4), ?_⟩
  refine List.forall_mem_cons.2 ⟨store_at 1536 256 inb_S2048x1024_S512x256_1536_256 slices_S512x1024_o0_256_S512x256 (by decide) (hrow1536 x0 x1 x2 x3) (hIn x0 x1 x2 x3) (by decide) (hrow1536_at x0 x1 x2 x3) (fun c n => x4 (ix2 c ⟨256 + n, by omega⟩)) _ (sin_at _ x4), ?_⟩
  refine List.forall_mem_cons.2 ⟨store_at 1536 0 inb_S2048x1024_S512x256_1536_0 slices_S512x1024_o0_0_S512x256 (by decide) (hrow1536 x0 x1 x2 x3) (hIn x0 x1 x2 x3) (by decide) (hrow1536_at x0 x1 x2 x3) (fun c n => x4 (ix2 c ⟨256 + n, by omega⟩)) _ (sin_at _ x4), ?_⟩
  refine List.forall_mem_cons.2 ⟨store_at 1024 768 inb_S2048x1024_S512x256_1024_768 slices_S512x1024_o0_768_S512x256 (by decide) (hrow1024 x0 x1 x2 x3) (hIn x0 x1 x2 x3) (by decide) (hrow1024_at x0 x1 x2 x3) (fun c n => x4 (ix2 c ⟨256 + n, by omega⟩)) _ (sin_at _ x4), ?_⟩
  refine List.forall_mem_cons.2 ⟨store_at 1024 512 inb_S2048x1024_S512x256_1024_512 slices_S512x1024_o0_512_S512x256 (by decide) (hrow1024 x0 x1 x2 x3) (hIn x0 x1 x2 x3) (by decide) (hrow1024_at x0 x1 x2 x3) (fun c n => x4 (ix2 c ⟨256 + n, by omega⟩)) _ (sin_at _ x4), ?_⟩
  refine List.forall_mem_cons.2 ⟨store_at 1024 256 inb_S2048x1024_S512x256_1024_256 slices_S512x1024_o0_256_S512x256 (by decide) (hrow1024 x0 x1 x2 x3) (hIn x0 x1 x2 x3) (by decide) (hrow1024_at x0 x1 x2 x3) (fun c n => x4 (ix2 c ⟨256 + n, by omega⟩)) _ (sin_at _ x4), ?_⟩
  refine List.forall_mem_cons.2 ⟨store_at 1024 0 inb_S2048x1024_S512x256_1024_0 slices_S512x1024_o0_0_S512x256 (by decide) (hrow1024 x0 x1 x2 x3) (hIn x0 x1 x2 x3) (by decide) (hrow1024_at x0 x1 x2 x3) (fun c n => x4 (ix2 c ⟨256 + n, by omega⟩)) _ (sin_at _ x4), ?_⟩
  refine List.forall_mem_cons.2 ⟨store_at 512 768 inb_S2048x1024_S512x256_512_768 slices_S512x1024_o0_768_S512x256 (by decide) (hrow512 x0 x1 x2 x3) (hIn x0 x1 x2 x3) (by decide) (hrow512_at x0 x1 x2 x3) (fun c n => x4 (ix2 c ⟨256 + n, by omega⟩)) _ (sin_at _ x4), ?_⟩
  refine List.forall_mem_cons.2 ⟨store_at 512 512 inb_S2048x1024_S512x256_512_512 slices_S512x1024_o0_512_S512x256 (by decide) (hrow512 x0 x1 x2 x3) (hIn x0 x1 x2 x3) (by decide) (hrow512_at x0 x1 x2 x3) (fun c n => x4 (ix2 c ⟨256 + n, by omega⟩)) _ (sin_at _ x4), ?_⟩
  refine List.forall_mem_cons.2 ⟨store_at 512 256 inb_S2048x1024_S512x256_512_256 slices_S512x1024_o0_256_S512x256 (by decide) (hrow512 x0 x1 x2 x3) (hIn x0 x1 x2 x3) (by decide) (hrow512_at x0 x1 x2 x3) (fun c n => x4 (ix2 c ⟨256 + n, by omega⟩)) _ (sin_at _ x4), ?_⟩
  refine List.forall_mem_cons.2 ⟨store_at 512 0 inb_S2048x1024_S512x256_512_0 slices_S512x1024_o0_0_S512x256 (by decide) (hrow512 x0 x1 x2 x3) (hIn x0 x1 x2 x3) (by decide) (hrow512_at x0 x1 x2 x3) (fun c n => x4 (ix2 c ⟨256 + n, by omega⟩)) _ (sin_at _ x4), ?_⟩
  refine List.forall_mem_cons.2 ⟨store_at 0 768 inb_S2048x1024_S512x256_0_768 slices_S512x1024_o0_768_S512x256 (by decide) (hrow0 x0 x1 x2 x3) (hIn x0 x1 x2 x3) (by decide) (hrow0_at x0 x1 x2 x3) (fun c n => x4 (ix2 c ⟨256 + n, by omega⟩)) _ (sin_at _ x4), ?_⟩
  refine List.forall_mem_cons.2 ⟨store_at 0 512 inb_S2048x1024_S512x256_0_512 slices_S512x1024_o0_512_S512x256 (by decide) (hrow0 x0 x1 x2 x3) (hIn x0 x1 x2 x3) (by decide) (hrow0_at x0 x1 x2 x3) (fun c n => x4 (ix2 c ⟨256 + n, by omega⟩)) _ (sin_at _ x4), ?_⟩
  refine List.forall_mem_cons.2 ⟨store_at 0 256 inb_S2048x1024_S512x256_0_256 slices_S512x1024_o0_256_S512x256 (by decide) (hrow0 x0 x1 x2 x3) (hIn x0 x1 x2 x3) (by decide) (hrow0_at x0 x1 x2 x3) (fun c n => x4 (ix2 c ⟨256 + n, by omega⟩)) _ (sin_at _ x4), ?_⟩
  refine List.forall_mem_cons.2 ⟨store_at 0 0 inb_S2048x1024_S512x256_0_0 slices_S512x1024_o0_0_S512x256 (by decide) (hrow0 x0 x1 x2 x3) (hIn x0 x1 x2 x3) (by decide) (hrow0_at x0 x1 x2 x3) (fun c n => x4 (ix2 c ⟨256 + n, by omega⟩)) _ (sin_at _ x4), ?_⟩
  exact fun _ hp => absurd hp List.not_mem_nil

/-- The residual rows of a block of loaded rows: the mixed rows projected, gated, on top of the input rows. -/
theorem mix_at (a b : Vec Ideal S512x2048 .bf16) (s0 s1 : Vec Ideal S2048x1024 .bf16) (w : Vec Ideal S1024x1024 .bf16) (x : Vec Ideal S1x512x1024 .f32)
    (d : Vec Ideal S1x1x1x1024 .f32) (r : Fin 512) (k : Fin 1024) :
    k0_pay68 a s0 b s1 w x d (ix2 r k)
      = x (ix3 0 r k) + d (ix4 0 0 0 k) * ∑ c, ((∑ s, a (ix2 r s) * s0 (ix2 s c)) - ∑ s, b (ix2 r s) * s1 (ix2 s c)) * Ideal.ofBits FTy.f32 0x3AB504F3#32 * w (ix2 c k) := by
  pointwise [k0_pay68]

/-- A point reads the input rows it writes from row `512 j`. -/
theorem off_at : ∀ i : grid0.Coords, k0_off1 i 0 = 0 ∧ k0_off1 i 1 = 512 * (i 1 : ℕ) ∧ k0_off1 i 2 = 0 := by decide +kernel

/-- The input rows a point reads for its residual rows. -/
theorem own_at (i : grid0.Coords) (x0 : Vec Ideal S1x2048x1024 .f32) (r : Fin 512) (k : Fin 1024) (s : Fin 2048) (hs : (s : ℕ) = 512 * (i 1 : ℕ) + r) :
    (View.ld x0 (rO i) : Vec Ideal S1x512x1024 .f32) (ix3 0 r k) = x0 (ix3 0 s k) := by
  change x0 _ = x0 _
  congr 1
  funext a
  apply Fin.ext
  match a with
  | 0 => exact (Rect.emb_apply ..).trans (by simp [(off_at i).1])
  | 1 => exact (Rect.emb_apply ..).trans (by simp [(off_at i).2.1, hs])
  | 2 => exact (Rect.emb_apply ..).trans (by simp [(off_at i).2.2])

/-- The residual rows of a point. -/
theorem resid_at (i : grid0.Coords) (x0 : Vec Ideal S1x2048x1024 .f32) (x5 x6 : Vec Ideal S512x2048 .bf16) (x7 : Vec Ideal S1024x1024 .bf16) (x8 : Vec Ideal S1x1x1x1024 .f32) (s0 s1 : Vec Ideal S2048x1024 .bf16) (r : Fin 512) (k : Fin 1024) (s : Fin 2048) (hs : (s : ℕ) = 512 * (i 1 : ℕ) + r) :
    resid i x0 x5 x6 x7 x8 s0 s1 (ix2 r k)
      = x0 (ix3 0 s k) + x8 (ix4 0 0 0 k) * ∑ c, ((∑ u, x5 (ix2 r u) * s0 (ix2 u c)) - ∑ u, x6 (ix2 r u) * s1 (ix2 u c)) * Ideal.ofBits FTy.f32 0x3AB504F3#32 * x7 (ix2 c k) := by
  unfold resid
  simp (disch := decide) only [View.ld_unit_lit']
  rw [mix_at, own_at i x0 r k s hs]

/-- The rows written are the residual rows. -/
theorem out13_at (i : grid0.Coords) (x0 : Vec Ideal S1x2048x1024 .f32) (x5 x6 : Vec Ideal S512x2048 .bf16) (x7 : Vec Ideal S1024x1024 .bf16) (x8 : Vec Ideal S1x1x1x1024 .f32) (s0 s1 : Vec Ideal S2048x1024 .bf16) (r : Fin 512) (k : Fin 1024) :
    out0_13 i x0 x5 x6 x7 x8 s0 s1 (ix3 0 r k) = resid i x0 x5 x6 x7 x8 s0 s1 (ix2 r k) := by
  unfold out0_13 resid k0_pay69
  simp (disch := decide) only [View.canon_cons_unit_lit']
  generalize k0_pay68 (F := Ideal) _ _ _ _ _ _ _ = p
  pointwise

/-- The normed rows. -/
theorem normed_at (i : grid0.Coords) (x0 : Vec Ideal S1x2048x1024 .f32) (x5 x6 : Vec Ideal S512x2048 .bf16) (x7 : Vec Ideal S1024x1024 .bf16) (x8 : Vec Ideal S1x1x1x1024 .f32) (x9 : Vec Ideal S1x1024 .f32) (x10 x11 : Vec Ideal S1x1x1x1024 .f32) (s0 s1 : Vec Ideal S2048x1024 .bf16) (r : Fin 512) (k : Fin 1024) :
    normed i x0 x5 x6 x7 x8 x9 x10 x11 s0 s1 (ix2 r k)
      = normRow (fun k => resid i x0 x5 x6 x7 x8 s0 s1 (ix2 r k)) (fun k => x9 (ix2 0 k)) (fun k => x10 (ix4 0 0 0 k)) (fun k => x11 (ix4 0 0 0 k)) k := by
  unfold normed
  generalize resid i x0 x5 x6 x7 x8 s0 s1 = v
  simp (disch := decide) only [View.ld_unit_lit']
  pointwise [k0_pay70]
  rfl

theorem plane0_at (v : FVec Ideal S512x1024 .f32) (a : Vec Ideal S1x1024 .f32) (b c : Vec Ideal S1x1x1x1024 .f32) (r : Fin 512) (l : Fin 128) :
    k0_pay71 v a b c (ix3 0 r l) = k0_pay70 v a b c (ix2 r ⟨0 + l, by omega⟩) := by
  unfold k0_pay71
  generalize k0_pay70 v a b c = h
  pointwise

theorem plane1_at (v : FVec Ideal S512x1024 .f32) (a : Vec Ideal S1x1024 .f32) (b c : Vec Ideal S1x1x1x1024 .f32) (r : Fin 512) (l : Fin 128) :
    k0_pay72 v a b c (ix3 0 r l) = k0_pay70 v a b c (ix2 r ⟨128 + l, by omega⟩) := by
  unfold k0_pay72
  generalize k0_pay70 v a b c = h
  pointwise

theorem plane2_at (v : FVec Ideal S512x1024 .f32) (a : Vec Ideal S1x1024 .f32) (b c : Vec Ideal S1x1x1x1024 .f32) (r : Fin 512) (l : Fin 128) :
    k0_pay73 v a b c (ix3 0 r l) = k0_pay70 v a b c (ix2 r ⟨256 + l, by omega⟩) := by
  unfold k0_pay73
  generalize k0_pay70 v a b c = h
  pointwise

theorem plane3_at (h : FVec Ideal S512x1024 .f32) (r : Fin 512) (l : Fin 128) :
    k0_pay74 h (ix3 0 r l) = h (ix2 r ⟨384 + l, by omega⟩) := by
  pointwise [k0_pay74]

theorem plane4_at (h : FVec Ideal S512x1024 .f32) (r : Fin 512) (l : Fin 128) :
    k0_pay75 h (ix3 0 r l) = h (ix2 r ⟨512 + l, by omega⟩) := by
  pointwise [k0_pay75]

theorem plane5_at (h : FVec Ideal S512x1024 .f32) (r : Fin 512) (l : Fin 128) :
    k0_pay76 h (ix3 0 r l) = h (ix2 r ⟨640 + l, by omega⟩) := by
  pointwise [k0_pay76]

theorem plane6_at (h : FVec Ideal S512x1024 .f32) (r : Fin 512) (l : Fin 128) :
    k0_pay77 h (ix3 0 r l) = h (ix2 r ⟨768 + l, by omega⟩) := by
  pointwise [k0_pay77]

theorem plane7_at (h : FVec Ideal S512x1024 .f32) (r : Fin 512) (l : Fin 128) :
    k0_pay78 h (ix3 0 r l) = h (ix2 r ⟨896 + l, by omega⟩) := by
  pointwise [k0_pay78]

/-- Plane `o`'s store takes row `r` to row `8 r + o` of the block. -/
theorem slab_emb (o : ℕ) (ho : o < 8) (inb sp) (h : FVec Ideal S512x1024 .f32) (r : Fin 512) (l : Fin 128) (p : ℕ) (hp : p = 128 * o) (hl : p + l < 1024) :
    h (ix2 r ⟨p + l, hl⟩)
      = (fun y : S1x4096x128.Idx => h (ix2 ⟨(y 1 : ℕ) / 8, by have := (y 1).isLt; change (y 1 : ℕ) < 4096 at this; omega⟩
          ⟨128 * ((y 1 : ℕ) % 8) + (y 2 : ℕ), by have := (y 2).isLt; change (y 2 : ℕ) < 128 at this; omega⟩))
        ((⟨⟨![0, o, 0], S1x512x128.size, ![1, 8, 1], inb⟩, sp⟩ : Rect S1x4096x128).emb (ix3 0 r l)) := by
  have e1 : (((⟨⟨![0, o, 0], S1x512x128.size, ![1, 8, 1], inb⟩, sp⟩ : Rect S1x4096x128).emb (ix3 0 r l)) 1 : ℕ) = o + 8 * r := Rect.emb_apply ..
  have e2 : (((⟨⟨![0, o, 0], S1x512x128.size, ![1, 8, 1], inb⟩, sp⟩ : Rect S1x4096x128).emb (ix3 0 r l)) 2 : ℕ) = 0 + 1 * l := Rect.emb_apply ..
  dsimp only
  congr 2
  · apply Fin.ext
    change (r : ℕ) = _ / 8
    rw [e1]
    omega
  · apply Fin.ext
    change p + (l : ℕ) = 128 * (_ % 8) + _
    rw [e1, e2]
    omega

/-- The block of planes: row `8 r + j` holds channels `128 j` to `128 j + 127` of normed row `r`. -/
theorem out14_at (i : grid0.Coords) (x0 : Vec Ideal S1x2048x1024 .f32) (x5 x6 : Vec Ideal S512x2048 .bf16) (x7 : Vec Ideal S1024x1024 .bf16) (x8 : Vec Ideal S1x1x1x1024 .f32) (x9 : Vec Ideal S1x1024 .f32) (x10 x11 : Vec Ideal S1x1x1x1024 .f32) (s0 s1 : Vec Ideal S2048x1024 .bf16) (q : Fin 4096) (l : Fin 128) :
    out0_14 i x0 x5 x6 x7 x8 x9 x10 x11 s0 s1 (ix3 0 q l)
      = normed i x0 x5 x6 x7 x8 x9 x10 x11 s0 s1 (ix2 ⟨(q : ℕ) / 8, by omega⟩ ⟨128 * ((q : ℕ) % 8) + l, by omega⟩) := by
  unfold out0_14
  refine View.canon_apply_of_pieces (Val := Elt Ideal) (fun y : S1x4096x128.Idx => normed i x0 x5 x6 x7 x8 x9 x10 x11 s0 s1 (ix2 ⟨(y 1 : ℕ) / 8, by have := (y 1).isLt; change (y 1 : ℕ) < 4096 at this; omega⟩
          ⟨128 * ((y 1 : ℕ) % 8) + (y 2 : ℕ), by have := (y 2).isLt; change (y 2 : ℕ) < 128 at this; omega⟩)) _ ?_ (ix3 0 q l) (cover0_14 ..)
  intro pc hpc x
  simp only [List.mem_cons, List.not_mem_nil, or_false] at hpc
  rcases hpc with rfl | rfl | rfl | rfl | rfl | rfl | rfl | rfl
  all_goals
    obtain ⟨r, l, rfl⟩ : ∃ (r : Fin 512) (l : Fin 128), x = ix3 0 r l := ⟨x 1, x 2, (eq_ix3 x).trans (congrArg (fun z => ix3 z _ _) (Subsingleton.elim _ _))⟩
  · exact (plane7_at (normed i x0 x5 x6 x7 x8 x9 x10 x11 s0 s1) r l).trans (slab_emb 7 (by omega) _ _ _ r l 896 rfl _)
  · exact (plane6_at (normed i x0 x5 x6 x7 x8 x9 x10 x11 s0 s1) r l).trans (slab_emb 6 (by omega) _ _ _ r l 768 rfl _)
  · exact (plane5_at (normed i x0 x5 x6 x7 x8 x9 x10 x11 s0 s1) r l).trans (slab_emb 5 (by omega) _ _ _ r l 640 rfl _)
  · exact (plane4_at (normed i x0 x5 x6 x7 x8 x9 x10 x11 s0 s1) r l).trans (slab_emb 4 (by omega) _ _ _ r l 512 rfl _)
  · exact (plane3_at (normed i x0 x5 x6 x7 x8 x9 x10 x11 s0 s1) r l).trans (slab_emb 3 (by omega) _ _ _ r l 384 rfl _)
  · exact (plane2_at _ _ _ _ r l).trans (slab_emb 2 (by omega) _ _ _ r l 256 rfl _)
  · exact (plane1_at _ _ _ _ r l).trans (slab_emb 1 (by omega) _ _ _ r l 128 rfl _)
  · exact (plane0_at _ _ _ _ r l).trans (slab_emb 0 (by omega) _ _ _ r l 0 rfl _)

/-- The left half of the router weights' block. -/
theorem left_at (x : Vec Ideal S1024x256 .bf16) (k : Fin 1024) (l : Fin 128) :
    (View.ld x rL : Vec Ideal S1024x128 .bf16) (ix2 k l) = x (ix2 k ⟨l, by omega⟩) := by
  change x _ = x _
  congr 1
  funext a
  apply Fin.ext
  match a with
  | 0 => exact (Rect.emb_apply ..).trans (by simp)
  | 1 => exact (Rect.emb_apply ..).trans (by simp)

/-- The router weights' block, whole. -/
theorem whole_at (x : Vec Ideal S1024x256 .bf16) : (View.ld x rR : Vec Ideal S1024x256 .bf16) = x := by
  exact View.ld_unit_zero (by funext a; fin_cases a <;> rfl) _ x

/-- The logits against the weights' high and low parts. -/
theorem first_at (v : FVec Ideal S512x1024 .f32) (w : Vec Ideal S1024x256 .bf16) (r : Fin 512) (l : Fin 128) :
    k0_pay80 v w (ix2 r l) = ∑ k, v (ix2 r k) * w (ix2 k ⟨l, by omega⟩) + ∑ k, v (ix2 r k) * w (ix2 k ⟨128 + l, by omega⟩) := by
  pointwise [k0_pay80, k0_pay79]

/-- The logits of the rows' rounding. -/
theorem second_at (v : FVec Ideal S512x1024 .f32) (w : Vec Ideal S1024x128 .bf16) (r : Fin 512) (l : Fin 128) :
    k0_pay81 v w (ix2 r l) = ∑ k, (v (ix2 r k) - v (ix2 r k)) * w (ix2 k l) := by
  pointwise [k0_pay81, k0_pay79]

/-- The affinities written: softmax of the masked logits across the lanes, the first sixteen lanes as rows. -/
theorem soft_at (p q : FVec Ideal S512x128 .f32) (e : Fin 16) (r : Fin 512) :
    k0_pay1 p q (ix3 0 e r) = softRow (fun l : Fin 128 => if (l : ℕ) < 16 then p (ix2 r l) + q (ix2 r l) else ⊥) ⟨e, by omega⟩ := by
  have hm : ∀ l : Fin 128, IntOp.cmpi CmpIPredicate.slt (BitVec.ofNat 32 ↑l) 16#32 = if (l : ℕ) < 16 then 1#1 else 0#1 := by
    decide +kernel
  have he : IntOp.cmpi CmpIPredicate.slt (BitVec.ofNat 32 ↑e) 16#32 = if (e : ℕ) < 16 then 1#1 else 0#1 := hm ⟨e, by omega⟩
  have hs : ∀ (l : ℕ) (a b : EReal), Scalar.select (if l < 16 then 1#1 else 0#1) a b = if l < 16 then a else b := fun l a b => by
    split <;> rfl
  pointwise [k0_pay1]
  simp only [mask_at, hm, he, hs, show Ideal.ofBits FTy.f32 4286578688#32 = ⊥ by simp [Ideal.ofBits, Ideal.ieee]]
  rfl

/-- The affinities' block, for real normed rows and weights whose high part is `W` in the first sixteen columns and whose low part vanishes:
    the softmax of the rows' logits. -/
theorem out15_at (i : grid0.Coords) (x0 : Vec Ideal S1x2048x1024 .f32) (x5 x6 : Vec Ideal S512x2048 .bf16) (x7 : Vec Ideal S1024x1024 .bf16) (x8 : Vec Ideal S1x1x1x1024 .f32) (x9 : Vec Ideal S1x1024 .f32) (x10 x11 : Vec Ideal S1x1x1x1024 .f32) (x12 : Vec Ideal S1024x256 .bf16) (s0 s1 : Vec Ideal S2048x1024 .bf16)
    (W : Fin 1024 → Fin 16 → EReal) (e : Fin 16) (r : Fin 512)
    (hn : ∀ k, IsReal (normed i x0 x5 x6 x7 x8 x9 x10 x11 s0 s1 (ix2 r k)))
    (hW : ∀ k (l : Fin 16), x12 (ix2 k ⟨l, by omega⟩) = W k l) (hL : ∀ k (l : Fin 16), x12 (ix2 k ⟨128 + l, by omega⟩) = 0) :
    out0_15 i x0 x5 x6 x7 x8 x9 x10 x11 x12 s0 s1 (ix3 0 e r)
      = softRow (fun e => ∑ k, normed i x0 x5 x6 x7 x8 x9 x10 x11 s0 s1 (ix2 r k) * W k e) e := by
  unfold out0_15
  generalize normed i x0 x5 x6 x7 x8 x9 x10 x11 s0 s1 = v at hn ⊢
  simp (disch := decide) only [View.canon_cons_unit_lit']
  have hp : ∀ l : Fin 128, (if (l : ℕ) < 16 then k0_pay80 v (View.ld x12 rR) (ix2 r l) + k0_pay81 v (View.ld x12 rL) (ix2 r l) else (⊥ : EReal))
      = if h : (l : ℕ) < 16 then ∑ k, v (ix2 r k) * W k ⟨l, h⟩ else ⊥ := fun l => by
    rw [first_at, second_at, whole_at]
    split
    · next h =>
      have h1 : ∀ k, x12 (ix2 k ⟨l, by omega⟩) = W k ⟨l, h⟩ := fun k => hW k ⟨l, h⟩
      have h2 : ∀ k, x12 (ix2 k ⟨128 + l, by omega⟩) = 0 := fun k => hL k ⟨l, h⟩
      simp only [h1, h2, (hn _).sub_self, mul_zero, zero_mul, Finset.sum_const_zero, add_zero]
    · rfl
  rw [← softRow_ends_bot, soft_at]
  simp only [hp]

end Cert.FnetIdeal.Block
end
-- ==== Proof.FnetAlgebraic.lean ====
module

public import proofs.«01_k».proof.Defs
public import proofs.«01_k».proof.Proof.FnetBlock
public import proofs.«01_k».proof.Proof.Gen.FnetRefIdeal.Run
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.FnetIdeal.Block

open Cert.FnetIdeal Cert.FnetIdeal.Gen Cert.FnetIdeal.Body

/-- The normed input row of position `s` of sequence `b`. -/
def inRow (x : Vec Ideal S8x2048x1024 .f32) (g : Vec Ideal S1024 .f32) (d : Vec Ideal S8x6x1x1024 .f32) (b : Fin 8) (s : Fin 2048) (k : Fin 1024) : EReal :=
  normRow (fun k => x (ix3 b s k)) (fun k => g (ix1 k)) (fun k => d (ix4 b 1 0 k)) (fun k => d (ix4 b 0 0 k)) k

/-- The mixed row: the cosine products along the positions less the sine products, times the stated constant. -/
def mixed (x : Vec Ideal S8x2048x1024 .f32) (g : Vec Ideal S1024 .f32) (d : Vec Ideal S8x6x1x1024 .f32) (ch : Vec Ideal S256x512 .bf16) (cs ss : Vec Ideal S2048x2048 .bf16) (b : Fin 8) (s : Fin 2048) (k : Fin 1024) : EReal :=
  ((∑ u, cs (ix2 s u) * part (inRow x g d b) (fun c n => ch (ix2 c ⟨n, by omega⟩)) u k)
    - ∑ u, ss (ix2 s u) * part (inRow x g d b) (fun c n => ch (ix2 c ⟨256 + n, by omega⟩)) u k) * Ideal.ofBits FTy.f32 0x3AB504F3#32

/-- The residual row: the input row plus the gated projection of the mixed row. -/
def resRow (x : Vec Ideal S8x2048x1024 .f32) (g : Vec Ideal S1024 .f32) (d : Vec Ideal S8x6x1x1024 .f32) (w : Vec Ideal S1024x1024 .f32) (ch : Vec Ideal S256x512 .bf16) (cs ss : Vec Ideal S2048x2048 .bf16) (b : Fin 8) (s : Fin 2048) (k : Fin 1024) : EReal :=
  x (ix3 b s k) + d (ix4 b 2 0 k) * ∑ i, mixed x g d ch cs ss b s i * w (ix2 i k)

/-- The normed row of position `s` of sequence `b`. -/
def hRow (x : Vec Ideal S8x2048x1024 .f32) (g : Vec Ideal S1024 .f32) (d : Vec Ideal S8x6x1x1024 .f32) (w : Vec Ideal S1024x1024 .f32) (g2 : Vec Ideal S1024 .f32) (ch : Vec Ideal S256x512 .bf16) (cs ss : Vec Ideal S2048x2048 .bf16) (b : Fin 8) (s : Fin 2048) (k : Fin 1024) : EReal :=
  normRow (resRow x g d w ch cs ss b s) (fun k => g2 (ix1 k)) (fun k => d (ix4 b 4 0 k)) (fun k => d (ix4 b 3 0 k)) k

/-- Plane row `q` of sequence `b`: channels `128 (q % 8)` and on of the normed row of position `q / 8`. -/
def plane (x : Vec Ideal S8x2048x1024 .f32) (g : Vec Ideal S1024 .f32) (d : Vec Ideal S8x6x1x1024 .f32) (w : Vec Ideal S1024x1024 .f32) (g2 : Vec Ideal S1024 .f32) (ch : Vec Ideal S256x512 .bf16) (cs ss : Vec Ideal S2048x2048 .bf16) (b : Fin 8) (q : Fin 16384) (l : Fin 128) : EReal :=
  hRow x g d w g2 ch cs ss b ⟨(q : ℕ) / 8, by omega⟩ ⟨128 * ((q : ℕ) % 8) + l, by omega⟩

/-- The affinity of position `s` of sequence `b` to expert `e`. -/
def aff (x : Vec Ideal S8x2048x1024 .f32) (g : Vec Ideal S1024 .f32) (d : Vec Ideal S8x6x1x1024 .f32) (w : Vec Ideal S1024x1024 .f32) (g2 : Vec Ideal S1024 .f32) (rw : Vec Ideal S1024x16 .f32) (ch : Vec Ideal S256x512 .bf16) (cs ss : Vec Ideal S2048x2048 .bf16) (b : Fin 8) (e : Fin 16) (s : Fin 2048) : EReal :=
  softRow (fun e => ∑ k, hRow x g d w g2 ch cs ss b s k * rw (ix2 k e)) e

variable (m : (ℓ : Loc nD τ sig) → Buf (Elt Ideal) ℓ)

/-- Window 0 takes the sequence's input rows. -/
theorem idx0 : ∀ t : Fin grid0.N, win0_0.index t 0 = t.val / 4 ∧ win0_0.index t 1 = 0 ∧ win0_0.index t 2 = 0 := by decide +kernel
/-- Window 1 stays on the input gain. -/
theorem idx1 : ∀ t : Fin grid0.N, win0_1.index t 0 = 0 ∧ win0_1.index t 1 = 0 := by decide +kernel
/-- Window 2 takes the input scale of the point's sequence. -/
theorem idx2 : ∀ t : Fin grid0.N, win0_2.index t 0 = t.val / 4 ∧ win0_2.index t 1 = 1 ∧ win0_2.index t 2 = 0 ∧ win0_2.index t 3 = 0 := by decide +kernel
/-- Window 3 takes the input shift of the point's sequence. -/
theorem idx3 : ∀ t : Fin grid0.N, win0_3.index t 0 = t.val / 4 ∧ win0_3.index t 1 = 0 ∧ win0_3.index t 2 = 0 ∧ win0_3.index t 3 = 0 := by decide +kernel
/-- Window 4 stays on the channel table. -/
theorem idx4 : ∀ t : Fin grid0.N, win0_4.index t 0 = 0 ∧ win0_4.index t 1 = 0 := by decide +kernel
/-- Window 5 takes the cosine rows of the point's positions. -/
theorem idx5 : ∀ t : Fin grid0.N, win0_5.index t 0 = t.val % 4 ∧ win0_5.index t 1 = 0 := by decide +kernel
/-- Window 6 takes the sine rows of the point's positions. -/
theorem idx6 : ∀ t : Fin grid0.N, win0_6.index t 0 = t.val % 4 ∧ win0_6.index t 1 = 0 := by decide +kernel
/-- Window 7 stays on the projection weights. -/
theorem idx7 : ∀ t : Fin grid0.N, win0_7.index t 0 = 0 ∧ win0_7.index t 1 = 0 := by decide +kernel
/-- Window 8 takes the gate of the point's sequence. -/
theorem idx8 : ∀ t : Fin grid0.N, win0_8.index t 0 = t.val / 4 ∧ win0_8.index t 1 = 2 ∧ win0_8.index t 2 = 0 ∧ win0_8.index t 3 = 0 := by decide +kernel
/-- Window 9 stays on the second gain. -/
theorem idx9 : ∀ t : Fin grid0.N, win0_9.index t 0 = 0 ∧ win0_9.index t 1 = 0 := by decide +kernel
/-- Window 10 takes the second scale of the point's sequence. -/
theorem idx10 : ∀ t : Fin grid0.N, win0_10.index t 0 = t.val / 4 ∧ win0_10.index t 1 = 4 ∧ win0_10.index t 2 = 0 ∧ win0_10.index t 3 = 0 := by decide +kernel
/-- Window 11 takes the second shift of the point's sequence. -/
theorem idx11 : ∀ t : Fin grid0.N, win0_11.index t 0 = t.val / 4 ∧ win0_11.index t 1 = 3 ∧ win0_11.index t 2 = 0 ∧ win0_11.index t 3 = 0 := by decide +kernel
/-- Window 12 stays on the router weights. -/
theorem idx12 : ∀ t : Fin grid0.N, win0_12.index t 0 = 0 ∧ win0_12.index t 1 = 0 := by decide +kernel
/-- The residual rows written, four blocks to a sequence. -/
theorem idx13 : ∀ t : Fin grid0.N, win0_13.index t 0 = t.val / 4 ∧ win0_13.index t 1 = t.val % 4 ∧ win0_13.index t 2 = 0 := by decide +kernel
/-- The planes written lie in the same order. -/
theorem idx14 : ∀ t : Fin grid0.N, win0_14.index t 0 = t.val / 4 ∧ win0_14.index t 1 = t.val % 4 ∧ win0_14.index t 2 = 0 := by decide +kernel
/-- The affinities written lie with positions last. -/
theorem idx15 : ∀ t : Fin grid0.N, win0_15.index t 0 = t.val / 4 ∧ win0_15.index t 1 = 0 ∧ win0_15.index t 2 = t.val % 4 := by decide +kernel
/-- A point's second coordinate is its block of positions. -/
theorem coord : ∀ t : Fin grid0.N, (grid0.coords t 1 : ℕ) = t.val % 4 := by decide +kernel

/-- The gain as one row. -/
theorem row_at (x : Vec Ideal S1024 .f32) (k : Fin 1024) :
    shapeCast S1x1024 x shapeCasts_S1024_S1x1024 (ix2 0 k) = x (ix1 k) := by
  pointwise

/-- The projection weights the region finds. -/
theorem V_weights (c : Dev nD) : V m c main_v1 = (m ((c : Thread nD τ).loc main_arg3) : Vec Ideal S1024x1024 .f32) := by
  unfold V hostOps0 hostOps0_1 hostOps0_2
  after_results <;> rfl

/-- The input gain the region finds. -/
theorem V_gain (c : Dev nD) (k : Fin 1024) : V m c main_v0 (ix2 0 k) = m ((c : Thread nD τ).loc main_arg1) (ix1 k) := by
  have e : V m c main_v0 = shapeCast S1x1024 (m ((c : Thread nD τ).loc main_arg1)) shapeCasts_S1024_S1x1024 := by
    unfold V hostOps0 hostOps0_1 hostOps0_2
    after_results <;> rfl
  rw [e]
  exact row_at _ k

/-- The second gain the region finds. -/
theorem V_gain2 (c : Dev nD) (k : Fin 1024) : V m c main_v2 (ix2 0 k) = m ((c : Thread nD τ).loc main_arg4) (ix1 k) := by
  have e : V m c main_v2 = shapeCast S1x1024 (m ((c : Thread nD τ).loc main_arg4)) shapeCasts_S1024_S1x1024 := by
    unfold V hostOps0 hostOps0_1 hostOps0_2
    after_results <;> rfl
  rw [e]
  exact row_at _ k

/-- The router weights padded to 128 columns. -/
def padded (x : FVec Ideal S1024x16 .f32) : FVec Ideal S1024x128 .f32 :=
  pad S1024x128 ![0, 0] ![0, 112] ![0, 0] x (sitofp .f32 (constantI S_ 32 0#32)) pads_S1024x16_S1024x128_000_01120 h_S_

/-- The router weights' high part beside their low part. -/
def split (x : FVec Ideal S1024x16 .f32) : FVec Ideal S1024x256 .bf16 :=
  concatenate S1024x256 1 [⟨S1024x128, truncf .bf16 (padded x) bitsLt_bf16_f32⟩,
    ⟨S1024x128, truncf .bf16 (subf (padded x) (extf .f32 (truncf .bf16 (padded x) bitsLt_bf16_f32) bitsLt_bf16_f32)) bitsLt_bf16_f32⟩]
    concatenates_S1024x128_S1024x128_S1024x256_d1

/-- A padded column below sixteen. -/
theorem padded_at (x : FVec Ideal S1024x16 .f32) (k : Fin 1024) (l : Fin 16) : padded x (ix2 k ⟨l, by omega⟩) = x (ix2 k l) := by
  pointwise [padded]

/-- A column of the high part below sixteen. -/
theorem split_high (x : FVec Ideal S1024x16 .f32) (k : Fin 1024) (l : Fin 16) : split x (ix2 k ⟨l, by omega⟩) = x (ix2 k l) := by
  refine Eq.trans ?_ (padded_at x k l)
  unfold split
  generalize padded x = p
  pointwise
  rw [dif_pos (by omega)]

/-- A column of the low part below sixteen, of real weights. -/
theorem split_low (x : FVec Ideal S1024x16 .f32) (hx : ∀ k l, IsReal (x (ix2 k l))) (k : Fin 1024) (l : Fin 16) :
    split x (ix2 k ⟨128 + l, by omega⟩) = 0 := by
  refine Eq.trans ?_ (hx k l).sub_self
  rw [← padded_at x k l]
  unfold split
  generalize padded x = p
  pointwise

/-- The router weights the region finds. -/
theorem V_router (c : Dev nD) : V m c main_v8 = split (m ((c : Thread nD τ).loc main_arg5)) := by
  unfold V hostOps0 hostOps0_1 hostOps0_2
  after_results <;> rfl

/-- Block 0 at an index. -/
theorem blk0 (c : Dev nD) (t : Fin cfg0.N) (s : Fin 2048) (k : Fin 1024) (b : Fin 8) (hb : (b : ℕ) = t.val / 4) :
    (iblk m c 0 t : Vec Ideal S1x2048x1024 .f32) (ix3 0 s k) = m ((c : Thread nD τ).loc main_arg0) (ix3 b s k) := by
  refine Eq.trans ?_ (congrFun (V_main_arg0 m c) (ix3 b s k))
  blk_point [iblk, idx0 t]

/-- Block 1 at an index. -/
theorem blk1 (c : Dev nD) (t : Fin cfg0.N) (k : Fin 1024) :
    (iblk m c 1 t : Vec Ideal S1x1024 .f32) (ix2 0 k) = m ((c : Thread nD τ).loc main_arg1) (ix1 k) := by
  refine Eq.trans ?_ (V_gain m c k)
  blk_point [iblk, idx1 t]

/-- Block 2 at an index. -/
theorem blk2 (c : Dev nD) (t : Fin cfg0.N) (k : Fin 1024) (b : Fin 8) (hb : (b : ℕ) = t.val / 4) :
    (iblk m c 2 t : Vec Ideal S1x1x1x1024 .f32) (ix4 0 0 0 k) = m ((c : Thread nD τ).loc main_arg2) (ix4 b 1 0 k) := by
  refine Eq.trans ?_ (congrFun (V_main_arg2 m c) (ix4 b 1 0 k))
  blk_point [iblk, idx2 t]

/-- Block 3 at an index. -/
theorem blk3 (c : Dev nD) (t : Fin cfg0.N) (k : Fin 1024) (b : Fin 8) (hb : (b : ℕ) = t.val / 4) :
    (iblk m c 3 t : Vec Ideal S1x1x1x1024 .f32) (ix4 0 0 0 k) = m ((c : Thread nD τ).loc main_arg2) (ix4 b 0 0 k) := by
  refine Eq.trans ?_ (congrFun (V_main_arg2 m c) (ix4 b 0 0 k))
  blk_point [iblk, idx3 t]

/-- Block 4 at an index. -/
theorem blk4 (c : Dev nD) (t : Fin cfg0.N) (k : Fin 256) (l : Fin 512) :
    (iblk m c 4 t : Vec Ideal S256x512 .bf16) (ix2 k l) = m ((c : Thread nD τ).loc main_arg6) (ix2 k l) := by
  refine Eq.trans ?_ (congrFun (V_main_arg6 m c) (ix2 k l))
  blk_point [iblk, idx4 t]

/-- Block 5 at an index. -/
theorem blk5 (c : Dev nD) (t : Fin cfg0.N) (r : Fin 512) (u : Fin 2048) (s : Fin 2048) (hs : (s : ℕ) = 512 * (t.val % 4) + r) :
    (iblk m c 5 t : Vec Ideal S512x2048 .bf16) (ix2 r u) = m ((c : Thread nD τ).loc main_arg7) (ix2 s u) := by
  refine Eq.trans ?_ (congrFun (V_main_arg7 m c) (ix2 s u))
  blk_point [iblk, idx5 t]

/-- Block 6 at an index. -/
theorem blk6 (c : Dev nD) (t : Fin cfg0.N) (r : Fin 512) (u : Fin 2048) (s : Fin 2048) (hs : (s : ℕ) = 512 * (t.val % 4) + r) :
    (iblk m c 6 t : Vec Ideal S512x2048 .bf16) (ix2 r u) = m ((c : Thread nD τ).loc main_arg8) (ix2 s u) := by
  refine Eq.trans ?_ (congrFun (V_main_arg8 m c) (ix2 s u))
  blk_point [iblk, idx6 t]

/-- Block 7 at an index. -/
theorem blk7 (c : Dev nD) (t : Fin cfg0.N) (i : Fin 1024) (k : Fin 1024) :
    (iblk m c 7 t : Vec Ideal S1024x1024 .bf16) (ix2 i k) = m ((c : Thread nD τ).loc main_arg3) (ix2 i k) := by
  refine Eq.trans ?_ (congrFun (V_weights m c) (ix2 i k))
  blk_point [iblk, idx7 t]

/-- Block 8 at an index. -/
theorem blk8 (c : Dev nD) (t : Fin cfg0.N) (k : Fin 1024) (b : Fin 8) (hb : (b : ℕ) = t.val / 4) :
    (iblk m c 8 t : Vec Ideal S1x1x1x1024 .f32) (ix4 0 0 0 k) = m ((c : Thread nD τ).loc main_arg2) (ix4 b 2 0 k) := by
  refine Eq.trans ?_ (congrFun (V_main_arg2 m c) (ix4 b 2 0 k))
  blk_point [iblk, idx8 t]

/-- Block 9 at an index. -/
theorem blk9 (c : Dev nD) (t : Fin cfg0.N) (k : Fin 1024) :
    (iblk m c 9 t : Vec Ideal S1x1024 .f32) (ix2 0 k) = m ((c : Thread nD τ).loc main_arg4) (ix1 k) := by
  refine Eq.trans ?_ (V_gain2 m c k)
  blk_point [iblk, idx9 t]

/-- Block 10 at an index. -/
theorem blk10 (c : Dev nD) (t : Fin cfg0.N) (k : Fin 1024) (b : Fin 8) (hb : (b : ℕ) = t.val / 4) :
    (iblk m c 10 t : Vec Ideal S1x1x1x1024 .f32) (ix4 0 0 0 k) = m ((c : Thread nD τ).loc main_arg2) (ix4 b 4 0 k) := by
  refine Eq.trans ?_ (congrFun (V_main_arg2 m c) (ix4 b 4 0 k))
  blk_point [iblk, idx10 t]

/-- Block 11 at an index. -/
theorem blk11 (c : Dev nD) (t : Fin cfg0.N) (k : Fin 1024) (b : Fin 8) (hb : (b : ℕ) = t.val / 4) :
    (iblk m c 11 t : Vec Ideal S1x1x1x1024 .f32) (ix4 0 0 0 k) = m ((c : Thread nD τ).loc main_arg2) (ix4 b 3 0 k) := by
  refine Eq.trans ?_ (congrFun (V_main_arg2 m c) (ix4 b 3 0 k))
  blk_point [iblk, idx11 t]

/-- Block 12 at an index. -/
theorem blk12 (c : Dev nD) (t : Fin cfg0.N) (k : Fin 1024) (l : Fin 256) :
    (iblk m c 12 t : Vec Ideal S1024x256 .bf16) (ix2 k l) = split (m ((c : Thread nD τ).loc main_arg5)) (ix2 k l) := by
  refine Eq.trans ?_ (congrFun (V_router m c) (ix2 k l))
  blk_point [iblk, idx12 t]

/-- The normed input rows of a point's sequence. -/
theorem in_value (c : Dev nD) (t : Fin cfg0.N) (b : Fin 8) (hb : (b : ℕ) = t.val / 4) :
    hIn (iblk m c 0 t) (iblk m c 1 t) (iblk m c 2 t) (iblk m c 3 t) = inRow (m ((c : Thread nD τ).loc main_arg0)) (m ((c : Thread nD τ).loc main_arg1)) (m ((c : Thread nD τ).loc main_arg2)) b := by
  funext s k
  unfold hIn inRow
  simp only [blk0 m c t _ _ b hb, blk1, blk2 m c t _ b hb, blk3 m c t _ b hb]

/-- The point that fills the carried buffers belongs to the same sequence. -/
theorem base_div (t : Fin cfg0.N) : (base t).val / 4 = t.val / 4 := by
  change (t.val - t.val % 4) / 4 = t.val / 4
  omega

/-- The cosine products a point finds carried. -/
theorem sA_value (c : Dev nD) (t : Fin cfg0.N) (u : Fin 2048) (k : Fin 1024) (b : Fin 8) (hb : (b : ℕ) = t.val / 4) :
    sA m c t (ix2 u k) = part (inRow (m ((c : Thread nD τ).loc main_arg0)) (m ((c : Thread nD τ).loc main_arg1)) (m ((c : Thread nD τ).loc main_arg2)) b) (fun c' n => (m ((c : Thread nD τ).loc main_arg6) : Vec Ideal S256x512 .bf16) (ix2 c' ⟨n, by omega⟩)) u k := by
  refine (scrA_at _ _ _ _ _ u k).trans ?_
  rw [in_value m c (base t) b (hb.trans (base_div t).symm)]
  simp only [blk4]

/-- The sine products a point finds carried. -/
theorem sB_value (c : Dev nD) (t : Fin cfg0.N) (u : Fin 2048) (k : Fin 1024) (b : Fin 8) (hb : (b : ℕ) = t.val / 4) :
    sB m c t (ix2 u k) = part (inRow (m ((c : Thread nD τ).loc main_arg0)) (m ((c : Thread nD τ).loc main_arg1)) (m ((c : Thread nD τ).loc main_arg2)) b) (fun c' n => (m ((c : Thread nD τ).loc main_arg6) : Vec Ideal S256x512 .bf16) (ix2 c' ⟨256 + n, by omega⟩)) u k := by
  refine (scrB_at _ _ _ _ _ u k).trans ?_
  rw [in_value m c (base t) b (hb.trans (base_div t).symm)]
  simp only [blk4]

/-- A point's residual rows are the arrays' residual rows where the block lies. -/
theorem resid_value (c : Dev nD) (t : Fin cfg0.N) (r : Fin 512) (k : Fin 1024) (b : Fin 8) (s : Fin 2048) (hb : (b : ℕ) = t.val / 4)
    (hs : (s : ℕ) = 512 * (t.val % 4) + r) :
    resid (grid0.coords t) (iblk m c 0 t) (iblk m c 5 t) (iblk m c 6 t) (iblk m c 7 t) (iblk m c 8 t) (sA m c t) (sB m c t) (ix2 r k) = resRow (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) b s k := by
  rw [resid_at _ _ _ _ _ _ _ _ r k s (by rw [coord]; exact hs)]
  unfold resRow mixed
  simp only [blk0 m c t _ _ b hb, blk5 m c t r _ s hs, blk6 m c t r _ s hs, blk7, blk8 m c t _ b hb, sA_value m c t _ _ b hb, sB_value m c t _ _ b hb]

/-- A point's normed rows are the arrays' normed rows where the block lies. -/
theorem normed_value (c : Dev nD) (t : Fin cfg0.N) (r : Fin 512) (k : Fin 1024) (b : Fin 8) (s : Fin 2048) (hb : (b : ℕ) = t.val / 4)
    (hs : (s : ℕ) = 512 * (t.val % 4) + r) :
    normed (grid0.coords t) (iblk m c 0 t) (iblk m c 5 t) (iblk m c 6 t) (iblk m c 7 t) (iblk m c 8 t) (iblk m c 9 t) (iblk m c 10 t) (iblk m c 11 t) (sA m c t) (sB m c t) (ix2 r k) = hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) b s k := by
  rw [normed_at]
  unfold hRow
  simp only [resid_value m c t r _ b s hb hs, blk9, blk10 m c t _ b hb, blk11 m c t _ b hb]

/-- The residual block of a point. -/
theorem value13 (c : Dev nD) (t : Fin cfg0.N) (y : S1x512x1024.Idx) (b : Fin 8) (s : Fin 2048) (k : Fin 1024) (hb : (b : ℕ) = t.val / 4)
    (hs : (s : ℕ) = 512 * (t.val % 4) + (y 1 : ℕ)) (hk : (k : ℕ) = (y 2 : ℕ)) :
    out0_13 (grid0.coords t) (iblk m c 0 t) (iblk m c 5 t) (iblk m c 6 t) (iblk m c 7 t) (iblk m c 8 t) (sA m c t) (sB m c t) y = resRow (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) b s k := by
  obtain ⟨r, k', rfl⟩ : ∃ (r : Fin 512) (k : Fin 1024), y = ix3 0 r k := ⟨y 1, y 2, (eq_ix3 y).trans (congrArg (fun z => ix3 z _ _) (Subsingleton.elim _ _))⟩
  obtain rfl : k = k' := Fin.ext hk
  exact (out13_at _ _ _ _ _ _ _ _ r k).trans (resid_value m c t r k b s hb hs)

/-- The planes of a point. -/
theorem value14 (c : Dev nD) (t : Fin cfg0.N) (y : S1x4096x128.Idx) (b : Fin 8) (q : Fin 16384) (l : Fin 128) (hb : (b : ℕ) = t.val / 4)
    (hq : (q : ℕ) = 4096 * (t.val % 4) + (y 1 : ℕ)) (hl : (l : ℕ) = (y 2 : ℕ)) :
    out0_14 (grid0.coords t) (iblk m c 0 t) (iblk m c 5 t) (iblk m c 6 t) (iblk m c 7 t) (iblk m c 8 t) (iblk m c 9 t) (iblk m c 10 t) (iblk m c 11 t) (sA m c t) (sB m c t) y = plane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) b q l := by
  obtain ⟨p, l', rfl⟩ : ∃ (p : Fin 4096) (l : Fin 128), y = ix3 0 p l := ⟨y 1, y 2, (eq_ix3 y).trans (congrArg (fun z => ix3 z _ _) (Subsingleton.elim _ _))⟩
  obtain rfl : l = l' := Fin.ext hl
  have hq' : (q : ℕ) = 4096 * (t.val % 4) + p := hq
  refine (out14_at _ _ _ _ _ _ _ _ _ _ _ p l).trans ?_
  rw [normed_value m c t _ _ b ⟨(q : ℕ) / 8, by omega⟩ hb (by dsimp only; omega)]
  unfold plane
  congr 2
  omega

/-- The affinities of a point, of real arrays. -/
theorem value15 (c : Dev nD) (hR : ∀ b s k, IsReal (hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) b s k))
    (hw : ∀ k l, IsReal ((m ((c : Thread nD τ).loc main_arg5) : Vec Ideal S1024x16 .f32) (ix2 k l)))
    (t : Fin cfg0.N) (y : S1x16x512.Idx) (b : Fin 8) (e : Fin 16) (s : Fin 2048) (hb : (b : ℕ) = t.val / 4)
    (he : (e : ℕ) = (y 1 : ℕ)) (hs : (s : ℕ) = 512 * (t.val % 4) + (y 2 : ℕ)) :
    out0_15 (grid0.coords t) (iblk m c 0 t) (iblk m c 5 t) (iblk m c 6 t) (iblk m c 7 t) (iblk m c 8 t) (iblk m c 9 t) (iblk m c 10 t) (iblk m c 11 t) (iblk m c 12 t) (sA m c t) (sB m c t) y = aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b e s := by
  obtain ⟨e', r, rfl⟩ : ∃ (e : Fin 16) (r : Fin 512), y = ix3 0 e r := ⟨y 1, y 2, (eq_ix3 y).trans (congrArg (fun z => ix3 z _ _) (Subsingleton.elim _ _))⟩
  obtain rfl : e = e' := Fin.ext he
  have hn := fun k => normed_value m c t r k b s hb hs
  refine (out15_at _ _ _ _ _ _ _ _ _ _ _ _ (fun k l => (m ((c : Thread nD τ).loc main_arg5) : Vec Ideal S1024x16 .f32) (ix2 k l)) e r
    (fun k => by rw [hn]; exact hR b s k) (fun k l => (blk12 m c t k _).trans (split_high _ k l))
    (fun k l => (blk12 m c t k _).trans (split_low _ hw k l))).trans ?_
  unfold aff
  simp only [hn]

/-- The residual rows the run leaves. -/
theorem final13 (c : Dev nD) : (dats m 0 c).arrAt 13 (cfgs 0).N
    = fun i => resRow (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (i 0) (i 1) (i 2) := by
  refine (dats m 0 c).arrAt_eq_of_covers 13 _ (by decide +kernel) fun t hf y => ?_
  blk_simp
  rw [after0_13]
  refine value13 m c t y _ _ _ ?_ ?_ ?_
  all_goals (blk_simp [idx13 t] <;> try omega)

/-- The planes the run leaves. -/
theorem final14 (c : Dev nD) : (dats m 0 c).arrAt 14 (cfgs 0).N
    = fun i => plane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (i 0) (i 1) (i 2) := by
  refine (dats m 0 c).arrAt_eq_of_covers 14 _ (by decide +kernel) fun t hf y => ?_
  blk_simp
  rw [after0_14]
  refine value14 m c t y _ _ _ ?_ ?_ ?_
  all_goals (blk_simp [idx14 t] <;> try omega)

/-- The affinities the run leaves, of real arrays. -/
theorem final15 (c : Dev nD) (hR : ∀ b s k, IsReal (hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) b s k))
    (hw : ∀ k l, IsReal ((m ((c : Thread nD τ).loc main_arg5) : Vec Ideal S1024x16 .f32) (ix2 k l))) : (dats m 0 c).arrAt 15 (cfgs 0).N
    = fun i => aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2) := by
  refine (dats m 0 c).arrAt_eq_of_covers 15 _ (by decide +kernel) fun t hf y => ?_
  blk_simp
  rw [after0_15]
  refine value15 m c hR hw t y _ _ _ ?_ ?_ ?_
  all_goals (blk_simp [idx15 t] <;> try omega)

/-- The run on real arrays: each result array is its value at every index, the arguments are unchanged. -/
theorem run (ρ : Dev nD → PrngReg) (hR : ∀ (c : Dev nD) b s k, IsReal (hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) b s k))
    (hw : ∀ (c : Dev nD) k l, IsReal ((m ((c : Thread nD τ).loc main_arg5) : Vec Ideal S1024x16 .f32) (ix2 k l))) :
    θ_run defs (onTc (τ := τ) (main (F := Ideal))) ⟨m, fun _ => 0, ρ⟩ fun r => ∀ c : Dev nD,
      r.2.mem ((c : Thread nD τ).loc main_v9_0) = (fun i => resRow (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (i 0) (i 1) (i 2))
      ∧ r.2.mem ((c : Thread nD τ).loc main_v9_1) = (fun i => plane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (i 0) (i 1) (i 2))
      ∧ r.2.mem ((c : Thread nD τ).loc main_v9_2) = (fun i => aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.2 c).1 13).trans (final13 m c), ((h.2 c).1 14).trans (final14 m c),
      ((h.2 c).1 15).trans (final15 m c (hR c) (hw c)), h.1 c⟩)
    (θ_run_and (frame_of m ρ (dats m) (A_eq m) (Body.run_main m ρ)) (Body.run_main m ρ))

end Cert.FnetIdeal.Block

namespace Cert.FnetRefIdeal.Read

open Cert.FnetRefIdeal Cert.FnetRefIdeal.Gen

/-- The reference's normed rows, of rows `y`. -/
def rows (y : FVec Ideal S8x2048x1024 .f32) (g : FVec Ideal S1024 .f32) (sc sh : FVec Ideal S8x1x1x1024 .f32) : FVec Ideal S8x2048x1024 .f32 :=
  addf (mulf (mulf (mulf y (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S8x1x1024_S8x2048x1024_0_1_2 (addf (broadcastInDim S8x1x1024 ![] bcast_S_S8x1x1024 (constant S_ .f32 0x3F800000#32)) (shapeCast S8x1x1024 sc shapeCasts_S8x1x1x1024_S8x1x1024)))) (broadcastInDim S8x2048x1024 ![0, 1, 2] bcast_S8x1x1024_S8x2048x1024_0_1_2 (shapeCast S8x1x1024 sh shapeCasts_S8x1x1x1024_S8x1x1024))

/-- The rows' products with one half of the channel table, a group of 256 channels at a time. -/
def prod (y : FVec Ideal S8x2048x1024 .f32) (t : FVec Ideal S256x256 .f32) : FVec Ideal S8x2048x4x256 .f32 :=
  Host.dotGeneral dot_S8x2048x4x256_S256x256_S8x2048x4x256_3_0_012_1_n_n none (shapeCast S8x2048x4x256 y shapeCasts_S8x2048x1024_S8x2048x4x256) t

/-- The products along the positions. -/
def along (p : FVec Ideal S8x2048x4x256 .f32) (t : FVec Ideal S2048x2048 .bf16) : FVec Ideal S8x2048x4x256 .f32 :=
  transpose S8x2048x4x256 [0, 3, 1, 2] (Host.dotGeneral dot_S8x2048x4x256_S2048x2048_S8x4x256x2048_1_1_023_0_n_n none p (extf .f32 t bitsLt_bf16_f32)) transposes_S8x4x256x2048_S8x2048x4x256_0_3_1_2

/-- The mixed rows, of normed rows `y`. -/
def mix (y : FVec Ideal S8x2048x1024 .f32) (ch : FVec Ideal S256x512 .bf16) (cs ss : FVec Ideal S2048x2048 .bf16) : FVec Ideal S8x2048x1024 .f32 :=
  shapeCast S8x2048x1024 (mulf (subf (along (prod y (extractStridedSlice S256x256 ![0, 0] (extf .f32 ch bitsLt_bf16_f32) slices_S256x512_S256x256_0_0)) cs)
    (along (prod y (extractStridedSlice S256x256 ![0, 256] (extf .f32 ch bitsLt_bf16_f32) slices_S256x512_S256x256_0_256)) ss))
    (broadcastInDim S8x2048x4x256 ![] bcast_S_S8x2048x4x256 (constant S_ .f32 0x3AB504F3#32))) shapeCasts_S8x2048x4x256_S8x2048x1024

/-- The reference's residual rows, of mixed rows `z`. -/
def add (x : FVec Ideal S8x2048x1024 .f32) (d : FVec Ideal S8x6x1x1024 .f32) (w : FVec Ideal S1024x1024 .f32) (z : FVec Ideal S8x2048x1024 .f32) : FVec Ideal S8x2048x1024 .f32 :=
  addf x (mulf (broadcastInDim S8x2048x1024 ![0, 1, 2] bcast_S8x1x1024_S8x2048x1024_0_1_2 (shapeCast S8x1x1024 (extractStridedSlice S8x1x1x1024 ![0, 2, 0, 0] d slices_S8x6x1x1024_S8x1x1x1024_0_2_0_0) shapeCasts_S8x1x1x1024_S8x1x1024)) (Host.dotGeneral dot_S8x2048x1024_S1024x1024_S8x2048x1024_2_0_01_1_n_n none z w))

/-- The reference's residual rows. -/
def res (x : FVec Ideal S8x2048x1024 .f32) (g : FVec Ideal S1024 .f32) (d : FVec Ideal S8x6x1x1024 .f32) (w : FVec Ideal S1024x1024 .f32) (ch : FVec Ideal S256x512 .bf16) (cs ss : FVec Ideal S2048x2048 .bf16) : FVec Ideal S8x2048x1024 .f32 :=
  add x d w (mix (rows x g (extractStridedSlice S8x1x1x1024 ![0, 1, 0, 0] d slices_S8x6x1x1024_S8x1x1x1024_0_1_0_0) (extractStridedSlice S8x1x1x1024 ![0, 0, 0, 0] d slices_S8x6x1x1024_S8x1x1x1024_0_0_0_0)) ch cs ss)

/-- The reference's affinities, of logits `L`. -/
def soft (L : FVec Ideal S8x2048x16 .f32) : FVec Ideal S8x16x2048 .f32 :=
  transpose S8x16x2048 [0, 2, 1] (Host.divf (Host.exp (subf L (broadcastInDim S8x2048x16 ![0, 1, 2] bcast_S8x2048x1_S8x2048x16_0_1_2 (broadcastInDim S8x2048x1 ![0, 1] bcast_S8x2048_S8x2048x1_0_1 (maximumf (broadcastInDim S8x2048 ![] bcast_S_S8x2048 (constant S_ .f32 0xFF800000#32)) (Host.reduce FloatOps.maximumf L (constant S_ .f32 0xFF800000#32) reducesTo_S8x2048x16_S8x2048_d2 h_S_)))))) (broadcastInDim S8x2048x16 ![0, 1, 2] bcast_S8x2048x1_S8x2048x16_0_1_2 (broadcastInDim S8x2048x1 ![0, 1] bcast_S8x2048_S8x2048x1_0_1 (Host.reduceAdd (Host.exp (subf L (broadcastInDim S8x2048x16 ![0, 1, 2] bcast_S8x2048x1_S8x2048x16_0_1_2 (broadcastInDim S8x2048x1 ![0, 1] bcast_S8x2048_S8x2048x1_0_1 (maximumf (broadcastInDim S8x2048 ![] bcast_S_S8x2048 (constant S_ .f32 0xFF800000#32)) (Host.reduce FloatOps.maximumf L (constant S_ .f32 0xFF800000#32) reducesTo_S8x2048x16_S8x2048_d2 h_S_)))))) (constant S_ .f32 0x00000000#32) reducesTo_S8x2048x16_S8x2048_d2 h_S_)))) transposes_S8x2048x16_S8x16x2048_0_2_1

/-- The normed rows at an index. -/
theorem rows_at (y : FVec Ideal S8x2048x1024 .f32) (g : FVec Ideal S1024 .f32) (sc sh : FVec Ideal S8x1x1x1024 .f32) (b : Fin 8) (s : Fin 2048) (k : Fin 1024) :
    rows y g sc sh (ix3 b s k) = normRow (fun k => y (ix3 b s k)) (fun k => g (ix1 k)) (fun k => sc (ix4 b 0 0 k)) (fun k => sh (ix4 b 0 0 k)) k := by
  pointwise [rows]
  rfl

/-- A group's product at an index. -/
theorem prod_at (y : FVec Ideal S8x2048x1024 .f32) (t : FVec Ideal S256x256 .f32) (b : Fin 8) (s : Fin 2048) (j : Fin 4) (n : Fin 256) :
    prod y t (ix4 b s j n) = ∑ c : Fin 256, y (ix3 b s ⟨256 * j + c, by omega⟩) * t (ix2 c n) := by
  pointwise [prod]
  simp only [Nat.mul_comm 256]

/-- A product along the positions at an index. -/
theorem along_at (p : FVec Ideal S8x2048x4x256 .f32) (t : FVec Ideal S2048x2048 .bf16) (b : Fin 8) (s : Fin 2048) (j : Fin 4) (n : Fin 256) :
    along p t (ix4 b s j n) = ∑ u, t (ix2 s u) * p (ix4 b u j n) := by
  simp only [mul_comm (t _)]
  pointwise [along]

/-- A group of columns of a row as a column of the whole row. -/
theorem join_at (z : FVec Ideal S8x2048x4x256 .f32) (b : Fin 8) (s : Fin 2048) (k : Fin 1024) :
    shapeCast S8x2048x1024 z shapeCasts_S8x2048x4x256_S8x2048x1024 (ix3 b s k) = z (ix4 b s ⟨(k : ℕ) / 256, by omega⟩ ⟨(k : ℕ) % 256, by omega⟩) := by
  pointwise

/-- The mixed rows at an index, of rows `y` whose sequence `b` is `H`. -/
theorem mix_at (y : FVec Ideal S8x2048x1024 .f32) (ch : FVec Ideal S256x512 .bf16) (cs ss : FVec Ideal S2048x2048 .bf16) (b : Fin 8) (s : Fin 2048) (k : Fin 1024) (H : Fin 2048 → Fin 1024 → EReal)
    (hH : ∀ s k, y (ix3 b s k) = H s k) :
    mix y ch cs ss (ix3 b s k)
      = ((∑ u, cs (ix2 s u) * Cert.FnetIdeal.Block.part H (fun c n => ch (ix2 c ⟨n, by omega⟩)) u k)
        - ∑ u, ss (ix2 s u) * Cert.FnetIdeal.Block.part H (fun c n => ch (ix2 c ⟨256 + n, by omega⟩)) u k) * Ideal.ofBits FTy.f32 0x3AB504F3#32 := by
  unfold mix
  rw [join_at]
  change (along _ cs _ - along _ ss _) * _ = _
  rw [along_at, along_at]
  simp only [prod_at, hH]
  have e0 : ∀ c n : Fin 256, extractStridedSlice S256x256 ![0, 0] (extf .f32 ch bitsLt_bf16_f32) slices_S256x512_S256x256_0_0 (ix2 c n) = ch (ix2 c ⟨n, by omega⟩) := fun c n => by
    pointwise
  have e1 : ∀ c n : Fin 256, extractStridedSlice S256x256 ![0, 256] (extf .f32 ch bitsLt_bf16_f32) slices_S256x512_S256x256_0_256 (ix2 c n) = ch (ix2 c ⟨256 + n, by omega⟩) := fun c n => by
    pointwise
  simp only [e0, e1]
  rfl

/-- The residual rows at an index, of mixed rows `z`. -/
theorem add_at (x : FVec Ideal S8x2048x1024 .f32) (d : FVec Ideal S8x6x1x1024 .f32) (w : FVec Ideal S1024x1024 .f32) (z : FVec Ideal S8x2048x1024 .f32) (b : Fin 8) (s : Fin 2048) (k : Fin 1024) :
    add x d w z (ix3 b s k) = x (ix3 b s k) + d (ix4 b 2 0 k) * ∑ i, z (ix3 b s i) * w (ix2 i k) := by
  pointwise [add]

/-- The shift of a sequence. -/
theorem slot0 (d : FVec Ideal S8x6x1x1024 .f32) (b : Fin 8) (k : Fin 1024) :
    extractStridedSlice S8x1x1x1024 ![0, 0, 0, 0] d slices_S8x6x1x1024_S8x1x1x1024_0_0_0_0 (ix4 b 0 0 k) = d (ix4 b 0 0 k) := by
  pointwise

/-- The scale of a sequence. -/
theorem slot1 (d : FVec Ideal S8x6x1x1024 .f32) (b : Fin 8) (k : Fin 1024) :
    extractStridedSlice S8x1x1x1024 ![0, 1, 0, 0] d slices_S8x6x1x1024_S8x1x1x1024_0_1_0_0 (ix4 b 0 0 k) = d (ix4 b 1 0 k) := by
  pointwise

/-- The second shift of a sequence. -/
theorem slot3 (d : FVec Ideal S8x6x1x1024 .f32) (b : Fin 8) (k : Fin 1024) :
    extractStridedSlice S8x1x1x1024 ![0, 3, 0, 0] d slices_S8x6x1x1024_S8x1x1x1024_0_3_0_0 (ix4 b 0 0 k) = d (ix4 b 3 0 k) := by
  pointwise

/-- The second scale of a sequence. -/
theorem slot4 (d : FVec Ideal S8x6x1x1024 .f32) (b : Fin 8) (k : Fin 1024) :
    extractStridedSlice S8x1x1x1024 ![0, 4, 0, 0] d slices_S8x6x1x1024_S8x1x1x1024_0_4_0_0 (ix4 b 0 0 k) = d (ix4 b 4 0 k) := by
  pointwise

/-- The residual rows at an index. -/
theorem res_at (x : FVec Ideal S8x2048x1024 .f32) (g : FVec Ideal S1024 .f32) (d : FVec Ideal S8x6x1x1024 .f32) (w : FVec Ideal S1024x1024 .f32) (ch : FVec Ideal S256x512 .bf16) (cs ss : FVec Ideal S2048x2048 .bf16) (b : Fin 8) (s : Fin 2048) (k : Fin 1024) :
    res x g d w ch cs ss (ix3 b s k) = Cert.FnetIdeal.Block.resRow x g d w ch cs ss b s k := by
  unfold res
  rw [add_at]
  have e := fun i => mix_at (rows x g (extractStridedSlice S8x1x1x1024 ![0, 1, 0, 0] d slices_S8x6x1x1024_S8x1x1x1024_0_1_0_0) (extractStridedSlice S8x1x1x1024 ![0, 0, 0, 0] d slices_S8x6x1x1024_S8x1x1x1024_0_0_0_0)) ch cs ss b s i (Cert.FnetIdeal.Block.inRow x g d b) fun s k => by
    rw [rows_at]
    simp only [slot0, slot1]
    rfl
  simp only [e]
  rfl

/-- The second norm's rows at an index. -/
theorem h_at (x : FVec Ideal S8x2048x1024 .f32) (g : FVec Ideal S1024 .f32) (d : FVec Ideal S8x6x1x1024 .f32) (w : FVec Ideal S1024x1024 .f32) (g2 : FVec Ideal S1024 .f32) (ch : FVec Ideal S256x512 .bf16) (cs ss : FVec Ideal S2048x2048 .bf16) (b : Fin 8) (s : Fin 2048) (k : Fin 1024) :
    (rows (res x g d w ch cs ss) g2 (extractStridedSlice S8x1x1x1024 ![0, 4, 0, 0] d slices_S8x6x1x1024_S8x1x1x1024_0_4_0_0) (extractStridedSlice S8x1x1x1024 ![0, 3, 0, 0] d slices_S8x6x1x1024_S8x1x1x1024_0_3_0_0)) (ix3 b s k) = Cert.FnetIdeal.Block.hRow x g d w g2 ch cs ss b s k := by
  rw [rows_at]
  simp only [slot3, slot4, res_at]
  rfl

/-- The planes at an index, of normed rows `h`. -/
theorem planes_at (h : FVec Ideal S8x2048x1024 .f32) (b : Fin 8) (q : Fin 16384) (l : Fin 128) :
    shapeCast S8x16384x128 h shapeCasts_S8x2048x1024_S8x16384x128 (ix3 b q l)
      = h (ix3 b ⟨(q : ℕ) / 8, by omega⟩ ⟨128 * ((q : ℕ) % 8) + l, by omega⟩) := by
  pointwise
  congr 2
  apply Fin.ext
  dsimp only
  omega

/-- The affinities at an index. -/
theorem soft_at (L : FVec Ideal S8x2048x16 .f32) (b : Fin 8) (e : Fin 16) (s : Fin 2048) :
    soft L (ix3 b e s) = softRow (fun e => L (ix3 b s e)) e := by
  pointwise [soft]
  rw [show Ideal.ofBits FTy.f32 4286578688#32 = ⊥ by simp [Ideal.ofBits, Ideal.ieee]]
  simp only [bot_le, sup_of_le_right]
  rfl

/-- The logits at an index. -/
theorem logits_at (h : FVec Ideal S8x2048x1024 .f32) (rw : FVec Ideal S1024x16 .f32) (b : Fin 8) (s : Fin 2048) (e : Fin 16) :
    Host.dotGeneral dot_S8x2048x1024_S1024x16_S8x2048x16_2_0_01_1_n_n none h rw (ix3 b s e) = ∑ k, h (ix3 b s k) * rw (ix2 k e) := by
  pointwise

/-- The reference's planes are the kernel's. -/
theorem planes_of (x : FVec Ideal S8x2048x1024 .f32) (g : FVec Ideal S1024 .f32) (d : FVec Ideal S8x6x1x1024 .f32) (w : FVec Ideal S1024x1024 .f32) (g2 : FVec Ideal S1024 .f32) (ch : FVec Ideal S256x512 .bf16) (cs ss : FVec Ideal S2048x2048 .bf16) (b : Fin 8) (q : Fin 16384) (l : Fin 128) :
    shapeCast S8x16384x128 (rows (res x g d w ch cs ss) g2 (extractStridedSlice S8x1x1x1024 ![0, 4, 0, 0] d slices_S8x6x1x1024_S8x1x1x1024_0_4_0_0) (extractStridedSlice S8x1x1x1024 ![0, 3, 0, 0] d slices_S8x6x1x1024_S8x1x1x1024_0_3_0_0)) shapeCasts_S8x2048x1024_S8x16384x128 (ix3 b q l)
      = Cert.FnetIdeal.Block.plane x g d w g2 ch cs ss b q l := by
  rw [planes_at, h_at]
  rfl

/-- The reference's affinities are the kernel's. -/
theorem aff_of (x : FVec Ideal S8x2048x1024 .f32) (g : FVec Ideal S1024 .f32) (d : FVec Ideal S8x6x1x1024 .f32) (w : FVec Ideal S1024x1024 .f32) (g2 : FVec Ideal S1024 .f32) (rw : FVec Ideal S1024x16 .f32) (ch : FVec Ideal S256x512 .bf16) (cs ss : FVec Ideal S2048x2048 .bf16) (b : Fin 8) (e : Fin 16) (s : Fin 2048) :
    soft (Host.dotGeneral dot_S8x2048x1024_S1024x16_S8x2048x16_2_0_01_1_n_n none (rows (res x g d w ch cs ss) g2 (extractStridedSlice S8x1x1x1024 ![0, 4, 0, 0] d slices_S8x6x1x1024_S8x1x1x1024_0_4_0_0) (extractStridedSlice S8x1x1x1024 ![0, 3, 0, 0] d slices_S8x6x1x1024_S8x1x1x1024_0_3_0_0)) rw) (ix3 b e s)
      = Cert.FnetIdeal.Block.aff x g d w g2 rw ch cs ss b e s := by
  rw [soft_at]
  simp only [logits_at, h_at]
  rfl

end Cert.FnetRefIdeal.Read

namespace Cert.Pre_finite_fnet.Read

open Cert.Pre_finite_fnet

instance : Subsingleton S_.Idx := ⟨fun a b => funext fun i => i.elim0⟩

variable [Facts]

/-- Where the precondition holds every element of every argument is a real number. -/
theorem decode (x : FVec Ideal S8x2048x1024 .f32) (g : FVec Ideal S1024 .f32) (d : FVec Ideal S8x6x1x1024 .f32) (w : FVec Ideal S1024x1024 .f32) (g2 : FVec Ideal S1024 .f32) (rw : FVec Ideal S1024x16 .f32) (ch : FVec Ideal S256x512 .bf16) (cs ss : FVec Ideal S2048x2048 .bf16)
    (h : fn (F := Ideal) x g d w g2 rw ch cs ss = fun _ => 1#1) :
    (∀ i, IsReal (x i)) ∧ (∀ i, IsReal (g i)) ∧ (∀ i, IsReal (d i)) ∧ (∀ i, IsReal (w i)) ∧ (∀ i, IsReal (g2 i)) ∧ (∀ i, IsReal (rw i))
      ∧ (∀ i, IsReal (ch i)) ∧ (∀ i, IsReal (cs i)) ∧ ∀ i, IsReal (ss i) := by
  have e := congrFun h (fun i => i.elim0)
  unfold fn fn_part1 fn_part2 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real _ _ (fun _ => top32) _ _ _ _ h0,
    all_real _ _ (fun _ => top32) _ _ _ _ h1,
    all_real _ _ (fun _ => top32) _ _ _ _ h2,
    all_real _ _ (fun _ => top32) _ _ _ _ h3,
    all_real _ _ (fun _ => top32) _ _ _ _ h4,
    all_real _ _ (fun _ => top32) _ _ _ _ h5,
    all_real _ _ (fun _ => top16) _ _ _ _ h6,
    all_real _ _ (fun _ => top16) _ _ _ _ h7,
    all_real _ _ (fun _ => top16) _ _ _ _ h8⟩

end Cert.Pre_finite_fnet.Read

namespace Cert.FnetIdeal.Block

open Cert.FnetIdeal Cert.FnetIdeal.Gen Cert.FnetIdeal.Body

/-- The difference of reals is real. -/
theorem sub_real {x y : EReal} : IsReal x → IsReal y → IsReal (x - y) := by
  rintro ⟨a, rfl⟩ ⟨b, rfl⟩
  exact ⟨a - b, (EReal.coe_sub a b).symm⟩

/-- The stated constant is real. -/
theorem const_real : IsReal (Ideal.ofBits FTy.f32 0x3AB504F3#32) := by
  refine ⟨11863283 * (2 : ℝ) ^ (-33 : ℤ), ?_⟩
  simp [Ideal.ofBits, Ideal.ieee]

/-- Products of real rows with a real table are real. -/
theorem part_real (H : Fin 2048 → Fin 1024 → EReal) (t : Fin 256 → Fin 256 → EReal) (hH : ∀ s k, IsReal (H s k)) (ht : ∀ c n, IsReal (t c n))
    (s : Fin 2048) (k : Fin 1024) : IsReal (part H t s k) :=
  IsReal.sum fun c => (hH _ _).mul (ht _ _)

/-- The normed rows of real arrays are real. -/
theorem hRow_real (x : Vec Ideal S8x2048x1024 .f32) (g : Vec Ideal S1024 .f32) (d : Vec Ideal S8x6x1x1024 .f32) (w : Vec Ideal S1024x1024 .f32) (g2 : Vec Ideal S1024 .f32) (ch : Vec Ideal S256x512 .bf16) (cs ss : Vec Ideal S2048x2048 .bf16) (hx : ∀ i, IsReal (x i)) (hg : ∀ i, IsReal (g i)) (hd : ∀ i, IsReal (d i)) (hw : ∀ i, IsReal (w i))
    (hg2 : ∀ i, IsReal (g2 i)) (hch : ∀ i, IsReal (ch i)) (hcs : ∀ i, IsReal (cs i)) (hss : ∀ i, IsReal (ss i)) (b : Fin 8) (s : Fin 2048) (k : Fin 1024) :
    IsReal (hRow x g d w g2 ch cs ss b s k) := by
  have hi : ∀ s k, IsReal (inRow x g d b s k) := fun s k => IsReal.normRow (fun _ => hx _) (fun _ => hg _) (fun _ => hd _) (fun _ => hd _) k
  have hm : ∀ s k, IsReal (mixed x g d ch cs ss b s k) := fun s k =>
    (sub_real (IsReal.sum fun u => (hcs _).mul (part_real _ _ hi (fun _ _ => hch _) u k))
      (IsReal.sum fun u => (hss _).mul (part_real _ _ hi (fun _ _ => hch _) u k))).mul const_real
  exact IsReal.normRow (fun k => (hx _).add ((hd _).mul (IsReal.sum fun i => (hm _ _).mul (hw _)))) (fun _ => hg2 _) (fun _ => hd _) (fun _ => hd _) k

end Cert.FnetIdeal.Block

namespace Cert.Proof

open Cert.FnetIdeal.Block in
/-- Over the extended reals, of arrays of real numbers, the mixer and its reference return the same residual rows, the same planes of normed
    rows and the same affinities. -/
theorem algebraic_FnetIdeal_FnetRefIdeal_pre_finite_fnet [hPre_finite_fnet : Cert.Pre_finite_fnet.Facts] :
    algebraic_FnetIdeal_FnetRefIdeal_pre_finite_fnet := by
  intro m ρ m' ρ' hpre hagree
  have hr := fun c => Cert.Pre_finite_fnet.Read.decode _ _ _ _ _ _ _ _ _ (hpre c)
  refine ⟨_, _, _, run m ρ (fun c b s k => ?_) (fun c k l => (hr c).2.2.2.2.2.1 _), ?_⟩
  · obtain ⟨hx, hg, hd, hw, hg2, -, hch, hcs, hss⟩ := hr c
    exact hRow_real _ _ _ _ _ _ _ _ hx hg hd hw hg2 hch hcs hss b s k
  refine (θ_run Cert.FnetRefIdeal.defs _ _).mono (fun _ h c => ⟨?_, ?_, ?_, (h c).2.2.2⟩) (Cert.FnetRefIdeal.Value.run (F := Ideal) m' ρ')
  all_goals obtain ⟨e0, e1, e2, e3, e4, e5, e6, e7, e8⟩ := hagree c
  · refine (h c).1.trans ?_
    unfold Cert.FnetRefIdeal.Value.res_main_v44
    simp only [← e0, ← e1, ← e2, ← e3, ← e4, ← e5, ← e6, ← e7, ← e8]
    funext i
    obtain ⟨b, s, k, rfl⟩ : ∃ (b : Fin 8) (s : Fin 2048) (k : Fin 1024), i = ix3 b s k := ⟨i 0, i 1, i 2, eq_ix3 i⟩
    exact Cert.FnetRefIdeal.Read.res_at _ _ _ _ _ _ _ b s k
  · refine (h c).2.1.trans ?_
    unfold Cert.FnetRefIdeal.Value.res_main_v81
    simp only [← e0, ← e1, ← e2, ← e3, ← e4, ← e5, ← e6, ← e7, ← e8]
    funext i
    obtain ⟨b, q, l, rfl⟩ : ∃ (b : Fin 8) (q : Fin 16384) (l : Fin 128), i = ix3 b q l := ⟨i 0, i 1, i 2, eq_ix3 i⟩
    exact Cert.FnetRefIdeal.Read.planes_of _ _ _ _ _ _ _ _ b q l
  · refine (h c).2.2.1.trans ?_
    unfold Cert.FnetRefIdeal.Value.res_main_v80
    simp only [← e0, ← e1, ← e2, ← e3, ← e4, ← e5, ← e6, ← e7, ← e8]
    funext i
    obtain ⟨b, e, s, rfl⟩ : ∃ (b : Fin 8) (e : Fin 16) (s : Fin 2048), i = ix3 b e s := ⟨i 0, i 1, i 2, eq_ix3 i⟩
    exact Cert.FnetRefIdeal.Read.aff_of _ _ _ _ _ _ _ _ _ b e s

end Cert.Proof
end
-- ==== Proof.ConvRead.lean ====
module

public import proofs.«01_k».proof.Defs
public import proofs.«01_k».proof.Proof.Gen.AttnConvRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.AttnConvRefIdeal.Read

open Cert.AttnConvRefIdeal Cert.AttnConvRefIdeal.Gen

/-- The gated row `s` of a sequence, feature `n`. -/
def gated (p : Vec Ideal S8x2048x3072 .f32) (b : Fin 8) (n : Fin 512) (s : Fin 2048) : EReal :=
  p (ix3 b s ⟨2048 + n, by omega⟩) * p (ix3 b s ⟨2560 + n, by omega⟩)

/-- A sequence with zeros around it: place `k` holds row `k - 8`, the places before and after the rows zero. -/
def padded (f : Fin 2048 → EReal) (k : ℕ) : EReal :=
  if h : 8 ≤ k ∧ k < 2056 then f ⟨k - 8, by omega⟩ else 0

/-- The convolution's result at sequence `b`, row `s` and feature `n`: the gate's row times the weighted sum of the gated rows before,
    at and after it. -/
def value (p : Vec Ideal S8x2048x3072 .f32) (w : Vec Ideal S3x512 .f32) (b : Fin 8) (s : Fin 2048) (n : Fin 512) : EReal :=
  p (ix3 b s ⟨1536 + n, by omega⟩)
    * ((padded (gated p b n) (7 + s) * w (ix2 0 n) + padded (gated p b n) (8 + s) * w (ix2 1 n)) + padded (gated p b n) (9 + s) * w (ix2 2 n))

/-- The gated rows. -/
def rows (p : FVec Ideal S8x2048x3072 .f32) : FVec Ideal S8x2048x512 .f32 :=
  mulf (extractStridedSlice S8x2048x512 ![0, 0, 2048] p slices_S8x2048x3072_S8x2048x512_0_0_2048) (extractStridedSlice S8x2048x512 ![0, 0, 2560] p slices_S8x2048x3072_S8x2048x512_0_0_2560)

/-- The gated rows at an index. -/
theorem rows_at (p : FVec Ideal S8x2048x3072 .f32) (b : Fin 8) (s : Fin 2048) (n : Fin 512) : rows p (ix3 b s n) = gated p b n s := by
  pointwise [rows]
  rfl

/-- The padding is zero. -/
theorem zero_at (i : S_.Idx) : (sitofp .f32 (constantI S_ 32 0#32) : FVec Ideal S_ .f32) i = 0 := by
  change (((0#32 : BitVec 32).toInt : ℝ) : EReal) = 0
  norm_num

/-- The rows moved down by one. -/
theorem before_at (u : FVec Ideal S8x2048x512 .f32) (b : Fin 8) (s : Fin 2048) (n : Fin 512) :
    (extractStridedSlice S8x2048x512 ![0, 0, 0] (pad S8x2049x512 ![0, 1, 0] ![0, 0, 0] ![0, 0, 0] u (sitofp .f32 (constantI S_ 32 0#32) : FVec Ideal S_ .f32)
      pads_S8x2048x512_S8x2049x512_000_100_000 h_S_) slices_S8x2049x512_S8x2048x512_0_0_0) (ix3 b s n) = padded (fun s => u (ix3 b s n)) (7 + s) := by
  by_cases hs : (s : ℕ) = 0
  · refine (pad_apply_of_not_inside _ _ _ u _ _ _ _ (1 : Fin 3) ?_).trans ?_
    · intro h
      have h1 := h.1
      change 1 ≤ 0 + (s : ℕ) at h1
      omega
    · rw [zero_at, padded, dif_neg (by omega)]
  · rw [padded, dif_pos (by omega)]
    refine pad_apply_of_inside _ _ _ u _ _ _ _ (ix3 b ⟨7 + (s : ℕ) - 8, by omega⟩ n) ?_
    intro a
    match a with
    | 0 => change 0 + (b : ℕ) = 0 + (b : ℕ) * 1; omega
    | 1 => change 0 + (s : ℕ) = 1 + (7 + (s : ℕ) - 8) * 1; omega
    | 2 => change 0 + (n : ℕ) = 0 + (n : ℕ) * 1; omega

/-- The rows moved up by one. -/
theorem after_at (u : FVec Ideal S8x2048x512 .f32) (b : Fin 8) (s : Fin 2048) (n : Fin 512) :
    (extractStridedSlice S8x2048x512 ![0, 1, 0] (pad S8x2049x512 ![0, 0, 0] ![0, 1, 0] ![0, 0, 0] u (sitofp .f32 (constantI S_ 32 0#32) : FVec Ideal S_ .f32)
      pads_S8x2048x512_S8x2049x512_000_010_000 h_S_) slices_S8x2049x512_S8x2048x512_0_1_0) (ix3 b s n) = padded (fun s => u (ix3 b s n)) (9 + s) := by
  by_cases hs : (s : ℕ) = 2047
  · refine (pad_apply_of_not_inside _ _ _ u _ _ _ _ (1 : Fin 3) ?_).trans ?_
    · intro h
      have h1 := h.2.2
      change (1 + (s : ℕ) - 0) / 1 < 2048 at h1
      omega
    · rw [zero_at, padded, dif_neg (by omega)]
  · rw [padded, dif_pos (by omega)]
    refine pad_apply_of_inside _ _ _ u _ _ _ _ (ix3 b ⟨9 + (s : ℕ) - 8, by omega⟩ n) ?_
    intro a
    match a with
    | 0 => change 0 + (b : ℕ) = 0 + (b : ℕ) * 1; omega
    | 1 => change 1 + (s : ℕ) = 0 + (9 + (s : ℕ) - 8) * 1; omega
    | 2 => change 0 + (n : ℕ) = 0 + (n : ℕ) * 1; omega

/-- The reference's result. -/
def term (p : FVec Ideal S8x2048x3072 .f32) (w : FVec Ideal S3x512 .f32) : FVec Ideal S8x2048x512 .bf16 :=
  truncf .bf16 (mulf (extractStridedSlice S8x2048x512 ![0, 0, 1536] p slices_S8x2048x3072_S8x2048x512_0_0_1536) (addf (addf (mulf (extractStridedSlice S8x2048x512 ![0, 0, 0] (pad S8x2049x512 ![0, 1, 0] ![0, 0, 0] ![0, 0, 0] (rows p) (sitofp .f32 (constantI S_ 32 0#32)) pads_S8x2048x512_S8x2049x512_000_100_000 h_S_) slices_S8x2049x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] w slices_S3x512_S1x512_0_0) shapeCasts_S1x512_S512)))) (mulf (rows p) (broadcastInDim S8x2048x512 ![0, 1, 2] bcast_S1x1x512_S8x2048x512_0_1_2 (broadcastInDim S1x1x512 ![2] bcast_S512_S1x1x512_2 (shapeCast _ (extractStridedSlice S1x512 ![1, 0] w slices_S3x512_S1x512_1_0) shapeCasts_S1x512_S512))))) (mulf (extractStridedSlice S8x2048x512 ![0, 1, 0] (pad S8x2049x512 ![0, 0, 0] ![0, 1, 0] ![0, 0, 0] (rows p) (sitofp .f32 (constantI S_ 32 0#32)) pads_S8x2048x512_S8x2049x512_000_010_000 h_S_) slices_S8x2049x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![2, 0] w slices_S3x512_S1x512_2_0) shapeCasts_S1x512_S512)))))) bitsLt_bf16_f32

/-- The reference's result at an index. -/
theorem term_at (p : FVec Ideal S8x2048x3072 .f32) (w : FVec Ideal S3x512 .f32) (b : Fin 8) (s : Fin 2048) (n : Fin 512) :
    term p w (ix3 b s n) = value p w b s n := by
  have hm : padded (gated p b n) (8 + s) = rows p (ix3 b s n) := by
    rw [rows_at, padded, dif_pos (by omega)]
    congr 2
    omega
  have hb := before_at (rows p) b s n
  have ha := after_at (rows p) b s n
  simp only [rows_at] at hb ha
  unfold value
  rw [hm, ← hb, ← ha]
  unfold term
  generalize (extractStridedSlice S8x2048x512 ![0, 0, 0] (pad S8x2049x512 ![0, 1, 0] ![0, 0, 0] ![0, 0, 0] (rows p) (sitofp .f32 (constantI S_ 32 0#32) : FVec Ideal S_ .f32) pads_S8x2048x512_S8x2049x512_000_100_000 h_S_) slices_S8x2049x512_S8x2048x512_0_0_0) = X
  generalize (extractStridedSlice S8x2048x512 ![0, 1, 0] (pad S8x2049x512 ![0, 0, 0] ![0, 1, 0] ![0, 0, 0] (rows p) (sitofp .f32 (constantI S_ 32 0#32) : FVec Ideal S_ .f32) pads_S8x2048x512_S8x2049x512_000_010_000 h_S_) slices_S8x2049x512_S8x2048x512_0_1_0) = Y
  generalize rows p = R
  pointwise

end Cert.AttnConvRefIdeal.Read
end
-- ==== Proof.ConvPad.lean ====
module

public import proofs.«01_k».proof.Proof.Gen.AttnConvIdeal.Skeleton
public import proofs.«01_k».proof.Proof.ConvRead
public import Idealize.ShloMosaic.Lib.Pipeline.ValueKit

@[expose] public section

set_option maxRecDepth 16384

noncomputable section

open Idealize.ShloMosaic Idealize.ShloMosaic.TcCoe Idealize.SL.Sem

namespace Cert.AttnConvIdeal.Block

open Cert.AttnConvIdeal Cert.AttnConvIdeal.Gen Cert.AttnConvRefIdeal.Read

/-- The block that a point stores: the gate's rows times the weighted sum of the three rows. -/
theorem pay_at (a b c : Vec Ideal S2048x128 .f32) (w0 w1 w2 : Vec Ideal S1x128 .f32) (g : Vec Ideal S1x2048x128 .f32) (s : Fin 2048) (n : Fin 128) :
    k0_pay1 (k0_pay1133 a w0 b w1 c w2) g (ix3 0 s n)
      = g (ix3 0 s n) * ((a (ix2 s n) * w0 (ix2 0 n) + b (ix2 s n) * w1 (ix2 0 n)) + c (ix2 s n) * w2 (ix2 0 n)) := by
  pointwise [k0_pay1, k0_pay1133]

/-- The gated rows that a point lays into the buffer. -/
theorem gate_at (x4 x5 : Vec Ideal S1x2048x128 .f32) (s : Fin 2048) (n : Fin 128) :
    k0_pay1132 x4 x5 (ix2 s n) = x4 (ix3 0 s n) * x5 (ix3 0 s n) := by
  pointwise [k0_pay1132]

theorem zero_at (z : S8x128.Idx) : k0_pay1130 (F := Ideal) z = 0 := by
  obtain ⟨r, n, rfl⟩ : ∃ (r : Fin 8) (n : Fin 128), z = ix2 r n := ⟨z 0, z 1, eq_ix2 z⟩
  pointwise [k0_pay1130, k0_pay1129]

theorem zero_at' (z : S8x128.Idx) : k0_pay1131 (F := Ideal) z = 0 := by
  obtain ⟨r, n, rfl⟩ : ∃ (r : Fin 8) (n : Fin 128), z = ix2 r n := ⟨z 0, z 1, eq_ix2 z⟩
  pointwise [k0_pay1131, k0_pay1129]

/-- The stores that fill the buffer, the last first: the gated rows from place 8 on, and zeros after and before them. -/
def stores (x4 x5 : Vec Ideal S1x2048x128 .f32) : List (View.Piece (Elt Ideal) S2064x128 .f32) :=
  [⟨Rect.unit (s := S2064x128) ![8, 0] S2048x128.size inb_S2064x128_S2048x128_8_0, k0_pay1132 x4 x5⟩,
   ⟨Rect.unit (s := S2064x128) ![2056, 0] S8x128.size inb_S2064x128_S8x128_2056_0, k0_pay1131 (F := Ideal)⟩,
   ⟨Rect.unit (s := S2064x128) ![0, 0] S8x128.size inb_S2064x128_S8x128_0_0, k0_pay1130 (F := Ideal)⟩]

/-- The buffer after those stores. -/
theorem buffer_at (x4 x5 : Vec Ideal S1x2048x128 .f32) (z : S2064x128.Idx) :
    View.canon (Val := Elt Ideal) (stores x4 x5) z = padded (fun s => x4 (ix3 0 s (z 1)) * x5 (ix3 0 s (z 1))) (z 0) := by
  refine View.canon_apply_of_pieces (Val := Elt Ideal)
    (e := .f32) (fun z : S2064x128.Idx => padded (fun s => x4 (ix3 0 s (z 1)) * x5 (ix3 0 s (z 1))) (z 0)) _ ?_ z ?_
  · refine List.forall_mem_cons.2 ⟨fun y => ?_, List.forall_mem_cons.2 ⟨fun y => ?_, List.forall_mem_cons.2 ⟨fun y => ?_,
      fun _ hp => absurd hp List.not_mem_nil⟩⟩⟩
    · obtain ⟨r, n, rfl⟩ : ∃ (r : Fin 2048) (n : Fin 128), y = ix2 r n := ⟨y 0, y 1, eq_ix2 y⟩
      have e0 : (((Rect.unit (s := S2064x128) ![8, 0] S2048x128.size inb_S2064x128_S2048x128_8_0).emb (ix2 r n)) 0 : ℕ) = 8 + 1 * r := Rect.emb_apply ..
      have e1 : (((Rect.unit (s := S2064x128) ![8, 0] S2048x128.size inb_S2064x128_S2048x128_8_0).emb (ix2 r n)) 1 : ℕ) = 0 + 1 * n := Rect.emb_apply ..
      have f1 : ((Rect.unit (s := S2064x128) ![8, 0] S2048x128.size inb_S2064x128_S2048x128_8_0).emb (ix2 r n)) 1 = n :=
        Fin.ext (e1.trans (show 0 + 1 * (n : ℕ) = n by omega))
      dsimp only
      rw [e0, f1, padded, dif_pos (by omega), gate_at]
      have er : (⟨8 + 1 * (r : ℕ) - 8, by omega⟩ : Fin 2048) = r := Fin.ext (show 8 + 1 * (r : ℕ) - 8 = r by omega)
      rw [er]
    · obtain ⟨r, n, rfl⟩ : ∃ (r : Fin 8) (n : Fin 128), y = ix2 r n := ⟨y 0, y 1, eq_ix2 y⟩
      have e0 : (((Rect.unit (s := S2064x128) ![2056, 0] S8x128.size inb_S2064x128_S8x128_2056_0).emb (ix2 r n)) 0 : ℕ) = 2056 + 1 * r := Rect.emb_apply ..
      dsimp only
      rw [e0, padded, dif_neg (by omega), zero_at']
    · obtain ⟨r, n, rfl⟩ : ∃ (r : Fin 8) (n : Fin 128), y = ix2 r n := ⟨y 0, y 1, eq_ix2 y⟩
      have e0 : (((Rect.unit (s := S2064x128) ![0, 0] S8x128.size inb_S2064x128_S8x128_0_0).emb (ix2 r n)) 0 : ℕ) = 0 + 1 * r := Rect.emb_apply ..
      dsimp only
      rw [e0, padded, dif_neg (by omega), zero_at]
  · have h0 : (z 0 : ℕ) < 2064 := (z 0).isLt
    have h1 : (z 1 : ℕ) < 128 := (z 1).isLt
    by_cases hlo : (z 0 : ℕ) < 8
    · exact ⟨_, .tail _ (.tail _ (.head _)), (Rect.mem_set_unit (inb := inb_S2064x128_S8x128_0_0)).2 (Fin.forall_fin_two.2 ⟨⟨Nat.zero_le _, by change (z 0 : ℕ) < 0 + 8; omega⟩, ⟨Nat.zero_le _, by change (z 1 : ℕ) < 0 + 128; omega⟩⟩)⟩
    by_cases hhi : (z 0 : ℕ) < 2056
    · exact ⟨_, .head _, (Rect.mem_set_unit (inb := inb_S2064x128_S2048x128_8_0)).2 (Fin.forall_fin_two.2 ⟨⟨by change 8 ≤ (z 0 : ℕ); omega, by change (z 0 : ℕ) < 8 + 2048; omega⟩, ⟨Nat.zero_le _, by change (z 1 : ℕ) < 0 + 128; omega⟩⟩)⟩
    · exact ⟨_, .tail _ (.head _), (Rect.mem_set_unit (inb := inb_S2064x128_S8x128_2056_0)).2 (Fin.forall_fin_two.2 ⟨⟨by change 2056 ≤ (z 0 : ℕ); omega, by change (z 0 : ℕ) < 2056 + 8; omega⟩, ⟨Nat.zero_le _, by change (z 1 : ℕ) < 0 + 128; omega⟩⟩)⟩

/-- A load of the buffer's places from `o` on. -/
theorem load_at {sig : RefSig} {κ : Kind} {sp : Space} (v : View sig κ sp S2064x128 .f32) (x4 x5 : Vec Ideal S1x2048x128 .f32) (o : ℕ) (inb) (s : Fin 2048) (n : Fin 128) :
    (v.readCov (Val := Elt Ideal) (stores x4 x5) (Rect.unit (s := S2064x128) ![o, 0] S2048x128.size inb).toLoadRect : Vec Ideal S2048x128 .f32) (ix2 s n)
      = padded (fun s => x4 (ix3 0 s n) * x5 (ix3 0 s n)) (o + s) := by
  rw [View.readCov_eq_canon']
  dsimp only
  refine (buffer_at x4 x5 _).trans ?_
  have e0 : (((Rect.unit (s := S2064x128) ![o, 0] S2048x128.size inb).emb (ix2 s n)) 0 : ℕ) = o + 1 * s := Rect.emb_apply ..
  have e1 : (((Rect.unit (s := S2064x128) ![o, 0] S2048x128.size inb).emb (ix2 s n)) 1 : ℕ) = 0 + 1 * n := Rect.emb_apply ..
  have f1 : ((Rect.unit (s := S2064x128) ![o, 0] S2048x128.size inb).emb (ix2 s n)) 1 = n :=
    Fin.ext (e1.trans (show 0 + 1 * (n : ℕ) = n by omega))
  have f0 : (((Rect.unit (s := S2064x128) ![o, 0] S2048x128.size inb).emb (ix2 s n)) 0 : ℕ) = o + s := e0.trans (by omega)
  change padded (fun s' => x4 (ix3 0 s' (((Rect.unit (s := S2064x128) ![o, 0] S2048x128.size inb).emb (ix2 s n)) 1))
    * x5 (ix3 0 s' (((Rect.unit (s := S2064x128) ![o, 0] S2048x128.size inb).emb (ix2 s n)) 1))) (((Rect.unit (s := S2064x128) ![o, 0] S2048x128.size inb).emb (ix2 s n)) 0 : ℕ) = _
  rw [f0, f1]

end Cert.AttnConvIdeal.Block
end
-- ==== Proof.AttnConvAlgebraic.lean ====
module

public import proofs.«01_k».proof.Defs
public import proofs.«01_k».proof.Proof.Gen.AttnConvIdeal.Value
public import proofs.«01_k».proof.Proof.ConvPad

@[expose] public section

set_option maxRecDepth 16384

noncomputable section

open Idealize.ShloMosaic Idealize.ShloMosaic.TcCoe Idealize.SL.Sem
open Idealize.ShloMosaic.Pipeline (Dat)

namespace Cert.AttnConvIdeal.Block

open Cert.AttnConvIdeal Cert.AttnConvIdeal.Gen Cert.AttnConvRefIdeal.Read

/-- A row of the convolution's weights. -/
theorem weight_at (k : ℕ) (hk : k < 3) (inb) (x8 : Vec Ideal S3x128 .f32) (n : Fin 128) :
    (View.ld x8 (Rect.unit (s := S3x128) ![k, 0] S1x128.size inb) : Vec Ideal S1x128 .f32) (ix2 0 n) = x8 (ix2 ⟨k, hk⟩ n) := by
  change x8 _ = x8 _
  congr 1
  funext a
  apply Fin.ext
  match a with
  | 0 => exact (Rect.emb_apply ..).trans (by simp)
  | 1 => exact (Rect.emb_apply ..).trans (by simp)

/-- The block that a point leaves of the convolution's result. -/
theorem out_at  (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S2x128 .f32) (harg8 : arg8.IsWhole) (arg9 : Memref sig .tc .vmem S2x3x4x64x384 .f32) (harg9 : arg9.IsWhole) (arg10 : Memref sig .tc .vmem S3x128 .f32) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2x4x512x128 .bf16) (harg15 : arg15.IsWhole) (arg16 : Memref sig .tc .vmem S4x1024x128 .bf16) (harg16 : arg16.IsWhole) (arg17 : Memref sig .tc .vmem S2x4x1024x128 .bf16) (harg17 : arg17.IsWhole) (arg18 : Memref sig .tc .vmem S2064x128 .f32) (harg18 : arg18.IsWhole)
    (x0 : Vec Ideal S1x2048x128 .f32) (x1 : Vec Ideal S1x2048x128 .f32) (x2 : Vec Ideal S1x2048x128 .f32) (x3 : Vec Ideal S1x2048x128 .f32) (x4 : Vec Ideal S1x2048x128 .f32) (x5 : Vec Ideal S1x2048x128 .f32) (x6 : Vec Ideal S2x128 .f32) (x7 : Vec Ideal S2x3x4x64x384 .f32) (x8 : Vec Ideal S3x128 .f32) (s : Fin 2048) (n : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 (ix3 0 s n)
      = x3 (ix3 0 s n) * ((padded (fun s => x4 (ix3 0 s n) * x5 (ix3 0 s n)) (7 + s) * x8 (ix2 0 n)
          + padded (fun s => x4 (ix3 0 s n) * x5 (ix3 0 s n)) (8 + s) * x8 (ix2 1 n))
        + padded (fun s => x4 (ix3 0 s n) * x5 (ix3 0 s n)) (9 + s) * x8 (ix2 2 n)) := by
  frame_out
  refine (pay_at _ _ _ _ _ _ x3 s n).trans ?_
  have h7 := load_at arg18.view x4 x5 7 inb_S2064x128_S2048x128_7_0 s n
  have h8 := load_at arg18.view x4 x5 8 inb_S2064x128_S2048x128_8_0 s n
  have h9 := load_at arg18.view x4 x5 9 inb_S2064x128_S2048x128_9_0 s n
  exact congrArg (x3 (ix3 0 s n) * ·) (congrArg₂ (· + ·)
    (congrArg₂ (· + ·) (congrArg₂ (· * ·) h7 (weight_at 0 (by decide) _ x8 n)) (congrArg₂ (· * ·) h8 (weight_at 1 (by decide) _ x8 n)))
    (congrArg₂ (· * ·) h9 (weight_at 2 (by decide) _ x8 n)))

variable (m : (ℓ : Loc nD τ sig) → Buf (Elt Ideal) ℓ)

/-- Window 3 takes the gate's columns of the point's sequence. -/
theorem idx3 : ∀ t : Fin grid0.N, win0_3.index t 0 = t.val / 4 ∧ win0_3.index t 1 = 0 ∧ win0_3.index t 2 = 12 + t.val % 4 := by decide +kernel
/-- Window 4 takes the first factor's columns. -/
theorem idx4 : ∀ t : Fin grid0.N, win0_4.index t 0 = t.val / 4 ∧ win0_4.index t 1 = 0 ∧ win0_4.index t 2 = 16 + t.val % 4 := by decide +kernel
/-- Window 5 takes the second factor's columns. -/
theorem idx5 : ∀ t : Fin grid0.N, win0_5.index t 0 = t.val / 4 ∧ win0_5.index t 1 = 0 ∧ win0_5.index t 2 = 20 + t.val % 4 := by decide +kernel
/-- Window 8 takes the weights' columns. -/
theorem idx8 : ∀ t : Fin grid0.N, win0_8.index t 0 = 0 ∧ win0_8.index t 1 = t.val % 4 := by decide +kernel
/-- The output's blocks lie by sequence and column group. -/
theorem idx10 : ∀ t : Fin grid0.N, win0_10.index t 0 = t.val / 4 ∧ win0_10.index t 1 = 0 ∧ win0_10.index t 2 = t.val % 4 := by decide +kernel

/-- Block 3 at an index. -/
theorem blk3 (c : Dev nD) (t : Fin cfg0.N) (s : Fin 2048) (n : Fin 128) (b : Fin 8) (N : Fin 3072) (hb : (b : ℕ) = t.val / 4)
    (hN : (N : ℕ) = 128 * (12 + t.val % 4) + n) :
    (iblk m c 3 t : Vec Ideal S1x2048x128 .f32) (ix3 0 s n) = m ((c : Thread nD τ).loc main_arg0) (ix3 b s N) := by
  refine Eq.trans ?_ (congrFun (V_main_arg0 m c) (ix3 b s N))
  blk_point [iblk, idx3 t]

/-- Block 4 at an index. -/
theorem blk4 (c : Dev nD) (t : Fin cfg0.N) (s : Fin 2048) (n : Fin 128) (b : Fin 8) (N : Fin 3072) (hb : (b : ℕ) = t.val / 4)
    (hN : (N : ℕ) = 128 * (16 + t.val % 4) + n) :
    (iblk m c 4 t : Vec Ideal S1x2048x128 .f32) (ix3 0 s n) = m ((c : Thread nD τ).loc main_arg0) (ix3 b s N) := by
  refine Eq.trans ?_ (congrFun (V_main_arg0 m c) (ix3 b s N))
  blk_point [iblk, idx4 t]

/-- Block 5 at an index. -/
theorem blk5 (c : Dev nD) (t : Fin cfg0.N) (s : Fin 2048) (n : Fin 128) (b : Fin 8) (N : Fin 3072) (hb : (b : ℕ) = t.val / 4)
    (hN : (N : ℕ) = 128 * (20 + t.val % 4) + n) :
    (iblk m c 5 t : Vec Ideal S1x2048x128 .f32) (ix3 0 s n) = m ((c : Thread nD τ).loc main_arg0) (ix3 b s N) := by
  refine Eq.trans ?_ (congrFun (V_main_arg0 m c) (ix3 b s N))
  blk_point [iblk, idx5 t]

/-- Block 8 at an index. -/
theorem blk8 (c : Dev nD) (t : Fin cfg0.N) (k : Fin 3) (n : Fin 128) (N : Fin 512) (hN : (N : ℕ) = 128 * (t.val % 4) + n) :
    (iblk m c 8 t : Vec Ideal S3x128 .f32) (ix2 k n) = m ((c : Thread nD τ).loc main_arg3) (ix2 k N) := by
  refine Eq.trans ?_ (congrFun (V_main_arg3 m c) (ix2 k N))
  blk_point [iblk, idx8 t]

/-- A point's block is `value` of the arrays where the block lies. -/
theorem out_value (c : Dev nD) (t : Fin cfg0.N) (y : S1x2048x128.Idx) (b : Fin 8) (s : Fin 2048) (n : Fin 512)
    (hb : (b : ℕ) = t.val / 4) (hs : (s : ℕ) = (y 1 : ℕ)) (hn : (n : ℕ) = 128 * (t.val % 4) + (y 2 : ℕ)) :
    (outsAt0 m c t).2 y = value (m ((c : Thread nD τ).loc main_arg0)) (m ((c : Thread nD τ).loc main_arg3)) b s n := by
  obtain ⟨s', q, rfl⟩ : ∃ (s : Fin 2048) (q : Fin 128), y = ix3 0 s q :=
    ⟨y 1, y 2, (eq_ix3 y).trans (by congr 1; exact Subsingleton.elim (α := Fin 1) _ _)⟩
  obtain rfl : s = s' := Fin.ext hs
  have hn' : (n : ℕ) = 128 * (t.val % 4) + q := hn
  have h3 := fun s => blk3 m c t s q b ⟨1536 + n, by omega⟩ hb (by dsimp only; omega)
  have h4 := fun s => blk4 m c t s q b ⟨2048 + n, by omega⟩ hb (by dsimp only; omega)
  have h5 := fun s => blk5 m c t s q b ⟨2560 + n, by omega⟩ hb (by dsimp only; omega)
  have h8 := fun k => blk8 m c t k q n hn'
  unfold outsAt0
  dsimp only
  rw [out_at]
  unfold value
  simp only [h3, h4, h5, h8]
  rfl

/-- The array the run leaves. -/
theorem final (c : Dev nD) : (dats m 0 c).arrAt 10 (cfgs 0).N
    = fun i => value (m ((c : Thread nD τ).loc main_arg0)) (m ((c : Thread nD τ).loc main_arg3)) (i 0) (i 1) (i 2) := by
  refine (dats m 0 c).arrAt_eq_of_covers 10 _ (by decide +kernel) fun t hf y => ?_
  blk_simp
  rw [after0_10]
  refine out_value m c t y _ _ _ ?_ ?_ ?_
  all_goals (blk_simp [idx10 t] <;> try omega)

/-- The run: the convolution's array is `value` at every index, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3_1) = (fun i => value (m ((c : Thread nD τ).loc main_arg0)) (m ((c : Thread nD τ).loc main_arg3))
        (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).2.1.trans (final m c), (h c).2.2⟩) (Value.run_blocks m ρ)

end Cert.AttnConvIdeal.Block

namespace Cert.Proof

/-- Over the extended reals the kernel's convolution result and its reference are the same array. -/
theorem algebraic_AttnConvIdeal_AttnConvRefIdeal : algebraic_AttnConvIdeal_AttnConvRefIdeal := by
  intro m ρ m' ρ' _ hagree
  refine ⟨_, Cert.AttnConvIdeal.Block.run m ρ, ?_⟩
  refine (θ_run Cert.AttnConvRefIdeal.defs _ _).mono (fun _ h c => ⟨?_, (h c).2⟩) (Cert.AttnConvRefIdeal.Value.run (F := Ideal) m' ρ')
  rw [(h c).1]
  simp only [hagree c]
  funext i
  obtain ⟨b, s, n, rfl⟩ : ∃ (b : Fin 8) (s : Fin 2048) (n : Fin 512), i = ix3 b s n := ⟨i 0, i 1, i 2, eq_ix3 i⟩
  exact Cert.AttnConvRefIdeal.Read.term_at _ _ b s n

end Cert.Proof
end
-- ==== Proof.lean ====
/- The proof of the certificate's claim: each frame is a program's generated frame or its run weakened, and the value claims are
   the theorems of AdalnAlgebraic.lean, BiasAlgebraic.lean, FfnAlgebraic.lean, InProjAlgebraic.lean, OutProjAlgebraic.lean,
   FnetAlgebraic.lean and AttnConvAlgebraic.lean. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnAlgebraic
public import proofs.«01_k».proof.Proof.Gen.InProj.Frame
public import proofs.«01_k».proof.Proof.Gen.InProjIdeal.Value
public import proofs.«01_k».proof.Proof.Gen.InProjRefIdeal.Run
public import proofs.«01_k».proof.Proof.InProjAlgebraic
public import proofs.«01_k».proof.Proof.OutProjFrame
public import proofs.«01_k».proof.Proof.OutProjIdealFrame
public import proofs.«01_k».proof.Proof.Gen.OutProjRefIdeal.Run
public import proofs.«01_k».proof.Proof.Gen.Pre_finite
public import proofs.«01_k».proof.Proof.OutProjAlgebraic
public import proofs.«01_k».proof.Proof.Gen.Adaln
public import proofs.«01_k».proof.Proof.Gen.Adaln.Frame
public import proofs.«01_k».proof.Proof.Gen.AdalnIdeal.Frame
public import proofs.«01_k».proof.Proof.Gen.AdalnIdeal.Value
public import proofs.«01_k».proof.Proof.Gen.AdalnRefIdeal.Run
public import proofs.«01_k».proof.Proof.AdalnAlgebraic
public import proofs.«01_k».proof.Proof.Gen.Bias
public import proofs.«01_k».proof.Proof.Gen.Bias.Frame
public import proofs.«01_k».proof.Proof.Gen.BiasIdeal.Frame
public import proofs.«01_k».proof.Proof.Gen.BiasIdeal.Value
public import proofs.«01_k».proof.Proof.Gen.BiasRefIdeal.Run
public import proofs.«01_k».proof.Proof.Gen.Pre_finite_cols
public import proofs.«01_k».proof.Proof.BiasAlgebraic
public import proofs.«01_k».proof.Proof.FnetFrame
public import proofs.«01_k».proof.Proof.FnetIdealFrame
public import proofs.«01_k».proof.Proof.Gen.FnetRefIdeal.Run
public import proofs.«01_k».proof.Proof.Gen.Pre_finite_fnet
public import proofs.«01_k».proof.Proof.FnetAlgebraic
public import proofs.«01_k».proof.Proof.Gen.AttnConv.Frame
public import proofs.«01_k».proof.Proof.Gen.AttnConvIdeal.Frame
public import proofs.«01_k».proof.Proof.Gen.AttnConvIdeal.Value
public import proofs.«01_k».proof.Proof.Gen.AttnConvRefIdeal.Run
public import proofs.«01_k».proof.Proof.AttnConvAlgebraic
public import Idealize.ShloMosaic.Adequacy
public import Idealize.ShloMosaic.Init
public import Idealize.ShloMosaic.Lib.Quiescent

@[expose] public section

noncomputable section

namespace Cert.Proof

open Idealize.ShloMosaic Idealize.SL.Sem

/-- The reference of the modulation runs from any memory, keeps its arguments and leaves its counters at zero. -/
theorem quiescent_AdalnRefIdeal : quiescent_AdalnRefIdeal := fun m ρ _ =>
  (θ_run Cert.AdalnRefIdeal.defs _ _).mono (fun r h => ⟨fun c => (h c).2, sem_eq_zero_of_no_sems (by decide) r.2⟩)
    (Cert.AdalnRefIdeal.Value.run (F := Ideal) m ρ)

/-- The reference of the bias table runs from any memory, keeps its arguments and leaves its counters at zero. -/
theorem quiescent_BiasRefIdeal : quiescent_BiasRefIdeal := fun m ρ _ =>
  (θ_run Cert.BiasRefIdeal.defs _ _).mono (fun r h => ⟨fun c => (h c).2, sem_eq_zero_of_no_sems (by decide) r.2⟩)
    (Cert.BiasRefIdeal.Value.run (F := Ideal) m ρ)

/-- The reference runs from any memory, keeps its arguments and leaves its counters at zero. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the input projection runs from any memory, keeps its arguments and leaves its counters at zero. -/
theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of the output projection runs from any memory, keeps its arguments and leaves its counters at zero. -/
theorem quiescent_OutProjRefIdeal : quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

/-- The reference of the Fourier mixer runs from any memory, keeps its arguments and leaves its counters at zero. -/
theorem quiescent_FnetRefIdeal : quiescent_FnetRefIdeal := fun m ρ _ =>
  (θ_run Cert.FnetRefIdeal.defs _ _).mono (fun r h => ⟨fun c => (h c).2.2.2, sem_eq_zero_of_no_sems (by decide) r.2⟩)
    (Cert.FnetRefIdeal.Value.run (F := Ideal) m ρ)

/-- The reference of the convolution runs from any memory, keeps its arguments and leaves its counters at zero. -/
theorem quiescent_AttnConvRefIdeal : quiescent_AttnConvRefIdeal := fun m ρ _ =>
  (θ_run Cert.AttnConvRefIdeal.defs _ _).mono (fun r h => ⟨fun c => (h c).2, sem_eq_zero_of_no_sems (by decide) r.2⟩)
    (Cert.AttnConvRefIdeal.Value.run (F := Ideal) m ρ)

/-- All claims of the certificate together. -/
theorem claim : Cert.Claim := ⟨Cert.Adaln.Gen.facts, Cert.AdalnIdeal.Gen.facts, Cert.AdalnRefIdeal.Gen.facts,
  Cert.Bias.Gen.facts, Cert.BiasIdeal.Gen.facts, Cert.BiasRefIdeal.Gen.facts,
  Cert.Ffn.Gen.facts, Cert.FfnIdeal.Gen.facts, Cert.FfnRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.Fnet.Gen.facts, Cert.FnetIdeal.Gen.facts, Cert.FnetRefIdeal.Gen.facts,
  Cert.AttnConv.Gen.facts, Cert.AttnConvIdeal.Gen.facts, Cert.AttnConvRefIdeal.Gen.facts,
  Cert.Pre_finite_cols.Gen.facts, Cert.Pre_finite.Gen.facts, Cert.Pre_finite_fnet.Gen.facts,
  fun m ρ _ => Cert.Adaln.Gen.frame m ρ, fun m ρ _ => Cert.AdalnIdeal.Gen.frame m ρ, quiescent_AdalnRefIdeal,
  fun m ρ _ => Cert.Bias.Gen.frame m ρ, fun m ρ _ => Cert.BiasIdeal.Gen.frame m ρ, fun m ρ _ => Cert.BiasIdeal.Gen.frame m ρ,
  quiescent_BiasRefIdeal, fun m ρ _ => quiescent_BiasRefIdeal m ρ trivial,
  fun m ρ _ => Cert.Ffn.Gen.frame m ρ, fun m ρ _ => Cert.FfnIdeal.Gen.frame m ρ, quiescent_FfnRefIdeal,
  fun m ρ _ => Cert.InProj.Gen.frame m ρ, fun m ρ _ => Cert.InProjIdeal.Gen.frame m ρ, quiescent_InProjRefIdeal,
  fun m ρ _ => Cert.OutProj.Body.frame m ρ, fun m ρ _ => Cert.OutProjIdeal.Body.frame m ρ, fun m ρ _ => Cert.OutProjIdeal.Body.frame m ρ,
  quiescent_OutProjRefIdeal, fun m ρ _ => quiescent_OutProjRefIdeal m ρ trivial,
  fun m ρ _ => Cert.Fnet.Body.frame m ρ, fun m ρ _ => Cert.FnetIdeal.Body.frame m ρ, fun m ρ _ => Cert.FnetIdeal.Body.frame m ρ,
  quiescent_FnetRefIdeal, fun m ρ _ => quiescent_FnetRefIdeal m ρ trivial,
  fun m ρ _ => Cert.AttnConv.Gen.frame m ρ, fun m ρ _ => Cert.AttnConvIdeal.Gen.frame m ρ, quiescent_AttnConvRefIdeal,
  (trivial : preserves_Adaln_AdalnIdeal), algebraic_AdalnIdeal_AdalnRefIdeal,
  (trivial : preserves_Bias_BiasIdeal), algebraic_BiasIdeal_BiasRefIdeal_pre_finite_cols,
  (trivial : preserves_Ffn_FfnIdeal), algebraic_FfnIdeal_FfnRefIdeal,
  (trivial : preserves_InProj_InProjIdeal), algebraic_InProjIdeal_InProjRefIdeal,
  (IdealRules.named_const.statement _ _ _ _ _ rfl : preserves_OutProj_OutProjIdeal), algebraic_OutProjIdeal_OutProjRefIdeal_pre_finite,
  (IdealRules.named_const.statement _ _ _ _ _ rfl : preserves_Fnet_FnetIdeal), algebraic_FnetIdeal_FnetRefIdeal_pre_finite_fnet,
  (trivial : preserves_AttnConv_AttnConvIdeal), algebraic_AttnConvIdeal_AttnConvRefIdeal⟩

end Cert.Proof

end
